-- ==== Defs.lean ====
def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelGrn (m : (ℓ : Loc Cert.KernelGrn.nD Cert.KernelGrn.τ Cert.KernelGrn.sig) → Buf (Elt Bits) ℓ) : Prop :=
  True

def Pre_KernelGrnIdeal (m : (ℓ : Loc Cert.KernelGrnIdeal.nD Cert.KernelGrnIdeal.τ Cert.KernelGrnIdeal.sig) → Buf (Elt Ideal) ℓ) : Prop :=
  True

def Pre_ReferenceGrnIdeal (m : (ℓ : Loc Cert.ReferenceGrnIdeal.nD Cert.ReferenceGrnIdeal.τ Cert.ReferenceGrnIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelGrn [hKernelGrn : Cert.KernelGrn.Facts] : Prop :=
  ∀ (m : (ℓ : Loc Cert.KernelGrn.nD Cert.KernelGrn.τ Cert.KernelGrn.sig) → Buf (Elt Bits) ℓ) (g : Dev Cert.KernelGrn.nD → PrngReg), Pre_KernelGrn m →
    θ_run (Cert.KernelGrn.defs (F := Bits)) (onTc (τ := Cert.KernelGrn.τ) (Cert.KernelGrn.main (F := Bits))) ⟨m, fun _ => 0, g⟩ (fun r => (∀ c : Dev Cert.KernelGrn.nD,
      r.2.mem ((c.tc : Thread Cert.KernelGrn.nD Cert.KernelGrn.τ).loc Cert.KernelGrn.main_arg0) = m ((c.tc : Thread Cert.KernelGrn.nD Cert.KernelGrn.τ).loc Cert.KernelGrn.main_arg0)
      ∧ r.2.mem ((c.tc : Thread Cert.KernelGrn.nD Cert.KernelGrn.τ).loc Cert.KernelGrn.main_arg1) = m ((c.tc : Thread Cert.KernelGrn.nD Cert.KernelGrn.τ).loc Cert.KernelGrn.main_arg1)
      ∧ r.2.mem ((c.tc : Thread Cert.KernelGrn.nD Cert.KernelGrn.τ).loc Cert.KernelGrn.main_arg2) = m ((c.tc : Thread Cert.KernelGrn.nD Cert.KernelGrn.τ).loc Cert.KernelGrn.main_arg2)
      ∧ r.2.mem ((c.tc : Thread Cert.KernelGrn.nD Cert.KernelGrn.τ).loc Cert.KernelGrn.main_arg3) = m ((c.tc : Thread Cert.KernelGrn.nD Cert.KernelGrn.τ).loc Cert.KernelGrn.main_arg3))
      ∧ r.2.sem = fun _ => 0)

def quiescent_KernelGrnIdeal [hKernelGrnIdeal : Cert.KernelGrnIdeal.Facts] : Prop :=
  ∀ (m : (ℓ : Loc Cert.KernelGrnIdeal.nD Cert.KernelGrnIdeal.τ Cert.KernelGrnIdeal.sig) → Buf (Elt Ideal) ℓ) (g : Dev Cert.KernelGrnIdeal.nD → PrngReg), Pre_KernelGrnIdeal m →
    θ_run (Cert.KernelGrnIdeal.defs (F := Ideal)) (onTc (τ := Cert.KernelGrnIdeal.τ) (Cert.KernelGrnIdeal.main (F := Ideal))) ⟨m, fun _ => 0, g⟩ (fun r => (∀ c : Dev Cert.KernelGrnIdeal.nD,
      r.2.mem ((c.tc : Thread Cert.KernelGrnIdeal.nD Cert.KernelGrnIdeal.τ).loc Cert.KernelGrnIdeal.main_arg0) = m ((c.tc : Thread Cert.KernelGrnIdeal.nD Cert.KernelGrnIdeal.τ).loc Cert.KernelGrnIdeal.main_arg0)
      ∧ r.2.mem ((c.tc : Thread Cert.KernelGrnIdeal.nD Cert.KernelGrnIdeal.τ).loc Cert.KernelGrnIdeal.main_arg1) = m ((c.tc : Thread Cert.KernelGrnIdeal.nD Cert.KernelGrnIdeal.τ).loc Cert.KernelGrnIdeal.main_arg1)
      ∧ r.2.mem ((c.tc : Thread Cert.KernelGrnIdeal.nD Cert.KernelGrnIdeal.τ).loc Cert.KernelGrnIdeal.main_arg2) = m ((c.tc : Thread Cert.KernelGrnIdeal.nD Cert.KernelGrnIdeal.τ).loc Cert.KernelGrnIdeal.main_arg2)
      ∧ r.2.mem ((c.tc : Thread Cert.KernelGrnIdeal.nD Cert.KernelGrnIdeal.τ).loc Cert.KernelGrnIdeal.main_arg3) = m ((c.tc : Thread Cert.KernelGrnIdeal.nD Cert.KernelGrnIdeal.τ).loc Cert.KernelGrnIdeal.main_arg3))
      ∧ r.2.sem = fun _ => 0)

def quiescent_ReferenceGrnIdeal [hReferenceGrnIdeal : Cert.ReferenceGrnIdeal.Facts] : Prop :=
  ∀ (m : (ℓ : Loc Cert.ReferenceGrnIdeal.nD Cert.ReferenceGrnIdeal.τ Cert.ReferenceGrnIdeal.sig) → Buf (Elt Ideal) ℓ) (g : Dev Cert.ReferenceGrnIdeal.nD → PrngReg), Pre_ReferenceGrnIdeal m →
    θ_run (Cert.ReferenceGrnIdeal.defs (F := Ideal)) (onTc (τ := Cert.ReferenceGrnIdeal.τ) (Cert.ReferenceGrnIdeal.main (F := Ideal))) ⟨m, fun _ => 0, g⟩ (fun r => (∀ c : Dev Cert.ReferenceGrnIdeal.nD,
      r.2.mem ((c.tc : Thread Cert.ReferenceGrnIdeal.nD Cert.ReferenceGrnIdeal.τ).loc Cert.ReferenceGrnIdeal.main_arg0) = m ((c.tc : Thread Cert.ReferenceGrnIdeal.nD Cert.ReferenceGrnIdeal.τ).loc Cert.ReferenceGrnIdeal.main_arg0)
      ∧ r.2.mem ((c.tc : Thread Cert.ReferenceGrnIdeal.nD Cert.ReferenceGrnIdeal.τ).loc Cert.ReferenceGrnIdeal.main_arg1) = m ((c.tc : Thread Cert.ReferenceGrnIdeal.nD Cert.ReferenceGrnIdeal.τ).loc Cert.ReferenceGrnIdeal.main_arg1)
      ∧ r.2.mem ((c.tc : Thread Cert.ReferenceGrnIdeal.nD Cert.ReferenceGrnIdeal.τ).loc Cert.ReferenceGrnIdeal.main_arg2) = m ((c.tc : Thread Cert.ReferenceGrnIdeal.nD Cert.ReferenceGrnIdeal.τ).loc Cert.ReferenceGrnIdeal.main_arg2)
      ∧ r.2.mem ((c.tc : Thread Cert.ReferenceGrnIdeal.nD Cert.ReferenceGrnIdeal.τ).loc Cert.ReferenceGrnIdeal.main_arg3) = m ((c.tc : Thread Cert.ReferenceGrnIdeal.nD Cert.ReferenceGrnIdeal.τ).loc Cert.ReferenceGrnIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)) →
    ∃ (v0 : (c : Dev Cert.KernelLnIdeal.nD) → Buf (Elt Ideal) ((c.tc : Thread Cert.KernelLnIdeal.nD Cert.KernelLnIdeal.τ).loc Cert.KernelLnIdeal.main_v4_0)) (v1 : (c : Dev Cert.KernelLnIdeal.nD) → Buf (Elt Ideal) ((c.tc : Thread Cert.KernelLnIdeal.nD Cert.KernelLnIdeal.τ).loc Cert.KernelLnIdeal.main_v4_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v4_0) = v0 c
          ∧ r.2.mem ((c.tc : Thread Cert.KernelLnIdeal.nD Cert.KernelLnIdeal.τ).loc Cert.KernelLnIdeal.main_v4_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v2_0) = v0 c
          ∧ r.2.mem ((c.tc : Thread Cert.ReferenceLnIdeal.nD Cert.ReferenceLnIdeal.τ).loc Cert.ReferenceLnIdeal.main_v2_1) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2))

def preserves_KernelUp_KernelUpIdeal : Prop :=
  IdealRules.named_const.Statement Cert.KernelUpIdeal.κ "sqrt_half" .f32 0x3F3504F3#32 ((Real.sqrt (1 / 2) : ℝ) : EReal)

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v4_0)) (v1 : (c : Dev Cert.KernelUpIdeal.nD) → Buf (Elt Ideal) ((c.tc : Thread Cert.KernelUpIdeal.nD Cert.KernelUpIdeal.τ).loc Cert.KernelUpIdeal.main_v4_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_0) = v0 c
          ∧ r.2.mem ((c.tc : Thread Cert.KernelUpIdeal.nD Cert.KernelUpIdeal.τ).loc Cert.KernelUpIdeal.main_v4_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4_0) = v0 c
          ∧ r.2.mem ((c.tc : Thread Cert.ReferenceUpIdeal.nD Cert.ReferenceUpIdeal.τ).loc Cert.ReferenceUpIdeal.main_v4_1) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelGrn_KernelGrnIdeal : Prop :=
  IdealRules.named_const.Statement Cert.KernelGrnIdeal.κ "sqrt_half" .f32 0x3F3504F3#32 ((Real.sqrt (1 / 2) : ℝ) : EReal)

def algebraic_KernelGrnIdeal_ReferenceGrnIdeal [hKernelGrnIdeal : Cert.KernelGrnIdeal.Facts] [hReferenceGrnIdeal : Cert.ReferenceGrnIdeal.Facts] : Prop :=
  ∀ (m : (ℓ : Loc Cert.KernelGrnIdeal.nD Cert.KernelGrnIdeal.τ Cert.KernelGrnIdeal.sig) → Buf (Elt Ideal) ℓ) (g : Dev Cert.KernelGrnIdeal.nD → PrngReg)
    (m' : (ℓ : Loc Cert.ReferenceGrnIdeal.nD Cert.ReferenceGrnIdeal.τ Cert.ReferenceGrnIdeal.sig) → Buf (Elt Ideal) ℓ) (g' : Dev Cert.ReferenceGrnIdeal.nD → PrngReg), Pre_KernelGrnIdeal m →
    (∀ c : Dev Cert.KernelGrnIdeal.nD,
      m' ((c.tc : Thread Cert.ReferenceGrnIdeal.nD Cert.ReferenceGrnIdeal.τ).loc Cert.ReferenceGrnIdeal.main_arg0) = m ((c.tc : Thread Cert.KernelGrnIdeal.nD Cert.KernelGrnIdeal.τ).loc Cert.KernelGrnIdeal.main_arg0)
      ∧ m' ((c.tc : Thread Cert.ReferenceGrnIdeal.nD Cert.ReferenceGrnIdeal.τ).loc Cert.ReferenceGrnIdeal.main_arg1) = m ((c.tc : Thread Cert.KernelGrnIdeal.nD Cert.KernelGrnIdeal.τ).loc Cert.KernelGrnIdeal.main_arg1)
      ∧ m' ((c.tc : Thread Cert.ReferenceGrnIdeal.nD Cert.ReferenceGrnIdeal.τ).loc Cert.ReferenceGrnIdeal.main_arg2) = m ((c.tc : Thread Cert.KernelGrnIdeal.nD Cert.KernelGrnIdeal.τ).loc Cert.KernelGrnIdeal.main_arg2)
      ∧ m' ((c.tc : Thread Cert.ReferenceGrnIdeal.nD Cert.ReferenceGrnIdeal.τ).loc Cert.ReferenceGrnIdeal.main_arg3) = m ((c.tc : Thread Cert.KernelGrnIdeal.nD Cert.KernelGrnIdeal.τ).loc Cert.KernelGrnIdeal.main_arg3)) →
    ∃ (v0 : (c : Dev Cert.KernelGrnIdeal.nD) → Buf (Elt Ideal) ((c.tc : Thread Cert.KernelGrnIdeal.nD Cert.KernelGrnIdeal.τ).loc Cert.KernelGrnIdeal.main_v2_0)) (v1 : (c : Dev Cert.KernelGrnIdeal.nD) → Buf (Elt Ideal) ((c.tc : Thread Cert.KernelGrnIdeal.nD Cert.KernelGrnIdeal.τ).loc Cert.KernelGrnIdeal.main_v2_1)),
      θ_run (Cert.KernelGrnIdeal.defs (F := Ideal)) (onTc (τ := Cert.KernelGrnIdeal.τ) (Cert.KernelGrnIdeal.main (F := Ideal))) ⟨m, fun _ => 0, g⟩ (fun r => ∀ c : Dev Cert.KernelGrnIdeal.nD,
          r.2.mem ((c.tc : Thread Cert.KernelGrnIdeal.nD Cert.KernelGrnIdeal.τ).loc Cert.KernelGrnIdeal.main_v2_0) = v0 c
          ∧ r.2.mem ((c.tc : Thread Cert.KernelGrnIdeal.nD Cert.KernelGrnIdeal.τ).loc Cert.KernelGrnIdeal.main_v2_1) = v1 c
          ∧ r.2.mem ((c.tc : Thread Cert.KernelGrnIdeal.nD Cert.KernelGrnIdeal.τ).loc Cert.KernelGrnIdeal.main_arg0) = m ((c.tc : Thread Cert.KernelGrnIdeal.nD Cert.KernelGrnIdeal.τ).loc Cert.KernelGrnIdeal.main_arg0)
          ∧ r.2.mem ((c.tc : Thread Cert.KernelGrnIdeal.nD Cert.KernelGrnIdeal.τ).loc Cert.KernelGrnIdeal.main_arg1) = m ((c.tc : Thread Cert.KernelGrnIdeal.nD Cert.KernelGrnIdeal.τ).loc Cert.KernelGrnIdeal.main_arg1)
          ∧ r.2.mem ((c.tc : Thread Cert.KernelGrnIdeal.nD Cert.KernelGrnIdeal.τ).loc Cert.KernelGrnIdeal.main_arg2) = m ((c.tc : Thread Cert.KernelGrnIdeal.nD Cert.KernelGrnIdeal.τ).loc Cert.KernelGrnIdeal.main_arg2)
          ∧ r.2.mem ((c.tc : Thread Cert.KernelGrnIdeal.nD Cert.KernelGrnIdeal.τ).loc Cert.KernelGrnIdeal.main_arg3) = m ((c.tc : Thread Cert.KernelGrnIdeal.nD Cert.KernelGrnIdeal.τ).loc Cert.KernelGrnIdeal.main_arg3))
      ∧ θ_run (Cert.ReferenceGrnIdeal.defs (F := Ideal)) (onTc (τ := Cert.ReferenceGrnIdeal.τ) (Cert.ReferenceGrnIdeal.main (F := Ideal))) ⟨m', fun _ => 0, g'⟩ (fun r => ∀ c : Dev Cert.ReferenceGrnIdeal.nD,
          r.2.mem ((c.tc : Thread Cert.ReferenceGrnIdeal.nD Cert.ReferenceGrnIdeal.τ).loc Cert.ReferenceGrnIdeal.main_v2_0) = v0 c
          ∧ r.2.mem ((c.tc : Thread Cert.ReferenceGrnIdeal.nD Cert.ReferenceGrnIdeal.τ).loc Cert.ReferenceGrnIdeal.main_v2_1) = v1 c
          ∧ r.2.mem ((c.tc : Thread Cert.ReferenceGrnIdeal.nD Cert.ReferenceGrnIdeal.τ).loc Cert.ReferenceGrnIdeal.main_arg0) = m' ((c.tc : Thread Cert.ReferenceGrnIdeal.nD Cert.ReferenceGrnIdeal.τ).loc Cert.ReferenceGrnIdeal.main_arg0)
          ∧ r.2.mem ((c.tc : Thread Cert.ReferenceGrnIdeal.nD Cert.ReferenceGrnIdeal.τ).loc Cert.ReferenceGrnIdeal.main_arg1) = m' ((c.tc : Thread Cert.ReferenceGrnIdeal.nD Cert.ReferenceGrnIdeal.τ).loc Cert.ReferenceGrnIdeal.main_arg1)
          ∧ r.2.mem ((c.tc : Thread Cert.ReferenceGrnIdeal.nD Cert.ReferenceGrnIdeal.τ).loc Cert.ReferenceGrnIdeal.main_arg2) = m' ((c.tc : Thread Cert.ReferenceGrnIdeal.nD Cert.ReferenceGrnIdeal.τ).loc Cert.ReferenceGrnIdeal.main_arg2)
          ∧ r.2.mem ((c.tc : Thread Cert.ReferenceGrnIdeal.nD Cert.ReferenceGrnIdeal.τ).loc Cert.ReferenceGrnIdeal.main_arg3) = m' ((c.tc : Thread Cert.ReferenceGrnIdeal.nD Cert.ReferenceGrnIdeal.τ).loc Cert.ReferenceGrnIdeal.main_arg3))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelLn : Cert.KernelLn.Facts) (hKernelLnIdeal : Cert.KernelLnIdeal.Facts) (hReferenceLnIdeal : Cert.ReferenceLnIdeal.Facts) (hKernelUp : Cert.KernelUp.Facts) (hKernelUpIdeal : Cert.KernelUpIdeal.Facts) (hReferenceUpIdeal : Cert.ReferenceUpIdeal.Facts) (hKernelGrn : Cert.KernelGrn.Facts) (hKernelGrnIdeal : Cert.KernelGrnIdeal.Facts) (hReferenceGrnIdeal : Cert.ReferenceGrnIdeal.Facts) (hKernel : Cert.Kernel.Facts) (hKernelIdeal : Cert.KernelIdeal.Facts) (hReferenceIdeal : Cert.ReferenceIdeal.Facts),
    quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelGrn (hKernelGrn := hKernelGrn)
    ∧ quiescent_KernelGrnIdeal (hKernelGrnIdeal := hKernelGrnIdeal)
    ∧ quiescent_ReferenceGrnIdeal (hReferenceGrnIdeal := hReferenceGrnIdeal)
    ∧ quiescent_Kernel (hKernel := hKernel)
    ∧ quiescent_KernelIdeal (hKernelIdeal := hKernelIdeal)
    ∧ quiescent_ReferenceIdeal (hReferenceIdeal := hReferenceIdeal)
    ∧ preserves_KernelLn_KernelLnIdeal
    ∧ algebraic_KernelLnIdeal_ReferenceLnIdeal (hKernelLnIdeal := hKernelLnIdeal) (hReferenceLnIdeal := hReferenceLnIdeal)
    ∧ preserves_KernelUp_KernelUpIdeal
    ∧ algebraic_KernelUpIdeal_ReferenceUpIdeal (hKernelUpIdeal := hKernelUpIdeal) (hReferenceUpIdeal := hReferenceUpIdeal)
    ∧ preserves_KernelGrn_KernelGrnIdeal
    ∧ algebraic_KernelGrnIdeal_ReferenceGrnIdeal (hKernelGrnIdeal := hKernelGrnIdeal) (hReferenceGrnIdeal := hReferenceGrnIdeal)
    ∧ preserves_Kernel_KernelIdeal
    ∧ algebraic_KernelIdeal_ReferenceIdeal (hKernelIdeal := hKernelIdeal) (hReferenceIdeal := hReferenceIdeal)
-- ==== KernelLn.lean ====
abbrev S6x256x1024 : Shape := ⟨3, ![6, 256, 1024]⟩
abbrev S1024 : Shape := ⟨1, ![1024]⟩
abbrev S6x256x8x128 : Shape := ⟨4, ![6, 256, 8, 128]⟩
abbrev S6x8x256x128 : Shape := ⟨4, ![6, 8, 256, 128]⟩
abbrev S1x1024 : Shape := ⟨2, ![1, 1024]⟩
abbrev S6x256 : Shape := ⟨2, ![6, 256]⟩
abbrev S1x8x256x128 : Shape := ⟨4, ![1, 8, 256, 128]⟩
abbrev S1x256x1024 : Shape := ⟨3, ![1, 256, 1024]⟩
abbrev S256x128 : Shape := ⟨2, ![256, 128]⟩
abbrev S1x1x32x128 : Shape := ⟨4, ![1, 1, 32, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1x32x128 : Shape := ⟨3, ![1, 32, 128]⟩
abbrev S6x128 : Shape := ⟨2, ![6, 128]⟩
abbrev S128x128 : Shape := ⟨2, ![128, 128]⟩
abbrev S128 : Shape := ⟨1, ![128]⟩

abbrev nBuf : Space → Nat
  | .hbm => 9
  | .vmem => 8
  | .smem => 0
  | _ => 0

abbrev bufTy : (tb : Table) → Fin (tcTables nBuf tb) → BufTy
  | .hbm, ⟨0, _⟩ => ⟨S6x256x1024, .f32⟩
  | .hbm, ⟨1, _⟩ => ⟨S1024, .f32⟩
  | .hbm, ⟨2, _⟩ => ⟨S1024, .f32⟩
  | .hbm, ⟨3, _⟩ => ⟨S6x256x8x128, .f32⟩
  | .hbm, ⟨4, _⟩ => ⟨S6x8x256x128, .f32⟩
  | .hbm, ⟨5, _⟩ => ⟨S1x1024, .f32⟩
  | .hbm, ⟨6, _⟩ => ⟨S1x1024, .f32⟩
  | .hbm, ⟨7, _⟩ => ⟨S6x256x1024, .fp8e4m3⟩
  | .hbm, ⟨8, _⟩ => ⟨S6x256, .f32⟩
  | .local _ .vmem, ⟨0, _⟩ => ⟨S1x8x256x128, .f32⟩
  | .local _ .vmem, ⟨1, _⟩ => ⟨S1x8x256x128, .f32⟩
  | .local _ .vmem, ⟨2, _⟩ => ⟨S1x1024, .f32⟩
  | .local _ .vmem, ⟨3, _⟩ => ⟨S1x1024, .f32⟩
  | .local _ .vmem, ⟨4, _⟩ => ⟨S1x256x1024, .fp8e4m3⟩
  | .local _ .vmem, ⟨5, _⟩ => ⟨S1x256x1024, .fp8e4m3⟩
  | .local _ .vmem, ⟨6, _⟩ => ⟨S6x256, .f32⟩
  | .local _ .vmem, ⟨7, _⟩ => ⟨S256x128, .f32⟩
  | _, _ => ⟨S6x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  v35
def k0_off1 (k0_t1 : Fin k0_t1_loop.trips) : Fin 4 → Nat :=
  let c0_16 : Index := 0#32
  let c0_17 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v37 : Index := Scalar.indexCast v36
  let c0_18 : Index := 0#32
  ![0, 0, v37.toNat, 0]
def k0_off2 (k0_t1 : Fin k0_t1_loop.trips) : Fin 4 → Nat :=
  let c0_19 : Index := 0#32
  let c1 : Index := 1#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v40 : Index := Scalar.indexCast v36
  let c0_20 : Index := 0#32
  ![0, 1, v40.toNat, 0]
def k0_off3 (k0_t1 : Fin k0_t1_loop.trips) : Fin 4 → Nat :=
  let c0_21 : Index := 0#32
  let c2 : Index := 2#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v43 : Index := Scalar.indexCast v36
  let c0_22 : Index := 0#32
  ![0, 2, v43.toNat, 0]
def k0_off4 (k0_t1 : Fin k0_t1_loop.trips) : Fin 4 → Nat :=
  let c0_23 : Index := 0#32
  let c3 : Index := 3#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v46 : Index := Scalar.indexCast v36
  let c0_24 : Index := 0#32
  ![0, 3, v46.toNat, 0]
def k0_off5 (k0_t1 : Fin k0_t1_loop.trips) : Fin 4 → Nat :=
  let c0_25 : Index := 0#32
  let c4 : Index := 4#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v49 : Index := Scalar.indexCast v36
  let c0_26 : Index := 0#32
  ![0, 4, v49.toNat, 0]
def k0_off6 (k0_t1 : Fin k0_t1_loop.trips) : Fin 4 → Nat :=
  let c0_27 : Index := 0#32
  let c5 : Index := 5#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v52 : Index := Scalar.indexCast v36
  let c0_28 : Index := 0#32
  ![0, 5, v52.toNat, 0]
def k0_off7 (k0_t1 : Fin k0_t1_loop.trips) : Fin 4 → Nat :=
  let c0_29 : Index := 0#32
  let c6 : Index := 6#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v55 : Index := Scalar.indexCast v36
  let c0_30 : Index := 0#32
  ![0, 6, v55.toNat, 0]
def k0_off8 (k0_t1 : Fin k0_t1_loop.trips) : Fin 4 → Nat :=
  let c0_31 : Index := 0#32
  let c7 : Index := 7#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v58 : Index := Scalar.indexCast v36
  let c0_32 : Index := 0#32
  ![0, 7, v58.toNat, 0]
def k0_off9 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v254 : Index := Scalar.indexCast v36
  let c0_79 : Index := 0#32
  ![v254.toNat, 0]
def k0_off10 (k0_t1 : Fin k0_t1_loop.trips) : Fin 3 → Nat :=
  let c0_82 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v264 : Index := Scalar.indexCast v36
  let c0_83 : Index := 0#32
  ![0, v264.toNat, 0]
def k0_off11 (k0_t1 : Fin k0_t1_loop.trips) : Fin 3 → Nat :=
  let c0_86 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v274 : Index := Scalar.indexCast v36
  let c128_87 : Index := 128#32
  ![0, v274.toNat, 128]
def k0_off12 (k0_t1 : Fin k0_t1_loop.trips) : Fin 3 → Nat :=
  let c0_90 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v284 : Index := Scalar.indexCast v36
  let c256_91 : Index := 256#32
  ![0, v284.toNat, 256]
def k0_off13 (k0_t1 : Fin k0_t1_loop.trips) : Fin 3 → Nat :=
  let c0_94 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v294 : Index := Scalar.indexCast v36
  let c384_95 : Index := 384#32
  ![0, v294.toNat, 384]
def k0_off14 (k0_t1 : Fin k0_t1_loop.trips) : Fin 3 → Nat :=
  let c0_98 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v304 : Index := Scalar.indexCast v36
  let c512_99 : Index := 512#32
  ![0, v304.toNat, 512]
def k0_off15 (k0_t1 : Fin k0_t1_loop.trips) : Fin 3 → Nat :=
  let c0_102 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v314 : Index := Scalar.indexCast v36
  let c640_103 : Index := 640#32
  ![0, v314.toNat, 640]
def k0_off16 (k0_t1 : Fin k0_t1_loop.trips) : Fin 3 → Nat :=
  let c0_106 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v324 : Index := Scalar.indexCast v36
  let c768_107 : Index := 768#32
  ![0, v324.toNat, 768]
def k0_off17 (k0_t1 : Fin k0_t1_loop.trips) : Fin 3 → Nat :=
  let c0_110 : Index := 0#32
  let c0_i32_1 : BitVec 32 := 0#32
  let c1_i32 : BitVec 32 := 1#32
  let arg7 : BitVec 32 := Scf.iv c0_i32_1 c1_i32 k0_t1
  let c32_i32 : BitVec 32 := 32#32
  let v35 : BitVec 32 := Scalar.muli arg7 c32_i32
  let v36 : BitVec 32 := v35
  let v334 : Index := Scalar.indexCast v36
  let c896_111 : Index := 896#32
  ![0, v334.toNat, 896]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceLnIdeal.lean ====
abbrev S6x256x1024 : Shape := ⟨3, ![6, 256, 1024]⟩
abbrev S1024 : Shape := ⟨1, ![1024]⟩
abbrev S1x1x1024 : Shape := ⟨3, ![1, 1, 1024]⟩
abbrev S6x256 : Shape := ⟨2, ![6, 256]⟩
abbrev S6x256x1 : Shape := ⟨3, ![6, 256, 1]⟩

abbrev nBuf : Space → Nat
  | .hbm => 7
  | .vmem => 5
  | .smem => 0
  | _ => 0

abbrev bufTy : (tb : Table) → Fin (tcTables nBuf tb) → BufTy
  | .hbm, ⟨0, _⟩ => ⟨S6x256x1024, .f32⟩
  | .hbm, ⟨1, _⟩ => ⟨S1024, .f32⟩
  | .hbm, ⟨2, _⟩ => ⟨S1024, .f32⟩
  | .hbm, ⟨3, _⟩ => ⟨S1x1x1024, .f32⟩
  | .hbm, ⟨4, _⟩ => ⟨S1x1x1024, .f32⟩
  | .hbm, ⟨5, _⟩ => ⟨S6x256x1024, .fp8e4m3⟩
  | .hbm, ⟨6, _⟩ => ⟨S6x256, .f32⟩
  | .local _ .vmem, ⟨0, _⟩ => ⟨S6x256x1024, .f32⟩
  | .local _ .vmem, ⟨1, _⟩ => ⟨S1x1x1024, .f32⟩
  | .local _ .vmem, ⟨2, _⟩ => ⟨S1x1x1024, .f32⟩
  | .local _ .vmem, ⟨3, _⟩ => ⟨S6x256x1024, .fp8e4m3⟩
  | .local _ .vmem, ⟨4, _⟩ => ⟨S6x256, .f32⟩
  | _, _ => ⟨S6x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelUp.lean ====
abbrev S6x256x1024 : Shape := ⟨3, ![6, 256, 1024]⟩
abbrev S6x256 : Shape := ⟨2, ![6, 256]⟩
abbrev S1024x4096 : Shape := ⟨2, ![1024, 4096]⟩
abbrev S4096 : Shape := ⟨1, ![4096]⟩
abbrev S1536x1 : Shape := ⟨2, ![1536, 1]⟩
abbrev S1536x128 : Shape := ⟨2, ![1536, 128]⟩
abbrev S1x4096 : Shape := ⟨2, ![1, 4096]⟩
abbrev S1536x4096 : Shape := ⟨2, ![1536, 4096]⟩
abbrev S6x1x4096 : Shape := ⟨3, ![6, 1, 4096]⟩
abbrev S1x256x1024 : Shape := ⟨3, ![1, 256, 1024]⟩
abbrev S256x128 : Shape := ⟨2, ![256, 128]⟩
abbrev S256x4096 : Shape := ⟨2, ![256, 4096]⟩
abbrev S1x1x4096 : Shape := ⟨3, ![1, 1, 4096]⟩
abbrev S256x1024 : Shape := ⟨2, ![256, 1024]⟩
abbrev S1024x512 : Shape := ⟨2, ![1024, 512]⟩
abbrev S256x512 : Shape := ⟨2, ![256, 512]⟩
abbrev S1x128 : Shape := ⟨2, ![1, 128]⟩
abbrev S8x128 : Shape := ⟨2, ![8, 128]⟩
abbrev S128 : Shape := ⟨1, ![128]⟩
abbrev S1x1x128 : Shape := ⟨3, ![1, 1, 128]⟩

abbrev nBuf : Space → Nat
  | .hbm => 11
  | .vmem => 13
  | .smem => 0
  | _ => 0

abbrev bufTy : (tb : Table) → Fin (tcTables nBuf tb) → BufTy
  | .hbm, ⟨0, _⟩ => ⟨S6x256x1024, .fp8e4m3⟩
  | .hbm, ⟨1, _⟩ => ⟨S6x256, .f32⟩
  | .hbm, ⟨2, _⟩ => ⟨S1024x4096, .fp8e4m3⟩
  | .hbm, ⟨3, _⟩ => ⟨S4096, .f32⟩
  | .hbm, ⟨4, _⟩ => ⟨S4096, .f32⟩
  | .hbm, ⟨5, _⟩ => ⟨S1536x1, .f32⟩
  | .hbm, ⟨6, _⟩ => ⟨S1536x128, .f32⟩
  | .hbm, ⟨7, _⟩ => ⟨S1x4096, .f32⟩
  | .hbm, ⟨8, _⟩ => ⟨S1x4096, .f32⟩
  | .hbm, ⟨9, _⟩ => ⟨S1536x4096, .f32⟩
  | .hbm, ⟨10, _⟩ => ⟨S6x1x4096, .f32⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S256x128, .f32⟩
  | .local _ .vmem, ⟨3, _⟩ => ⟨S256x128, .f32⟩
  | .local _ .vmem, ⟨4, _⟩ => ⟨S1024x4096, .fp8e4m3⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x4096, .f32⟩
  | .local _ .vmem, ⟨12, _⟩ => ⟨S1x4096, .f32⟩
  | _, _ => ⟨S6x256x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  v4
def k0_off1 (k0_t1 : Fin k0_t1_loop.trips) : Fin 2 → Nat :=
  let c0_5 : Index := 0#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v8 : Index := Scalar.indexCast v5
  ![0, v8.toNat]
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let c0_i32_6 : BitVec 32 := 0#32
  let v11 : BitVec 32 := Scalar.addi v5 c0_i32_6
  v11
def k0_off2 (k0_t1 : Fin k0_t1_loop.trips) (c0_i32_6 : BitVec 32) : Fin 2 → Nat :=
  let c0_7 : Index := 0#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v13 : Index := Scalar.indexCast v12
  ![0, v13.toNat]
def k0_off3 (k0_t1 : Fin k0_t1_loop.trips) (c0_i32_6 : BitVec 32) : Fin 2 → Nat :=
  let c0_11 : Index := 0#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v28 : Index := Scalar.indexCast v12
  ![0, v28.toNat]
def k0_off4 (k0_t1 : Fin k0_t1_loop.trips) (c0_i32_6 : BitVec 32) : Fin 2 → Nat :=
  let c8_13 : Index := 8#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v42 : Index := Scalar.indexCast v12
  ![8, v42.toNat]
def k0_off5 (k0_t1 : Fin k0_t1_loop.trips) (c0_i32_6 : BitVec 32) : Fin 2 → Nat :=
  let c16_15 : Index := 16#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v57 : Index := Scalar.indexCast v12
  ![16, v57.toNat]
def k0_off6 (k0_t1 : Fin k0_t1_loop.trips) (c0_i32_6 : BitVec 32) : Fin 2 → Nat :=
  let c24_17 : Index := 24#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v72 : Index := Scalar.indexCast v12
  ![24, v72.toNat]
def k0_off7 (k0_t1 : Fin k0_t1_loop.trips) (c0_i32_6 : BitVec 32) : Fin 2 → Nat :=
  let c32_19 : Index := 32#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v87 : Index := Scalar.indexCast v12
  ![32, v87.toNat]
def k0_off8 (k0_t1 : Fin k0_t1_loop.trips) (c0_i32_6 : BitVec 32) : Fin 2 → Nat :=
  let c40_21 : Index := 40#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v102 : Index := Scalar.indexCast v12
  ![40, v102.toNat]
def k0_off9 (k0_t1 : Fin k0_t1_loop.trips) (c0_i32_6 : BitVec 32) : Fin 2 → Nat :=
  let c48_23 : Index := 48#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v117 : Index := Scalar.indexCast v12
  ![48, v117.toNat]
def k0_off10 (k0_t1 : Fin k0_t1_loop.trips) (c0_i32_6 : BitVec 32) : Fin 2 → Nat :=
  let c56_25 : Index := 56#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v132 : Index := Scalar.indexCast v12
  ![56, v132.toNat]
def k0_off11 (k0_t1 : Fin k0_t1_loop.trips) (c0_i32_6 : BitVec 32) : Fin 2 → Nat :=
  let c64_27 : Index := 64#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v147 : Index := Scalar.indexCast v12
  ![64, v147.toNat]
def k0_off12 (k0_t1 : Fin k0_t1_loop.trips) (c0_i32_6 : BitVec 32) : Fin 2 → Nat :=
  let c72_29 : Index := 72#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v162 : Index := Scalar.indexCast v12
  ![72, v162.toNat]
def k0_off13 (k0_t1 : Fin k0_t1_loop.trips) (c0_i32_6 : BitVec 32) : Fin 2 → Nat :=
  let c80_31 : Index := 80#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v177 : Index := Scalar.indexCast v12
  ![80, v177.toNat]
def k0_off14 (k0_t1 : Fin k0_t1_loop.trips) (c0_i32_6 : BitVec 32) : Fin 2 → Nat :=
  let c88_33 : Index := 88#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v192 : Index := Scalar.indexCast v12
  ![88, v192.toNat]
def k0_off15 (k0_t1 : Fin k0_t1_loop.trips) (c0_i32_6 : BitVec 32) : Fin 2 → Nat :=
  let c96_35 : Index := 96#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v207 : Index := Scalar.indexCast v12
  ![96, v207.toNat]
def k0_off16 (k0_t1 : Fin k0_t1_loop.trips) (c0_i32_6 : BitVec 32) : Fin 2 → Nat :=
  let c104_37 : Index := 104#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v222 : Index := Scalar.indexCast v12
  ![104, v222.toNat]
def k0_off17 (k0_t1 : Fin k0_t1_loop.trips) (c0_i32_6 : BitVec 32) : Fin 2 → Nat :=
  let c112_39 : Index := 112#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v237 : Index := Scalar.indexCast v12
  ![112, v237.toNat]
def k0_off18 (k0_t1 : Fin k0_t1_loop.trips) (c0_i32_6 : BitVec 32) : Fin 2 → Nat :=
  let c120_41 : Index := 120#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v252 : Index := Scalar.indexCast v12
  ![120, v252.toNat]
def k0_off19 (k0_t1 : Fin k0_t1_loop.trips) (c0_i32_6 : BitVec 32) : Fin 2 → Nat :=
  let c128_43 : Index := 128#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v267 : Index := Scalar.indexCast v12
  ![128, v267.toNat]
def k0_off20 (k0_t1 : Fin k0_t1_loop.trips) (c0_i32_6 : BitVec 32) : Fin 2 → Nat :=
  let c136_45 : Index := 136#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v282 : Index := Scalar.indexCast v12
  ![136, v282.toNat]
def k0_off21 (k0_t1 : Fin k0_t1_loop.trips) (c0_i32_6 : BitVec 32) : Fin 2 → Nat :=
  let c144_47 : Index := 144#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v297 : Index := Scalar.indexCast v12
  ![144, v297.toNat]
def k0_off22 (k0_t1 : Fin k0_t1_loop.trips) (c0_i32_6 : BitVec 32) : Fin 2 → Nat :=
  let c152_49 : Index := 152#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v312 : Index := Scalar.indexCast v12
  ![152, v312.toNat]
def k0_off23 (k0_t1 : Fin k0_t1_loop.trips) (c0_i32_6 : BitVec 32) : Fin 2 → Nat :=
  let c160_51 : Index := 160#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v327 : Index := Scalar.indexCast v12
  ![160, v327.toNat]
def k0_off24 (k0_t1 : Fin k0_t1_loop.trips) (c0_i32_6 : BitVec 32) : Fin 2 → Nat :=
  let c168_53 : Index := 168#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v342 : Index := Scalar.indexCast v12
  ![168, v342.toNat]
def k0_off25 (k0_t1 : Fin k0_t1_loop.trips) (c0_i32_6 : BitVec 32) : Fin 2 → Nat :=
  let c176_55 : Index := 176#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v357 : Index := Scalar.indexCast v12
  ![176, v357.toNat]
def k0_off26 (k0_t1 : Fin k0_t1_loop.trips) (c0_i32_6 : BitVec 32) : Fin 2 → Nat :=
  let c184_57 : Index := 184#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v372 : Index := Scalar.indexCast v12
  ![184, v372.toNat]
def k0_off27 (k0_t1 : Fin k0_t1_loop.trips) (c0_i32_6 : BitVec 32) : Fin 2 → Nat :=
  let c192_59 : Index := 192#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v387 : Index := Scalar.indexCast v12
  ![192, v387.toNat]
def k0_off28 (k0_t1 : Fin k0_t1_loop.trips) (c0_i32_6 : BitVec 32) : Fin 2 → Nat :=
  let c200_61 : Index := 200#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v402 : Index := Scalar.indexCast v12
  ![200, v402.toNat]
def k0_off29 (k0_t1 : Fin k0_t1_loop.trips) (c0_i32_6 : BitVec 32) : Fin 2 → Nat :=
  let c208_63 : Index := 208#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v417 : Index := Scalar.indexCast v12
  ![208, v417.toNat]
def k0_off30 (k0_t1 : Fin k0_t1_loop.trips) (c0_i32_6 : BitVec 32) : Fin 2 → Nat :=
  let c216_65 : Index := 216#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v432 : Index := Scalar.indexCast v12
  ![216, v432.toNat]
def k0_off31 (k0_t1 : Fin k0_t1_loop.trips) (c0_i32_6 : BitVec 32) : Fin 2 → Nat :=
  let c224_67 : Index := 224#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v447 : Index := Scalar.indexCast v12
  ![224, v447.toNat]
def k0_off32 (k0_t1 : Fin k0_t1_loop.trips) (c0_i32_6 : BitVec 32) : Fin 2 → Nat :=
  let c232_69 : Index := 232#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v462 : Index := Scalar.indexCast v12
  ![232, v462.toNat]
def k0_off33 (k0_t1 : Fin k0_t1_loop.trips) (c0_i32_6 : BitVec 32) : Fin 2 → Nat :=
  let c240_71 : Index := 240#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v477 : Index := Scalar.indexCast v12
  ![240, v477.toNat]
def k0_off34 (k0_t1 : Fin k0_t1_loop.trips) (c0_i32_6 : BitVec 32) : Fin 2 → Nat :=
  let c248_73 : Index := 248#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v492 : Index := Scalar.indexCast v12
  ![248, v492.toNat]
def k0_off35 (k0_t1 : Fin k0_t1_loop.trips) (c0_i32_6 : BitVec 32) : Fin 3 → Nat :=
  let c0_75 : Index := 0#32
  let c0_76 : Index := 0#32
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let v11 : BitVec 32 := Scalar.addi v5 c0_i32_6
  let v12 : BitVec 32 := v11
  let v498 : Index := Scalar.indexCast v12
  ![0, 0, v498.toNat]
def k0_mult3 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let c128_i32 : BitVec 32 := 128#32
  let v502 : BitVec 32 := Scalar.addi v5 c128_i32
  v502
def k0_mult4 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let c256_i32 : BitVec 32 := 256#32
  let v993 : BitVec 32 := Scalar.addi v5 c256_i32
  v993
def k0_mult5 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c512_i32 : BitVec 32 := 512#32
  let v4 : BitVec 32 := Scalar.muli arg10 c512_i32
  let v5 : BitVec 32 := v4
  let c384_i32 : BitVec 32 := 384#32
  let v1484 : BitVec 32 := Scalar.addi v5 c384_i32
  v1484
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelUpIdeal.lean ====
variable {F : FTy → Type} [FloatOps F] [Named F]
def κ : String → Option EReal := fun
  | "sqrt_half" => some ((Real.sqrt (1 / 2) : ℝ) : EReal)
  | _ => none
-- ==== ReferenceUpIdeal.lean ====
abbrev S6x256x1024 : Shape := ⟨3, ![6, 256, 1024]⟩
abbrev S6x256 : Shape := ⟨2, ![6, 256]⟩
abbrev S1024x4096 : Shape := ⟨2, ![1024, 4096]⟩
abbrev S4096 : Shape := ⟨1, ![4096]⟩
abbrev S1536x1024 : Shape := ⟨2, ![1536, 1024]⟩
abbrev S1536x1 : Shape := ⟨2, ![1536, 1]⟩
abbrev S1x4096 : Shape := ⟨2, ![1, 4096]⟩
abbrev S1536x4096 : Shape := ⟨2, ![1536, 4096]⟩
abbrev S6x1x4096 : Shape := ⟨3, ![6, 1, 4096]⟩
abbrev S6x256x4096 : Shape := ⟨3, ![6, 256, 4096]⟩
abbrev S6x4096 : Shape := ⟨2, ![6, 4096]⟩

abbrev nBuf : Space → Nat
  | .hbm => 11
  | .vmem => 7
  | .smem => 0
  | _ => 0

abbrev bufTy : (tb : Table) → Fin (tcTables nBuf tb) → BufTy
  | .hbm, ⟨0, _⟩ => ⟨S6x256x1024, .fp8e4m3⟩
  | .hbm, ⟨1, _⟩ => ⟨S6x256, .f32⟩
  | .hbm, ⟨2, _⟩ => ⟨S1024x4096, .fp8e4m3⟩
  | .hbm, ⟨3, _⟩ => ⟨S4096, .f32⟩
  | .hbm, ⟨4, _⟩ => ⟨S4096, .f32⟩
  | .hbm, ⟨5, _⟩ => ⟨S1536x1024, .fp8e4m3⟩
  | .hbm, ⟨6, _⟩ => ⟨S1536x1, .f32⟩
  | .hbm, ⟨7, _⟩ => ⟨S1x4096, .f32⟩
  | .hbm, ⟨8, _⟩ => ⟨S1x4096, .f32⟩
  | .hbm, ⟨9, _⟩ => ⟨S1536x4096, .f32⟩
  | .hbm, ⟨10, _⟩ => ⟨S6x1x4096, .f32⟩
  | .local _ .vmem, ⟨0, _⟩ => ⟨S1536x1024, .fp8e4m3⟩
  | .local _ .vmem, ⟨1, _⟩ => ⟨S1536x1, .f32⟩
  | .local _ .vmem, ⟨2, _⟩ => ⟨S1024x4096, .fp8e4m3⟩
  | .local _ .vmem, ⟨3, _⟩ => ⟨S1x4096, .f32⟩
  | .local _ .vmem, ⟨4, _⟩ => ⟨S1x4096, .f32⟩
  | .local _ .vmem, ⟨5, _⟩ => ⟨S1536x4096, .f32⟩
  | .local _ .vmem, ⟨6, _⟩ => ⟨S6x1x4096, .f32⟩
  | _, _ => ⟨S6x256x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelGrn.lean ====
abbrev S1536x4096 : Shape := ⟨2, ![1536, 4096]⟩
abbrev S6x1x4096 : Shape := ⟨3, ![6, 1, 4096]⟩
abbrev S4096 : Shape := ⟨1, ![4096]⟩
abbrev S1x4096 : Shape := ⟨2, ![1, 4096]⟩
abbrev S6x256x4096 : Shape := ⟨3, ![6, 256, 4096]⟩
abbrev S6x256 : Shape := ⟨2, ![6, 256]⟩
abbrev S256x4096 : Shape := ⟨2, ![256, 4096]⟩
abbrev S1x1x4096 : Shape := ⟨3, ![1, 1, 4096]⟩
abbrev S1x256x4096 : Shape := ⟨3, ![1, 256, 4096]⟩
abbrev S256x128 : Shape := ⟨2, ![256, 128]⟩
abbrev S1 : Shape := ⟨1, ![1]⟩
abbrev S1x1 : Shape := ⟨2, ![1, 1]⟩
abbrev S1x128 : Shape := ⟨2, ![1, 128]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S6x128 : Shape := ⟨2, ![6, 128]⟩
abbrev S128x128 : Shape := ⟨2, ![128, 128]⟩
abbrev S128 : Shape := ⟨1, ![128]⟩

abbrev nBuf : Space → Nat
  | .hbm => 8
  | .vmem => 13
  | .smem => 0
  | _ => 0

abbrev bufTy : (tb : Table) → Fin (tcTables nBuf tb) → BufTy
  | .hbm, ⟨0, _⟩ => ⟨S1536x4096, .f32⟩
  | .hbm, ⟨1, _⟩ => ⟨S6x1x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S6x256x4096, .fp8e4m3⟩
  | .hbm, ⟨7, _⟩ => ⟨S6x256, .f32⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x4096, .f32⟩
  | .local _ .vmem, ⟨5, _⟩ => ⟨S1x4096, .f32⟩
  | .local _ .vmem, ⟨6, _⟩ => ⟨S1x256x4096, .fp8e4m3⟩
  | .local _ .vmem, ⟨7, _⟩ => ⟨S1x256x4096, .fp8e4m3⟩
  | .local _ .vmem, ⟨8, _⟩ => ⟨S6x256, .f32⟩
  | .local _ .vmem, ⟨9, _⟩ => ⟨S256x128, .f32⟩
  | .local _ .vmem, ⟨10, _⟩ => ⟨S1x4096, .f32⟩
  | .local _ .vmem, ⟨11, _⟩ => ⟨S256x128, .f32⟩
  | .local _ .vmem, ⟨12, _⟩ => ⟨S256x4096, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32_19 : BitVec 32 := 0#32
  let c32_i32 : BitVec 32 := 32#32
  let v34 : BitVec 32 := Scalar.addi c0_i32_19 c32_i32
  let c1_i32 : BitVec 32 := 1#32
  ⟨c0_i32_19, v34, c1_i32⟩
def k0_mult1 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  v67
def k0_off1 (k0_t1 : Fin k0_t1_loop.trips) : Fin 2 → Nat :=
  let c0_39 : Index := 0#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v69 : Index := Scalar.indexCast v68
  ![0, v69.toNat]
def k0_off2 (k0_t1 : Fin k0_t1_loop.trips) : Fin 2 → Nat :=
  let c0_41 : Index := 0#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v74 : Index := Scalar.indexCast v68
  ![0, v74.toNat]
def k0_off3 (k0_t1 : Fin k0_t1_loop.trips) : Fin 2 → Nat :=
  let c8 : Index := 8#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v90 : Index := Scalar.indexCast v68
  ![8, v90.toNat]
def k0_off4 (k0_t1 : Fin k0_t1_loop.trips) : Fin 2 → Nat :=
  let c16 : Index := 16#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v106 : Index := Scalar.indexCast v68
  ![16, v106.toNat]
def k0_off5 (k0_t1 : Fin k0_t1_loop.trips) : Fin 2 → Nat :=
  let c24 : Index := 24#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v122 : Index := Scalar.indexCast v68
  ![24, v122.toNat]
def k0_off6 (k0_t1 : Fin k0_t1_loop.trips) : Fin 2 → Nat :=
  let c32 : Index := 32#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v138 : Index := Scalar.indexCast v68
  ![32, v138.toNat]
def k0_off7 (k0_t1 : Fin k0_t1_loop.trips) : Fin 2 → Nat :=
  let c40 : Index := 40#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v154 : Index := Scalar.indexCast v68
  ![40, v154.toNat]
def k0_off8 (k0_t1 : Fin k0_t1_loop.trips) : Fin 2 → Nat :=
  let c48 : Index := 48#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v170 : Index := Scalar.indexCast v68
  ![48, v170.toNat]
def k0_off9 (k0_t1 : Fin k0_t1_loop.trips) : Fin 2 → Nat :=
  let c56 : Index := 56#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v186 : Index := Scalar.indexCast v68
  ![56, v186.toNat]
def k0_off10 (k0_t1 : Fin k0_t1_loop.trips) : Fin 2 → Nat :=
  let c64 : Index := 64#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v202 : Index := Scalar.indexCast v68
  ![64, v202.toNat]
def k0_off11 (k0_t1 : Fin k0_t1_loop.trips) : Fin 2 → Nat :=
  let c72 : Index := 72#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v218 : Index := Scalar.indexCast v68
  ![72, v218.toNat]
def k0_off12 (k0_t1 : Fin k0_t1_loop.trips) : Fin 2 → Nat :=
  let c80 : Index := 80#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v234 : Index := Scalar.indexCast v68
  ![80, v234.toNat]
def k0_off13 (k0_t1 : Fin k0_t1_loop.trips) : Fin 2 → Nat :=
  let c88 : Index := 88#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v250 : Index := Scalar.indexCast v68
  ![88, v250.toNat]
def k0_off14 (k0_t1 : Fin k0_t1_loop.trips) : Fin 2 → Nat :=
  let c96 : Index := 96#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v266 : Index := Scalar.indexCast v68
  ![96, v266.toNat]
def k0_off15 (k0_t1 : Fin k0_t1_loop.trips) : Fin 2 → Nat :=
  let c104 : Index := 104#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v282 : Index := Scalar.indexCast v68
  ![104, v282.toNat]
def k0_off16 (k0_t1 : Fin k0_t1_loop.trips) : Fin 2 → Nat :=
  let c112 : Index := 112#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v298 : Index := Scalar.indexCast v68
  ![112, v298.toNat]
def k0_off17 (k0_t1 : Fin k0_t1_loop.trips) : Fin 2 → Nat :=
  let c120 : Index := 120#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v314 : Index := Scalar.indexCast v68
  ![120, v314.toNat]
def k0_off18 (k0_t1 : Fin k0_t1_loop.trips) : Fin 2 → Nat :=
  let c128_122 : Index := 128#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v330 : Index := Scalar.indexCast v68
  ![128, v330.toNat]
def k0_off19 (k0_t1 : Fin k0_t1_loop.trips) : Fin 2 → Nat :=
  let c136 : Index := 136#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v346 : Index := Scalar.indexCast v68
  ![136, v346.toNat]
def k0_off20 (k0_t1 : Fin k0_t1_loop.trips) : Fin 2 → Nat :=
  let c144 : Index := 144#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v362 : Index := Scalar.indexCast v68
  ![144, v362.toNat]
def k0_off21 (k0_t1 : Fin k0_t1_loop.trips) : Fin 2 → Nat :=
  let c152 : Index := 152#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v378 : Index := Scalar.indexCast v68
  ![152, v378.toNat]
def k0_off22 (k0_t1 : Fin k0_t1_loop.trips) : Fin 2 → Nat :=
  let c160 : Index := 160#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v394 : Index := Scalar.indexCast v68
  ![160, v394.toNat]
def k0_off23 (k0_t1 : Fin k0_t1_loop.trips) : Fin 2 → Nat :=
  let c168 : Index := 168#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v410 : Index := Scalar.indexCast v68
  ![168, v410.toNat]
def k0_off24 (k0_t1 : Fin k0_t1_loop.trips) : Fin 2 → Nat :=
  let c176 : Index := 176#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v426 : Index := Scalar.indexCast v68
  ![176, v426.toNat]
def k0_off25 (k0_t1 : Fin k0_t1_loop.trips) : Fin 2 → Nat :=
  let c184 : Index := 184#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v442 : Index := Scalar.indexCast v68
  ![184, v442.toNat]
def k0_off26 (k0_t1 : Fin k0_t1_loop.trips) : Fin 2 → Nat :=
  let c192 : Index := 192#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v458 : Index := Scalar.indexCast v68
  ![192, v458.toNat]
def k0_off27 (k0_t1 : Fin k0_t1_loop.trips) : Fin 2 → Nat :=
  let c200 : Index := 200#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v474 : Index := Scalar.indexCast v68
  ![200, v474.toNat]
def k0_off28 (k0_t1 : Fin k0_t1_loop.trips) : Fin 2 → Nat :=
  let c208 : Index := 208#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v490 : Index := Scalar.indexCast v68
  ![208, v490.toNat]
def k0_off29 (k0_t1 : Fin k0_t1_loop.trips) : Fin 2 → Nat :=
  let c216 : Index := 216#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v506 : Index := Scalar.indexCast v68
  ![216, v506.toNat]
def k0_off30 (k0_t1 : Fin k0_t1_loop.trips) : Fin 2 → Nat :=
  let c224 : Index := 224#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v522 : Index := Scalar.indexCast v68
  ![224, v522.toNat]
def k0_off31 (k0_t1 : Fin k0_t1_loop.trips) : Fin 2 → Nat :=
  let c232 : Index := 232#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v538 : Index := Scalar.indexCast v68
  ![232, v538.toNat]
def k0_off32 (k0_t1 : Fin k0_t1_loop.trips) : Fin 2 → Nat :=
  let c240 : Index := 240#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v554 : Index := Scalar.indexCast v68
  ![240, v554.toNat]
def k0_off33 (k0_t1 : Fin k0_t1_loop.trips) : Fin 2 → Nat :=
  let c248 : Index := 248#32
  let c0_i32_19 : BitVec 32 := 0#32
  let c1_i32 : BitVec 32 := 1#32
  let arg11 : BitVec 32 := Scf.iv c0_i32_19 c1_i32 k0_t1
  let c128_i32 : BitVec 32 := 128#32
  let v67 : BitVec 32 := Scalar.muli arg11 c128_i32
  let v68 : BitVec 32 := v67
  let v570 : Index := Scalar.indexCast v68
  ![248, v570.toNat]
@[reducible] def k0_t2_loop : Scf.Loop 32 :=
  let c0_i32_21 : BitVec 32 := 0#32
  let c8_i32 : BitVec 32 := 8#32
  let v35 : BitVec 32 := Scalar.addi c0_i32_21 c8_i32
  let c1_i32_22 : BitVec 32 := 1#32
  ⟨c0_i32_21, v35, c1_i32_22⟩
def k0_mult2 (k0_t2 : Fin k0_t2_loop.trips) : BitVec 32 :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  v67
def k0_off34 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v69 : Index := Scalar.indexCast v68
  let c0_40 : Index := 0#32
  ![v69.toNat, 0]
def k0_off35 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v124 : Index := Scalar.indexCast v68
  let c0_57 : Index := 0#32
  ![v124.toNat, 0]
def k0_off36 (k0_t2 : Fin k0_t2_loop.trips) : Fin 3 → Nat :=
  let c0_60 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v132 : Index := Scalar.indexCast v68
  let c0_61 : Index := 0#32
  ![0, v132.toNat, 0]
def k0_off37 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v136 : Index := Scalar.indexCast v68
  let c128_62 : Index := 128#32
  ![v136.toNat, 128]
def k0_off38 (k0_t2 : Fin k0_t2_loop.trips) : Fin 3 → Nat :=
  let c0_65 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v144 : Index := Scalar.indexCast v68
  let c128_66 : Index := 128#32
  ![0, v144.toNat, 128]
def k0_off39 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v148 : Index := Scalar.indexCast v68
  let c256 : Index := 256#32
  ![v148.toNat, 256]
def k0_off40 (k0_t2 : Fin k0_t2_loop.trips) : Fin 3 → Nat :=
  let c0_69 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v156 : Index := Scalar.indexCast v68
  let c256_70 : Index := 256#32
  ![0, v156.toNat, 256]
def k0_off41 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v160 : Index := Scalar.indexCast v68
  let c384 : Index := 384#32
  ![v160.toNat, 384]
def k0_off42 (k0_t2 : Fin k0_t2_loop.trips) : Fin 3 → Nat :=
  let c0_73 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v168 : Index := Scalar.indexCast v68
  let c384_74 : Index := 384#32
  ![0, v168.toNat, 384]
def k0_off43 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v172 : Index := Scalar.indexCast v68
  let c512 : Index := 512#32
  ![v172.toNat, 512]
def k0_off44 (k0_t2 : Fin k0_t2_loop.trips) : Fin 3 → Nat :=
  let c0_77 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v180 : Index := Scalar.indexCast v68
  let c512_78 : Index := 512#32
  ![0, v180.toNat, 512]
def k0_off45 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v184 : Index := Scalar.indexCast v68
  let c640 : Index := 640#32
  ![v184.toNat, 640]
def k0_off46 (k0_t2 : Fin k0_t2_loop.trips) : Fin 3 → Nat :=
  let c0_81 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v192 : Index := Scalar.indexCast v68
  let c640_82 : Index := 640#32
  ![0, v192.toNat, 640]
def k0_off47 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v196 : Index := Scalar.indexCast v68
  let c768 : Index := 768#32
  ![v196.toNat, 768]
def k0_off48 (k0_t2 : Fin k0_t2_loop.trips) : Fin 3 → Nat :=
  let c0_85 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v204 : Index := Scalar.indexCast v68
  let c768_86 : Index := 768#32
  ![0, v204.toNat, 768]
def k0_off49 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v208 : Index := Scalar.indexCast v68
  let c896 : Index := 896#32
  ![v208.toNat, 896]
def k0_off50 (k0_t2 : Fin k0_t2_loop.trips) : Fin 3 → Nat :=
  let c0_89 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v216 : Index := Scalar.indexCast v68
  let c896_90 : Index := 896#32
  ![0, v216.toNat, 896]
def k0_off51 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v220 : Index := Scalar.indexCast v68
  let c1024 : Index := 1024#32
  ![v220.toNat, 1024]
def k0_off52 (k0_t2 : Fin k0_t2_loop.trips) : Fin 3 → Nat :=
  let c0_93 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v228 : Index := Scalar.indexCast v68
  let c1024_94 : Index := 1024#32
  ![0, v228.toNat, 1024]
def k0_off53 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v232 : Index := Scalar.indexCast v68
  let c1152 : Index := 1152#32
  ![v232.toNat, 1152]
def k0_off54 (k0_t2 : Fin k0_t2_loop.trips) : Fin 3 → Nat :=
  let c0_97 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v240 : Index := Scalar.indexCast v68
  let c1152_98 : Index := 1152#32
  ![0, v240.toNat, 1152]
def k0_off55 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v244 : Index := Scalar.indexCast v68
  let c1280 : Index := 1280#32
  ![v244.toNat, 1280]
def k0_off56 (k0_t2 : Fin k0_t2_loop.trips) : Fin 3 → Nat :=
  let c0_101 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v252 : Index := Scalar.indexCast v68
  let c1280_102 : Index := 1280#32
  ![0, v252.toNat, 1280]
def k0_off57 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v256 : Index := Scalar.indexCast v68
  let c1408 : Index := 1408#32
  ![v256.toNat, 1408]
def k0_off58 (k0_t2 : Fin k0_t2_loop.trips) : Fin 3 → Nat :=
  let c0_105 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v264 : Index := Scalar.indexCast v68
  let c1408_106 : Index := 1408#32
  ![0, v264.toNat, 1408]
def k0_off59 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v268 : Index := Scalar.indexCast v68
  let c1536 : Index := 1536#32
  ![v268.toNat, 1536]
def k0_off60 (k0_t2 : Fin k0_t2_loop.trips) : Fin 3 → Nat :=
  let c0_109 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v276 : Index := Scalar.indexCast v68
  let c1536_110 : Index := 1536#32
  ![0, v276.toNat, 1536]
def k0_off61 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v280 : Index := Scalar.indexCast v68
  let c1664 : Index := 1664#32
  ![v280.toNat, 1664]
def k0_off62 (k0_t2 : Fin k0_t2_loop.trips) : Fin 3 → Nat :=
  let c0_113 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v288 : Index := Scalar.indexCast v68
  let c1664_114 : Index := 1664#32
  ![0, v288.toNat, 1664]
def k0_off63 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v292 : Index := Scalar.indexCast v68
  let c1792 : Index := 1792#32
  ![v292.toNat, 1792]
def k0_off64 (k0_t2 : Fin k0_t2_loop.trips) : Fin 3 → Nat :=
  let c0_117 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v300 : Index := Scalar.indexCast v68
  let c1792_118 : Index := 1792#32
  ![0, v300.toNat, 1792]
def k0_off65 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v304 : Index := Scalar.indexCast v68
  let c1920 : Index := 1920#32
  ![v304.toNat, 1920]
def k0_off66 (k0_t2 : Fin k0_t2_loop.trips) : Fin 3 → Nat :=
  let c0_121 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v312 : Index := Scalar.indexCast v68
  let c1920_122 : Index := 1920#32
  ![0, v312.toNat, 1920]
def k0_off67 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v316 : Index := Scalar.indexCast v68
  let c2048 : Index := 2048#32
  ![v316.toNat, 2048]
def k0_off68 (k0_t2 : Fin k0_t2_loop.trips) : Fin 3 → Nat :=
  let c0_125 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v324 : Index := Scalar.indexCast v68
  let c2048_126 : Index := 2048#32
  ![0, v324.toNat, 2048]
def k0_off69 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v328 : Index := Scalar.indexCast v68
  let c2176 : Index := 2176#32
  ![v328.toNat, 2176]
def k0_off70 (k0_t2 : Fin k0_t2_loop.trips) : Fin 3 → Nat :=
  let c0_129 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v336 : Index := Scalar.indexCast v68
  let c2176_130 : Index := 2176#32
  ![0, v336.toNat, 2176]
def k0_off71 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v340 : Index := Scalar.indexCast v68
  let c2304 : Index := 2304#32
  ![v340.toNat, 2304]
def k0_off72 (k0_t2 : Fin k0_t2_loop.trips) : Fin 3 → Nat :=
  let c0_133 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v348 : Index := Scalar.indexCast v68
  let c2304_134 : Index := 2304#32
  ![0, v348.toNat, 2304]
def k0_off73 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v352 : Index := Scalar.indexCast v68
  let c2432 : Index := 2432#32
  ![v352.toNat, 2432]
def k0_off74 (k0_t2 : Fin k0_t2_loop.trips) : Fin 3 → Nat :=
  let c0_137 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v360 : Index := Scalar.indexCast v68
  let c2432_138 : Index := 2432#32
  ![0, v360.toNat, 2432]
def k0_off75 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v364 : Index := Scalar.indexCast v68
  let c2560 : Index := 2560#32
  ![v364.toNat, 2560]
def k0_off76 (k0_t2 : Fin k0_t2_loop.trips) : Fin 3 → Nat :=
  let c0_141 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v372 : Index := Scalar.indexCast v68
  let c2560_142 : Index := 2560#32
  ![0, v372.toNat, 2560]
def k0_off77 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v376 : Index := Scalar.indexCast v68
  let c2688 : Index := 2688#32
  ![v376.toNat, 2688]
def k0_off78 (k0_t2 : Fin k0_t2_loop.trips) : Fin 3 → Nat :=
  let c0_145 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v384 : Index := Scalar.indexCast v68
  let c2688_146 : Index := 2688#32
  ![0, v384.toNat, 2688]
def k0_off79 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v388 : Index := Scalar.indexCast v68
  let c2816 : Index := 2816#32
  ![v388.toNat, 2816]
def k0_off80 (k0_t2 : Fin k0_t2_loop.trips) : Fin 3 → Nat :=
  let c0_149 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v396 : Index := Scalar.indexCast v68
  let c2816_150 : Index := 2816#32
  ![0, v396.toNat, 2816]
def k0_off81 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v400 : Index := Scalar.indexCast v68
  let c2944 : Index := 2944#32
  ![v400.toNat, 2944]
def k0_off82 (k0_t2 : Fin k0_t2_loop.trips) : Fin 3 → Nat :=
  let c0_153 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v408 : Index := Scalar.indexCast v68
  let c2944_154 : Index := 2944#32
  ![0, v408.toNat, 2944]
def k0_off83 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v412 : Index := Scalar.indexCast v68
  let c3072 : Index := 3072#32
  ![v412.toNat, 3072]
def k0_off84 (k0_t2 : Fin k0_t2_loop.trips) : Fin 3 → Nat :=
  let c0_157 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v420 : Index := Scalar.indexCast v68
  let c3072_158 : Index := 3072#32
  ![0, v420.toNat, 3072]
def k0_off85 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v424 : Index := Scalar.indexCast v68
  let c3200 : Index := 3200#32
  ![v424.toNat, 3200]
def k0_off86 (k0_t2 : Fin k0_t2_loop.trips) : Fin 3 → Nat :=
  let c0_161 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v432 : Index := Scalar.indexCast v68
  let c3200_162 : Index := 3200#32
  ![0, v432.toNat, 3200]
def k0_off87 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v436 : Index := Scalar.indexCast v68
  let c3328 : Index := 3328#32
  ![v436.toNat, 3328]
def k0_off88 (k0_t2 : Fin k0_t2_loop.trips) : Fin 3 → Nat :=
  let c0_165 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v444 : Index := Scalar.indexCast v68
  let c3328_166 : Index := 3328#32
  ![0, v444.toNat, 3328]
def k0_off89 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v448 : Index := Scalar.indexCast v68
  let c3456 : Index := 3456#32
  ![v448.toNat, 3456]
def k0_off90 (k0_t2 : Fin k0_t2_loop.trips) : Fin 3 → Nat :=
  let c0_169 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v456 : Index := Scalar.indexCast v68
  let c3456_170 : Index := 3456#32
  ![0, v456.toNat, 3456]
def k0_off91 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v460 : Index := Scalar.indexCast v68
  let c3584 : Index := 3584#32
  ![v460.toNat, 3584]
def k0_off92 (k0_t2 : Fin k0_t2_loop.trips) : Fin 3 → Nat :=
  let c0_173 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v468 : Index := Scalar.indexCast v68
  let c3584_174 : Index := 3584#32
  ![0, v468.toNat, 3584]
def k0_off93 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v472 : Index := Scalar.indexCast v68
  let c3712 : Index := 3712#32
  ![v472.toNat, 3712]
def k0_off94 (k0_t2 : Fin k0_t2_loop.trips) : Fin 3 → Nat :=
  let c0_177 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v480 : Index := Scalar.indexCast v68
  let c3712_178 : Index := 3712#32
  ![0, v480.toNat, 3712]
def k0_off95 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v484 : Index := Scalar.indexCast v68
  let c3840 : Index := 3840#32
  ![v484.toNat, 3840]
def k0_off96 (k0_t2 : Fin k0_t2_loop.trips) : Fin 3 → Nat :=
  let c0_181 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v492 : Index := Scalar.indexCast v68
  let c3840_182 : Index := 3840#32
  ![0, v492.toNat, 3840]
def k0_off97 (k0_t2 : Fin k0_t2_loop.trips) : Fin 2 → Nat :=
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v496 : Index := Scalar.indexCast v68
  let c3968 : Index := 3968#32
  ![v496.toNat, 3968]
def k0_off98 (k0_t2 : Fin k0_t2_loop.trips) : Fin 3 → Nat :=
  let c0_185 : Index := 0#32
  let c0_i32_21 : BitVec 32 := 0#32
  let c1_i32_22 : BitVec 32 := 1#32
  let arg11 : BitVec 32 := Scf.iv c0_i32_21 c1_i32_22 k0_t2
  let c32_i32_39 : BitVec 32 := 32#32
  let v67 : BitVec 32 := Scalar.muli arg11 c32_i32_39
  let v68 : BitVec 32 := v67
  let v504 : Index := Scalar.indexCast v68
  let c3968_186 : Index := 3968#32
  ![0, v504.toNat, 3968]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelGrnIdeal.lean ====
variable {F : FTy → Type} [FloatOps F] [Named F]
def κ : String → Option EReal := fun
  | "sqrt_half" => some ((Real.sqrt (1 / 2) : ℝ) : EReal)
  | _ => none
-- ==== ReferenceGrnIdeal.lean ====
abbrev S1536x4096 : Shape := ⟨2, ![1536, 4096]⟩
abbrev S6x1x4096 : Shape := ⟨3, ![6, 1, 4096]⟩
abbrev S4096 : Shape := ⟨1, ![4096]⟩
abbrev S1x1x4096 : Shape := ⟨3, ![1, 1, 4096]⟩
abbrev S6x256x4096 : Shape := ⟨3, ![6, 256, 4096]⟩
abbrev S6x256 : Shape := ⟨2, ![6, 256]⟩
abbrev S6x1 : Shape := ⟨2, ![6, 1]⟩
abbrev S6x1x1 : Shape := ⟨3, ![6, 1, 1]⟩
abbrev S6x256x1 : Shape := ⟨3, ![6, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S1536x4096, .f32⟩
  | .hbm, ⟨1, _⟩ => ⟨S6x1x4096, .f32⟩
  | .hbm, ⟨2, _⟩ => ⟨S4096, .f32⟩
  | .hbm, ⟨3, _⟩ => ⟨S4096, .f32⟩
  | .hbm, ⟨4, _⟩ => ⟨S1x1x4096, .f32⟩
  | .hbm, ⟨5, _⟩ => ⟨S1x1x4096, .f32⟩
  | .hbm, ⟨6, _⟩ => ⟨S6x256x4096, .fp8e4m3⟩
  | .hbm, ⟨7, _⟩ => ⟨S6x256, .f32⟩
  | .local _ .vmem, ⟨0, _⟩ => ⟨S1536x4096, .f32⟩
  | .local _ .vmem, ⟨1, _⟩ => ⟨S6x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S6x256x4096, .fp8e4m3⟩
  | .local _ .vmem, ⟨5, _⟩ => ⟨S6x256, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel.lean ====
abbrev S6x256x1024 : Shape := ⟨3, ![6, 256, 1024]⟩
abbrev S6x256x4096 : Shape := ⟨3, ![6, 256, 4096]⟩
abbrev S6x256 : Shape := ⟨2, ![6, 256]⟩
abbrev S4096x1024 : Shape := ⟨2, ![4096, 1024]⟩
abbrev S1024 : Shape := ⟨1, ![1024]⟩
abbrev S6x256x1 : Shape := ⟨3, ![6, 256, 1]⟩
abbrev S6x256x128 : Shape := ⟨3, ![6, 256, 128]⟩
abbrev S1x1024 : Shape := ⟨2, ![1, 1024]⟩
abbrev S1x256x1024 : Shape := ⟨3, ![1, 256, 1024]⟩
abbrev S1x256x4096 : Shape := ⟨3, ![1, 256, 4096]⟩
abbrev S1x256x128 : Shape := ⟨3, ![1, 256, 128]⟩
abbrev S256x4096 : Shape := ⟨2, ![256, 4096]⟩
abbrev S4096x512 : Shape := ⟨2, ![4096, 512]⟩
abbrev S256x512 : Shape := ⟨2, ![256, 512]⟩
abbrev S1x256x1 : Shape := ⟨3, ![1, 256, 1]⟩
abbrev S256x1 : Shape := ⟨2, ![256, 1]⟩
abbrev S1x512 : Shape := ⟨2, ![1, 512]⟩
abbrev S1x256x512 : Shape := ⟨3, ![1, 256, 512]⟩

abbrev nBuf : Space → Nat
  | .hbm => 11
  | .vmem => 11
  | .smem => 0
  | _ => 0

abbrev bufTy : (tb : Table) → Fin (tcTables nBuf tb) → BufTy
  | .hbm, ⟨0, _⟩ => ⟨S6x256x1024, .bf16⟩
  | .hbm, ⟨1, _⟩ => ⟨S6x256x4096, .fp8e4m3⟩
  | .hbm, ⟨2, _⟩ => ⟨S6x256, .f32⟩
  | .hbm, ⟨3, _⟩ => ⟨S4096x1024, .fp8e4m3⟩
  | .hbm, ⟨4, _⟩ => ⟨S1024, .f32⟩
  | .hbm, ⟨5, _⟩ => ⟨S1024, .f32⟩
  | .hbm, ⟨6, _⟩ => ⟨S6x256x1, .f32⟩
  | .hbm, ⟨7, _⟩ => ⟨S6x256x128, .f32⟩
  | .hbm, ⟨8, _⟩ => ⟨S1x1024, .f32⟩
  | .hbm, ⟨9, _⟩ => ⟨S1x1024, .f32⟩
  | .hbm, ⟨10, _⟩ => ⟨S6x256x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x4096, .fp8e4m3⟩
  | .local _ .vmem, ⟨3, _⟩ => ⟨S1x256x4096, .fp8e4m3⟩
  | .local _ .vmem, ⟨4, _⟩ => ⟨S1x256x128, .f32⟩
  | .local _ .vmem, ⟨5, _⟩ => ⟨S1x256x128, .f32⟩
  | .local _ .vmem, ⟨6, _⟩ => ⟨S4096x1024, .fp8e4m3⟩
  | .local _ .vmem, ⟨7, _⟩ => ⟨S1x1024, .f32⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v1 : BitVec 32 := Scalar.muli arg8 c512_i32
  v1
def k0_off1 (k0_t1 : Fin k0_t1_loop.trips) : Fin 2 → Nat :=
  let c0_3 : Index := 0#32
  let c0_i32 : BitVec 32 := 0#32
  let c1_i32 : BitVec 32 := 1#32
  let arg8 : BitVec 32 := Scf.iv c0_i32 c1_i32 k0_t1
  let c512_i32 : BitVec 32 := 512#32
  let v1 : BitVec 32 := Scalar.muli arg8 c512_i32
  let v2 : BitVec 32 := v1
  let v5 : Index := Scalar.indexCast v2
  ![0, v5.toNat]
def k0_off2 (k0_t1 : Fin k0_t1_loop.trips) : Fin 2 → Nat :=
  let c0_7 : Index := 0#32
  let c0_i32 : BitVec 32 := 0#32
  let c1_i32 : BitVec 32 := 1#32
  let arg8 : BitVec 32 := Scf.iv c0_i32 c1_i32 k0_t1
  let c512_i32 : BitVec 32 := 512#32
  let v1 : BitVec 32 := Scalar.muli arg8 c512_i32
  let v2 : BitVec 32 := v1
  let v12 : Index := Scalar.indexCast v2
  ![0, v12.toNat]
def k0_off3 (k0_t1 : Fin k0_t1_loop.trips) : Fin 3 → Nat :=
  let c0_9 : Index := 0#32
  let c0_10 : Index := 0#32
  let c0_i32 : BitVec 32 := 0#32
  let c1_i32 : BitVec 32 := 1#32
  let arg8 : BitVec 32 := Scf.iv c0_i32 c1_i32 k0_t1
  let c512_i32 : BitVec 32 := 512#32
  let v1 : BitVec 32 := Scalar.muli arg8 c512_i32
  let v2 : BitVec 32 := v1
  let v22 : Index := Scalar.indexCast v2
  ![0, 0, v22.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x256x1024 : Shape := ⟨3, ![6, 256, 1024]⟩
abbrev S6x256x4096 : Shape := ⟨3, ![6, 256, 4096]⟩
abbrev S6x256 : Shape := ⟨2, ![6, 256]⟩
abbrev S4096x1024 : Shape := ⟨2, ![4096, 1024]⟩
abbrev S1024 : Shape := ⟨1, ![1024]⟩
abbrev S1536x4096 : Shape := ⟨2, ![1536, 4096]⟩
abbrev S1536x1 : Shape := ⟨2, ![1536, 1]⟩
abbrev S1x1024 : Shape := ⟨2, ![1, 1024]⟩
abbrev S1536x1024 : Shape := ⟨2, ![1536, 1024]⟩

abbrev nBuf : Space → Nat
  | .hbm => 11
  | .vmem => 7
  | .smem => 0
  | _ => 0

abbrev bufTy : (tb : Table) → Fin (tcTables nBuf tb) → BufTy
  | .hbm, ⟨0, _⟩ => ⟨S6x256x1024, .bf16⟩
  | .hbm, ⟨1, _⟩ => ⟨S6x256x4096, .fp8e4m3⟩
  | .hbm, ⟨2, _⟩ => ⟨S6x256, .f32⟩
  | .hbm, ⟨3, _⟩ => ⟨S4096x1024, .fp8e4m3⟩
  | .hbm, ⟨4, _⟩ => ⟨S1024, .f32⟩
  | .hbm, ⟨5, _⟩ => ⟨S1024, .f32⟩
  | .hbm, ⟨6, _⟩ => ⟨S1536x4096, .fp8e4m3⟩
  | .hbm, ⟨7, _⟩ => ⟨S1536x1, .f32⟩
  | .hbm, ⟨8, _⟩ => ⟨S1x1024, .f32⟩
  | .hbm, ⟨9, _⟩ => ⟨S1x1024, .f32⟩
  | .hbm, ⟨10, _⟩ => ⟨S6x256x1024, .bf16⟩
  | .local _ .vmem, ⟨0, _⟩ => ⟨S6x256x1024, .bf16⟩
  | .local _ .vmem, ⟨1, _⟩ => ⟨S1536x4096, .fp8e4m3⟩
  | .local _ .vmem, ⟨2, _⟩ => ⟨S1536x1, .f32⟩
  | .local _ .vmem, ⟨3, _⟩ => ⟨S4096x1024, .fp8e4m3⟩
  | .local _ .vmem, ⟨4, _⟩ => ⟨S1x1024, .f32⟩
  | .local _ .vmem, ⟨5, _⟩ => ⟨S1x1024, .f32⟩
  | .local _ .vmem, ⟨6, _⟩ => ⟨S6x256x1024, .bf16⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.lean ====
module

public import proofs.«01_k».proof.Proof.Gen.KernelIdeal.Value
public import Idealize.ShloMosaic.Lib.Pipeline.ValueKit
public import Idealize.ShloMosaic.Lib.Pointwise
public import Idealize.ShloMosaic.Lib.WholeRead
public import Idealize.ShloMosaic.Lib.Claim
public import Idealize.ShloMosaic.Lib.Pipeline.ReadBack

/-! The kernel's result array, as one function of its arguments. -/

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen
variable (m : (ℓ : Loc nD τ sig) → Buf (Elt Ideal) ℓ)

/-- The place a load or a store of a box names, from its coordinates. -/
theorem unit_idx {s : Shape} {off size : Fin s.rank → ℕ} {inb : ∀ a, off a + size a ≤ s.size a}
    (j : (Rect.unit off size inb).shape.Idx) (y : s.Idx) (h : ∀ a, off a + (j a).val = (y a).val) :
    (Rect.unit off size inb).idx j = y :=
  funext fun a => Fin.ext (by rw [← h a]; show off a + 1 * (j a).val = _; rw [Nat.one_mul])

/-- Blocks of one function, after blocks of the same function. -/
theorem piecesOf_append {s : Shape} {e : EltTy} {G : s.Idx → Elt Ideal e} : ∀ (L L' : List (View.Piece (Elt Ideal) s e)),
    View.PiecesOf G L → View.PiecesOf G L' → View.PiecesOf G (L ++ L')
  | [], _, _, h' => h'
  | _ :: L, L', h, h' => ⟨h.1, piecesOf_append L L' h.2 h'⟩

/-- One block of the output, from the blocks of the six inputs. -/
def blockOut (x0 : FVec Ideal S1x256x1024 .bf16) (x1 : FVec Ideal S1x256x4096 .fp8e4m3) (x2 : FVec Ideal S1x256x128 .f32)
    (x3 : FVec Ideal S4096x1024 .fp8e4m3) (x4 : FVec Ideal S1x1024 .f32) (x5 : FVec Ideal S1x1024 .f32) : FVec Ideal S1x256x1024 .bf16 :=
  fun y => x0 (ix3 0 (y 1) (y 2)) + ((∑ k : Fin 4096, x1 (ix3 0 (y 1) k) * x3 (ix2 k (y 2))) * x2 (ix3 0 (y 1) 0) * x4 (ix2 0 (y 2)) + x5 (ix2 0 (y 2)))

section
variable (𝒱 : Variants) (c : Dev nD) (bd : Option 𝒱.V) (i : grid0.Coords) (arg1 : Memref sig .tc .vmem S1x256x1024 .bf16) (harg1 : arg1.IsWhole) (arg2 : Memref sig .tc .vmem S1x256x4096 .fp8e4m3) (harg2 : arg2.IsWhole) (arg3 : Memref sig .tc .vmem S1x256x128 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole)
  (x0 : FVec Ideal S1x256x1024 .bf16) (x1 : FVec Ideal S1x256x4096 .fp8e4m3) (x2 : FVec Ideal S1x256x128 .f32)
    (x3 : FVec Ideal S4096x1024 .fp8e4m3) (x4 : FVec Ideal S1x1024 .f32) (x5 : FVec Ideal S1x1024 .f32)

/-- What one trip stores, at an index. -/
theorem pay_at (v3 : FVec Ideal S1x256x4096 .fp8e4m3) (v6 : FVec Ideal S4096x512 .fp8e4m3) (v8 : FVec Ideal S1x256x1 .f32)
    (v13 v18 : FVec Ideal S1x512 .f32) (v23 : FVec Ideal S1x256x512 .bf16) (z : Fin 1) (r : Fin 256) (l : Fin 512) :
    k0_pay1 (F := Ideal) v3 v6 v8 v13 v18 v23 (ix3 z r l)
      = v23 (ix3 0 r l) + ((∑ k : Fin 4096, v3 (ix3 0 r k) * v6 (ix2 k l)) * v8 (ix3 0 r 0) * v13 (ix2 0 l) + v18 (ix2 0 l)) := by
  pointwise! [k0_pay1]

/-- One trip's store is the block's function on the columns it names. -/
theorem trip_piece (k : Fin k0_t1_loop.trips) :
    View.PiecesOf (blockOut x0 x1 x2 x3 x4 x5) (tripL_k0_t1 (F := Ideal) 𝒱 c bd i arg1 harg1 arg2 harg2 arg3 harg3 arg4 harg4 arg5 harg5 arg6 harg6 arg7 harg7
      (harg1.unread x0) (harg2.unread x1) (harg3.unread x2) (harg4.unread x3) (harg5.unread x4) (harg6.unread x5) k) := by
  have hk : k.val < 2 := Nat.lt_of_lt_of_le k.isLt k0_t1_abs.2.1
  have e0 : k0_off1 k 0 = 0 := by rw [k0_off1_eq k]; rfl
  have e1 : k0_off1 k 1 = 512 * k.val := by rw [k0_off1_eq k]; rfl
  have e2 : k0_off2 k 0 = 0 := by rw [k0_off2_eq k]; rfl
  have e3 : k0_off2 k 1 = 512 * k.val := by rw [k0_off2_eq k]; rfl
  have e4 : k0_off3 k 0 = 0 := by rw [k0_off3_eq k]; rfl
  have e5 : k0_off3 k 1 = 0 := by rw [k0_off3_eq k]; rfl
  have e6 : k0_off3 k 2 = 512 * k.val := by rw [k0_off3_eq k]; rfl
  unfold tripL_k0_t1 trip_k0_t1
  refine ⟨fun (x : S1x256x512.Idx) => ?_, trivial⟩
  idx_vars x
  have hl : 512 * k.val + x2.val < 1024 := by have := x2.isLt; omega
  refine Eq.trans ?_ (congrArg (blockOut _ _ _ _ _ _) (unit_idx (ix3 x0 x1 x2) (ix3 0 x1 ⟨512 * k.val + x2.val, hl⟩) ?_).symm)
  · refine (pay_at _ _ _ _ _ _ _ _ _).trans ?_
    simp only [Memref.IsWhole.readAt_unread]
    unfold blockOut
    refine congr (congrArg HAdd.hAdd (congrArg _ (unit_idx _ _ ?_))) (congr (congrArg HAdd.hAdd (congr (congrArg HMul.hMul (congr (congrArg HMul.hMul (Finset.sum_congr rfl fun k _ => congr (congrArg HMul.hMul (congrArg _ (unit_idx _ _ ?_))) (congrArg _ (unit_idx _ _ ?_)))) (congrArg _ (unit_idx _ _ ?_)))) (congrArg _ (unit_idx _ _ ?_)))) (congrArg _ (unit_idx _ _ ?_)))
    all_goals (intro a; fin_cases a)
    all_goals simp [e0, e1, e2, e3, e4, e5, e6]
  · intro a; fin_cases a <;> simp [e4, e5, e6]

/-- The stores of any number of trips. -/
theorem pieces : ∀ n, n ≤ k0_t1_loop.trips →
    View.PiecesOf (blockOut x0 x1 x2 x3 x4 x5) (pb_k0_t1 (F := Ideal) 𝒱 c bd i arg1 harg1 arg2 harg2 arg3 harg3 arg4 harg4 arg5 harg5 arg6 harg6 arg7 harg7
      (harg1.unread x0) (harg2.unread x1) (harg3.unread x2) (harg4.unread x3) (harg5.unread x4) (harg6.unread x5) n)
  | 0, _ => trivial
  | n + 1, h => by
    rw [pb_k0_t1_succ (F := Ideal) 𝒱 c bd i arg1 harg1 arg2 harg2 arg3 harg3 arg4 harg4 arg5 harg5 arg6 harg6 arg7 harg7 _ _ _ _ _ _ ⟨n, h⟩]
    exact piecesOf_append _ _ (trip_piece ..) (pieces n (Nat.le_of_succ_le h))

end

/-- What the body leaves in the output's block at a grid point. -/
theorem point (c : Dev nD) (t : Fin cfg0.N) (y : S1x256x1024.Idx) :
    outsAt0 m c t y = blockOut (iblk m c 0 t) (iblk m c 1 t) (iblk m c 2 t) (iblk m c 3 t) (iblk m c 4 t) (iblk m c 5 t) y := by
  have hc := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) y
  unfold outsAt0 out0_A_6
  refine View.read_writes_apply_of_pieces _ _ _ _ (View.PiecesOf.mem ?_) y hc
  unfold kernelRun0_A
  exact pieces _ c none (grid0.coords t) _ (hs0_0 t) _ (hs0_1 t) _ (hs0_2 t) _ (hs0_3 t) _ (hs0_4 t) _ (hs0_5 t) _ (hs0_6 t) _ _ _ _ _ _ _ le_rfl

/-- The result array from the six arguments. -/
def G (x : FVec Ideal S6x256x1024 .bf16) (q2 : FVec Ideal S6x256x4096 .fp8e4m3) (s2 : FVec Ideal S6x256 .f32)
    (w2 : FVec Ideal S4096x1024 .fp8e4m3) (w2s b2 : FVec Ideal S1024 .f32) : FVec Ideal S6x256x1024 .bf16 :=
  fun y => x (ix3 (y 0) (y 1) (y 2)) + ((∑ k : Fin 4096, q2 (ix3 (y 0) (y 1) k) * w2 (ix2 k (y 2))) * s2 (ix2 (y 0) (y 1)) * w2s (ix1 (y 2)) + b2 (ix1 (y 2)))

/-- Which block of each window a grid point sees. -/
theorem idx : ∀ t : Fin cfg0.N, win0_0.index t = ![t.val, 0, 0] ∧ win0_1.index t = ![t.val, 0, 0] ∧ win0_2.index t = ![t.val, 0, 0] ∧
    win0_3.index t = ![0, 0] ∧ win0_4.index t = ![0, 0] ∧ win0_5.index t = ![0, 0] ∧ win0_6.index t = ![t.val, 0, 0] :=
  (by decide +kernel : ∀ t : Fin grid0.N, _)

/-- The per-row scale, laid out over the lanes. -/
theorem V_s2b (c : Dev nD) (a : Fin 6) (b : Fin 256) (l : Fin 128) :
    (V m c main_v1 : FVec Ideal S6x256x128 .f32) (ix3 a b l) = (m ((c : Thread nD τ).loc main_arg2) : FVec Ideal S6x256 .f32) (ix2 a b) := by
  entry_read
  pointwise

theorem V_w2s (c : Dev nD) (a : Fin 1) (b : Fin 1024) :
    (V m c main_v2 : FVec Ideal S1x1024 .f32) (ix2 a b) = (m ((c : Thread nD τ).loc main_arg4) : FVec Ideal S1024 .f32) (ix1 b) := by
  entry_read
  pointwise

theorem V_b2 (c : Dev nD) (a : Fin 1) (b : Fin 1024) :
    (V m c main_v3 : FVec Ideal S1x1024 .f32) (ix2 a b) = (m ((c : Thread nD τ).loc main_arg5) : FVec Ideal S1024 .f32) (ix1 b) := by
  entry_read
  pointwise

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, point]
  obtain ⟨i0, i1, i2, i3, i4, i5, i6⟩ := idx t
  have ht : t.val < 6 := t.isLt
  have ey : (win0_6.blk t).view.emb y = (ix3 ⟨t.val, ht⟩ (y 1) (y 2) : S6x256x1024.Idx) := by
    blk_ext [i6]
  have b0 : ∀ r l, iblk m c 0 t (ix3 0 r l : S1x256x1024.Idx) = m ((c : Thread nD τ).loc main_arg0) (ix3 ⟨t.val, ht⟩ r l) := fun r l => by
    rw [← V_main_arg0 m c]
    exact congrArg (V m c main_arg0) (by blk_ext [i0])
  have b1 : ∀ r l, iblk m c 1 t (ix3 0 r l : S1x256x4096.Idx) = m ((c : Thread nD τ).loc main_arg1) (ix3 ⟨t.val, ht⟩ r l) := fun r l => by
    rw [← V_main_arg1 m c]
    exact congrArg (V m c main_arg1) (by blk_ext [i1])
  have b2 : ∀ r l, iblk m c 2 t (ix3 0 r l : S1x256x128.Idx) = m ((c : Thread nD τ).loc main_arg2) (ix2 ⟨t.val, ht⟩ r) := fun r l => by
    rw [← V_s2b m c ⟨t.val, ht⟩ r l]
    exact congrArg (V m c main_v1) (by blk_ext [i2])
  have b3 : ∀ r l, iblk m c 3 t (ix2 r l : S4096x1024.Idx) = m ((c : Thread nD τ).loc main_arg3) (ix2 r l) := fun r l => by
    rw [← V_main_arg3 m c]
    exact congrArg (V m c main_arg3) (by blk_ext [i3])
  have b4 : ∀ l, iblk m c 4 t (ix2 0 l : S1x1024.Idx) = m ((c : Thread nD τ).loc main_arg4) (ix1 l) := fun l => by
    rw [← V_w2s m c 0 l]
    exact congrArg (V m c main_v2) (by blk_ext [i4])
  have b5 : ∀ l, iblk m c 5 t (ix2 0 l : S1x1024.Idx) = m ((c : Thread nD τ).loc main_arg5) (ix1 l) := fun l => by
    rw [← V_b2 m c 0 l]
    exact congrArg (V m c main_v3) (by blk_ext [i5])
  refine Eq.trans ?_ (congrArg (G _ _ _ _ _ _) ey.symm)
  unfold blockOut G
  refine congr (congrArg HAdd.hAdd (b0 _ _)) (congr (congrArg HAdd.hAdd (congr (congrArg HMul.hMul (congr (congrArg HMul.hMul (Finset.sum_congr rfl fun k _ => congr (congrArg HMul.hMul (b1 _ _)) (b3 _ _))) (b2 _ _))) (b4 _))) (b5 _))

end Cert.KernelIdeal.Val
end
-- ==== Proof.Reference.lean ====
module

public import proofs.«01_k».proof.Proof.Gen.ReferenceIdeal.Value
public import Idealize.ShloMosaic.Lib.Pipeline.ValueKit
public import Idealize.ShloMosaic.Lib.Pointwise
public import Idealize.ShloMosaic.Lib.Claim

/-! The reference's result array, as one function of its arguments. -/

@[expose] public section
set_option maxRecDepth 16384
noncomputable section
open Idealize.ShloMosaic Idealize.ShloMosaic.TcCoe Idealize.SL.Sem
open Idealize.ShloMosaic.Pipeline (Dat)
namespace Cert.ReferenceIdeal.Val
open Cert.ReferenceIdeal Cert.ReferenceIdeal.Gen
variable (m : (ℓ : Loc nD τ sig) → Buf (Elt Ideal) ℓ)

/-- The result array from the six arguments. -/
def G (x : FVec Ideal S6x256x1024 .bf16) (q2 : FVec Ideal S6x256x4096 .fp8e4m3) (s2 : FVec Ideal S6x256 .f32)
    (w2 : FVec Ideal S4096x1024 .fp8e4m3) (w2s b2 : FVec Ideal S1024 .f32) : FVec Ideal S6x256x1024 .bf16 :=
  fun y => x (ix3 (y 0) (y 1) (y 2)) + ((∑ k : Fin 4096, q2 (ix3 (y 0) (y 1) k) * w2 (ix2 k (y 2))) * s2 (ix2 (y 0) (y 1)) * w2s (ix1 (y 2)) + b2 (ix1 (y 2)))

/-- The one grid point. -/
def t0 : Fin cfg0.N := ⟨0, by decide⟩

theorem idx : ∀ t : Fin cfg0.N, win0_0.index t = ![0, 0, 0] ∧ win0_1.index t = ![0, 0] ∧ win0_2.index t = ![0, 0] ∧
    win0_3.index t = ![0, 0] ∧ win0_4.index t = ![0, 0] ∧ win0_5.index t = ![0, 0] ∧ win0_6.index t = ![0, 0, 0] :=
  (by decide +kernel : ∀ t : Fin grid0.N, _)

/-- The row number of row `b` of image `a`. -/
theorem row_lt (a : Fin 6) (b : Fin 256) : a.val * 256 + b.val < 1536 := by have := a.isLt; have := b.isLt; omega

/-- What the body stores, at an index. -/
theorem pay_at (v0 : FVec Ideal S1536x4096 .fp8e4m3) (v2 : FVec Ideal S4096x1024 .fp8e4m3) (v4 : FVec Ideal S1536x1 .f32)
    (v8 v12 : FVec Ideal S1x1024 .f32) (v16 : FVec Ideal S6x256x1024 .bf16) (a : Fin 6) (b : Fin 256) (l : Fin 1024) :
    k0_pay1 (F := Ideal) v0 v2 v4 v8 v12 v16 (ix3 a b l)
      = v16 (ix3 a b l) + ((∑ k : Fin 4096, v0 (ix2 ⟨a.val * 256 + b.val, row_lt a b⟩ k) * v2 (ix2 k l)) * v4 (ix2 ⟨a.val * 256 + b.val, row_lt a b⟩ 0) * v8 (ix2 0 l) + v12 (ix2 0 l)) := by
  pointwise! [k0_pay1]

theorem V_q2 (c : Dev nD) (a : Fin 6) (b : Fin 256) (l : Fin 4096) :
    (V m c main_v0 : FVec Ideal S1536x4096 .fp8e4m3) (ix2 ⟨a.val * 256 + b.val, row_lt a b⟩ l) = (m ((c : Thread nD τ).loc main_arg1) : FVec Ideal S6x256x4096 .fp8e4m3) (ix3 a b l) := by
  entry_read
  pointwise

theorem V_s2 (c : Dev nD) (a : Fin 6) (b : Fin 256) (l : Fin 1) :
    (V m c main_v1 : FVec Ideal S1536x1 .f32) (ix2 ⟨a.val * 256 + b.val, row_lt a b⟩ l) = (m ((c : Thread nD τ).loc main_arg2) : FVec Ideal S6x256 .f32) (ix2 a b) := by
  entry_read
  pointwise

theorem V_w2s (c : Dev nD) (a : Fin 1) (b : Fin 1024) :
    (V m c main_v2 : FVec Ideal S1x1024 .f32) (ix2 a b) = (m ((c : Thread nD τ).loc main_arg4) : FVec Ideal S1024 .f32) (ix1 b) := by
  entry_read
  pointwise

theorem V_b2 (c : Dev nD) (a : Fin 1) (b : Fin 1024) :
    (V m c main_v3 : FVec Ideal S1x1024 .f32) (ix2 a b) = (m ((c : Thread nD τ).loc main_arg5) : FVec Ideal S1024 .f32) (ix1 b) := by
  entry_read
  pointwise

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  obtain ⟨i0, i1, i2, i3, i4, i5, i6⟩ := idx t
  have ey : (win0_6.blk t).view.emb y = (ix3 (y 0) (y 1) (y 2) : S6x256x1024.Idx) := by
    blk_ext [i6]
  have b0 : ∀ a r l, iblk m c 0 t (ix3 a r l : S6x256x1024.Idx) = m ((c : Thread nD τ).loc main_arg0) (ix3 a r l) := fun a r l => by
    rw [← V_main_arg0 m c]
    exact congrArg (V m c main_arg0) (by blk_ext [i0])
  have b1 : ∀ a r l, iblk m c 1 t (ix2 ⟨(a : Fin 6).val * 256 + r.val, row_lt a r⟩ l : S1536x4096.Idx) = m ((c : Thread nD τ).loc main_arg1) (ix3 a r l) := fun a r l => by
    rw [← V_q2 m c a r l]
    exact congrArg (V m c main_v0) (by blk_ext [i1])
  have b2 : ∀ a r l, iblk m c 2 t (ix2 ⟨(a : Fin 6).val * 256 + r.val, row_lt a r⟩ l : S1536x1.Idx) = m ((c : Thread nD τ).loc main_arg2) (ix2 a r) := fun a r l => by
    rw [← V_s2 m c a r l]
    exact congrArg (V m c main_v1) (by blk_ext [i2])
  have b3 : ∀ r l, iblk m c 3 t (ix2 r l : S4096x1024.Idx) = m ((c : Thread nD τ).loc main_arg3) (ix2 r l) := fun r l => by
    rw [← V_main_arg3 m c]
    exact congrArg (V m c main_arg3) (by blk_ext [i3])
  have b4 : ∀ l, iblk m c 4 t (ix2 0 l : S1x1024.Idx) = m ((c : Thread nD τ).loc main_arg4) (ix1 l) := fun l => by
    rw [← V_w2s m c 0 l]
    exact congrArg (V m c main_v2) (by blk_ext [i4])
  have b5 : ∀ l, iblk m c 5 t (ix2 0 l : S1x1024.Idx) = m ((c : Thread nD τ).loc main_arg5) (ix1 l) := fun l => by
    rw [← V_b2 m c 0 l]
    exact congrArg (V m c main_v3) (by blk_ext [i5])
  refine Eq.trans ?_ (congrArg (G _ _ _ _ _ _) ey.symm)
  rw [show y = (ix3 (y 0) (y 1) (y 2) : S6x256x1024.Idx) from eq_ix3 y]
  refine (pay_at _ _ _ _ _ _ _ _ _).trans ?_
  unfold G
  refine congr (congrArg HAdd.hAdd (b0 _ _ _)) (congr (congrArg HAdd.hAdd (congr (congrArg HMul.hMul (congr (congrArg HMul.hMul (Finset.sum_congr rfl fun k _ => congr (congrArg HMul.hMul (b1 _ _ _)) (b3 _ _))) (b2 _ _ _))) (b4 _))) (b5 _))

end Cert.ReferenceIdeal.Val
end
-- ==== Proof.KernelUp.lean ====
module

public import proofs.«01_k».proof.Proof.Gen.KernelUpIdeal.Value
public import Idealize.ShloMosaic.Lib.Pipeline.ValueKit
public import Idealize.ShloMosaic.Lib.Pointwise
public import Idealize.ShloMosaic.Lib.WholeRead
public import Idealize.ShloMosaic.Lib.Claim
public import Idealize.ShloMosaic.Lib.Pipeline.ReadBack

/-! The first product and the activation: the two result arrays, as functions of the arguments. -/

@[expose] public section
set_option maxRecDepth 16384
noncomputable section
open Idealize.ShloMosaic Idealize.ShloMosaic.TcCoe Idealize.SL.Sem
open Idealize.ShloMosaic.Pipeline (Dat)
namespace Cert.KernelUpIdeal.Val
open Cert.KernelUpIdeal Cert.KernelUpIdeal.Gen
variable (m : (ℓ : Loc nD τ sig) → Buf (Elt Ideal) ℓ)

/-- The place a load or a store of a box names, from its coordinates. -/
theorem unit_idx {s : Shape} {off size : Fin s.rank → ℕ} {inb : ∀ a, off a + size a ≤ s.size a}
    (j : (Rect.unit off size inb).shape.Idx) (y : s.Idx) (h : ∀ a, off a + (j a).val = (y a).val) :
    (Rect.unit off size inb).idx j = y :=
  funext fun a => Fin.ext (by rw [← h a]; show off a + 1 * (j a).val = _; rw [Nat.one_mul])

/-- Blocks of one function, after blocks of the same function. -/
theorem piecesOf_append {s : Shape} {e : EltTy} {G : s.Idx → Elt Ideal e} : ∀ (L L' : List (View.Piece (Elt Ideal) s e)),
    View.PiecesOf G L → View.PiecesOf G L' → View.PiecesOf G (L ++ L')
  | [], _, _, h' => h'
  | _ :: L, L', h, h' => ⟨h.1, piecesOf_append L L' h.2 h'⟩

/-- The activation of `u`, times the square root of two where `u` is the pre-activation over it. -/
def act (u : EReal) : EReal := u + u * FloatOps.erf (F := Ideal) (φ := .f32) u

/-- One tile of the activation: `u = acc·s·w + b`, then `u + u·erf u`. -/
def tile (acc : FVec Ideal S256x512 .f32) (ws bs : FVec Ideal S1x128 .f32) (s1 : FVec Ideal S8x128 .f32)
    (off : Fin 2 → ℕ) (h : S256x512.Slices off S8x128) : FVec Ideal S8x128 .f32 :=
  have u : FVec Ideal S8x128 .f32 := addf (mulf (mulf (extractStridedSlice S8x128 off acc h) (shapeCast S8x128 s1 shapeCasts_S8x128_S8x128))
    (broadcastTo S8x128 ws broadcasts_S1x128_S8x128)) (broadcastTo S8x128 bs broadcasts_S1x128_S8x128)
  addf u (mulf u (erf u))

theorem tile_at (acc : FVec Ideal S256x512 .f32) (ws bs : FVec Ideal S1x128 .f32) (s1 : FVec Ideal S8x128 .f32)
    (a b : ℕ) (ha : a + 8 ≤ 256) (hb : b + 128 ≤ 512) (h : S256x512.Slices ![a, b] S8x128) (r : Fin 8) (l : Fin 128) :
    tile acc ws bs s1 ![a, b] h (ix2 r l)
      = act (acc (ix2 ⟨a + r.val, by omega⟩ ⟨b + l.val, by omega⟩) * s1 (ix2 r l) * ws (ix2 0 l) + bs (ix2 0 l)) := by
  unfold act
  pointwise! [tile]

theorem mm_at (v6 : FVec Ideal S1x256x1024 .fp8e4m3) (v9 : FVec Ideal S1024x512 .fp8e4m3) (r : Fin 256) (l : Fin 512) :
    k0_pay6 (F := Ideal) v6 v9 (ix2 r l) = ∑ k : Fin 1024, v6 (ix3 0 r k) * v9 (ix2 k l) := by
  pointwise! [k0_pay6]

theorem slices_at (g : ℕ) (hg : g < 32) (ct : ℕ) (hct : ct < 4) : S256x512.Slices ![8 * g, 128 * ct] S8x128 := by
  interval_cases ct <;> interval_cases g <;> decide

/-- The sums of squares of the first `n + 1` tiles of a column group. -/
def chain (T : Fin 32 → FVec Ideal S8x128 .f32) : (n : ℕ) → n < 32 → FVec Ideal S8x128 .f32
  | 0, h => mulf (T ⟨0, h⟩) (T ⟨0, h⟩)
  | n + 1, h => addf (chain T n (Nat.lt_of_succ_lt h)) (mulf (T ⟨n + 1, h⟩) (T ⟨n + 1, h⟩))

theorem chain_at (T : Fin 32 → FVec Ideal S8x128 .f32) (y : S8x128.Idx) : ∀ (n : ℕ) (h : n < 32),
    (chain T n h y : EReal) = ∑ g : Fin (n + 1), (T ⟨g.val, by omega⟩ y : EReal) * T ⟨g.val, by omega⟩ y
  | 0, h => by
    rw [Fin.sum_univ_one]; rfl
  | n + 1, h => by
    rw [Fin.sum_univ_castSucc]
    exact congrArg (fun e : EReal => e + (T ⟨n + 1, h⟩ y : EReal) * T ⟨n + 1, h⟩ y) (chain_at T y n (Nat.lt_of_succ_lt h))

/-- The column sums of a tile. -/
def colsum (v : FVec Ideal S8x128 .f32) : FVec Ideal S1x1x128 .f32 :=
  shapeCast S1x1x128 (shapeCast S1x128 (multiReduction .add [0] S128 v 0x00000000#32 reduces_S8x128_S128 (.inl rfl) rfl) shapeCasts_S128_S1x128) shapeCasts_S1x128_S1x1x128

theorem colsum_at (v : FVec Ideal S8x128 .f32) (a b : Fin 1) (l : Fin 128) : colsum v (ix3 a b l) = ∑ r : Fin 8, v (ix2 r l) := by
  pointwise! [colsum]

/-- A sum over the rows, as the kernel takes it: over the rows of each group of eight, of the sums over the groups. -/
theorem sum_rows (f : Fin 256 → EReal) : (∑ r : Fin 8, ∑ g : Fin 32, f ⟨8 * g.val + r.val, by omega⟩) = ∑ i : Fin 256, f i := by
  rw [Finset.sum_comm, ← Fintype.sum_prod_type' (f := fun (g : Fin 32) (r : Fin 8) => f ⟨8 * g.val + r.val, by omega⟩)]
  exact Fintype.sum_equiv (finProdFinEquiv (m := 32) (n := 8)) _ _ fun p => congrArg f (Fin.ext (Nat.add_comm _ _))

/-- One block of the activation, from the blocks of the inputs and the scaled weight scales and biases. -/
def blockH (q : FVec Ideal S1x256x1024 .fp8e4m3) (sv : FVec Ideal S256x128 .f32) (w : FVec Ideal S1024x4096 .fp8e4m3)
    (a8 a9 : FVec Ideal S1x4096 .f32) : FVec Ideal S256x4096 .f32 :=
  fun y => act ((∑ k : Fin 1024, q (ix3 0 (y 0) k) * w (ix2 k (y 1))) * sv (ix2 (y 0) ⟨(y 1).val % 128, Nat.mod_lt _ (by decide)⟩) * a8 (ix2 0 (y 1)) + a9 (ix2 0 (y 1)))

/-- One block of the column sums of its squares. -/
def blockN (q : FVec Ideal S1x256x1024 .fp8e4m3) (sv : FVec Ideal S256x128 .f32) (w : FVec Ideal S1024x4096 .fp8e4m3)
    (a8 a9 : FVec Ideal S1x4096 .f32) : FVec Ideal S1x1x4096 .f32 :=
  fun y => ∑ i : Fin 256, (blockH q sv w a8 a9 (ix2 i (y 2)) : EReal) * blockH q sv w a8 a9 (ix2 i (y 2))

section
variable (𝒱 : Variants) (c : Dev nD) (bd : Option 𝒱.V) (i : grid0.Coords) (arg1 : Memref sig .tc .vmem S1x256x1024 .fp8e4m3) (harg1 : arg1.IsWhole) (arg2 : Memref sig .tc .vmem S256x128 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S1x1x4096 .f32) (harg7 : arg7.IsWhole) (arg8 : Memref sig .tc .vmem S1x4096 .f32) (harg8 : arg8.IsWhole) (arg9 : Memref sig .tc .vmem S1x4096 .f32) (harg9 : arg9.IsWhole)
  (q : FVec Ideal S1x256x1024 .fp8e4m3) (sv : FVec Ideal S256x128 .f32) (w : FVec Ideal S1024x4096 .fp8e4m3) (a8 a9 : FVec Ideal S1x4096 .f32)

/-- The tile of one trip, one group of rows and one group of columns. -/
def tl (k : Fin k0_t1_loop.trips) (ct : Fin 4) (g : Fin 32) : FVec Ideal S8x128 .f32 :=
  tile (k0_pay6 (F := Ideal) (View.readAt (Elt Ideal) arg1.view (Rect.unit (s := S1x256x1024) ![0, 0, 0] S1x256x1024.size inb_S1x256x1024_S1x256x1024_0_0_0).toLoadRect (harg1.unread q))
      (View.readAt (Elt Ideal) arg3.view (Rect.unit (s := S1024x4096) (k0_off1 k) S1024x512.size (k0_off1_inb k)).toLoadRect (harg3.unread w)))
    (View.readAt (Elt Ideal) arg8.view (Rect.unit (s := S1x4096) (k0_off2 k (BitVec.ofNat 32 (128 * ct.val))) S1x128.size (k0_off2_inb k ct)).toLoadRect (harg8.unread a8))
    (View.readAt (Elt Ideal) arg9.view (Rect.unit (s := S1x4096) (k0_off2 k (BitVec.ofNat 32 (128 * ct.val))) S1x128.size (k0_off2_inb k ct)).toLoadRect (harg9.unread a9))
    (View.readAt (Elt Ideal) arg2.view (Rect.unit (s := S256x128) ![8 * g.val, 0] S8x128.size (by intro a; fin_cases a <;> simp <;> omega)).toLoadRect (harg2.unread sv))
    ![8 * g.val, 128 * ct.val] (slices_at g.val g.isLt ct.val ct.isLt)

theorem tl_at (k : Fin k0_t1_loop.trips) (ct : Fin 4) (g : Fin 32) (r : Fin 8) (l : Fin 128)
    (h0 : 8 * g.val + r.val < 256) (h1 : 512 * k.val + 128 * ct.val + l.val < 4096) :
    tl arg1 harg1 arg2 harg2 arg3 harg3 arg8 harg8 arg9 harg9 q sv w a8 a9 k ct g (ix2 r l)
      = blockH q sv w a8 a9 (ix2 ⟨8 * g.val + r.val, h0⟩ ⟨512 * k.val + 128 * ct.val + l.val, h1⟩) := by
  have e0 : k0_off1 k 0 = 0 := by rw [k0_off1_eq k]; rfl
  have e1 : k0_off1 k 1 = 512 * k.val := by rw [k0_off1_eq k]; rfl
  have e2 : k0_off2 k (BitVec.ofNat 32 (128 * ct.val)) 0 = 0 := by rw [k0_off2_eq k]; rfl
  have e3 : k0_off2 k (BitVec.ofNat 32 (128 * ct.val)) 1 = 512 * k.val + 128 * ct.val := by rw [k0_off2_eq k]; rfl
  unfold tl
  refine (tile_at _ _ _ _ _ _ (by omega) (by omega) _ _ _).trans ?_
  rw [mm_at]
  simp only [Memref.IsWhole.readAt_unread]
  unfold blockH
  refine congrArg act (congr (congrArg HAdd.hAdd (congr (congrArg HMul.hMul (congr (congrArg HMul.hMul (Finset.sum_congr rfl fun k _ => congr (congrArg HMul.hMul (congrArg _ (unit_idx _ _ ?_))) (congrArg _ (unit_idx _ _ ?_)))) (congrArg _ (unit_idx _ _ ?_)))) (congrArg _ (unit_idx _ _ ?_)))) (congrArg _ (unit_idx _ _ ?_)))
  all_goals (intro a; fin_cases a)
  all_goals simp [e0, e1, e2, e3]
  all_goals omega

/-- A store of a tile is the block's function on the places it names. -/
theorem h_piece (k : Fin k0_t1_loop.trips) (ct : Fin 4) (g : Fin 32) (off : Fin 2 → ℕ) (ho : off = ![8 * g.val, 512 * k.val + 128 * ct.val])
    (inb : ∀ a, off a + S8x128.size a ≤ S256x4096.size a) (v : FVec Ideal S8x128 .f32)
    (hv : v = tl arg1 harg1 arg2 harg2 arg3 harg3 arg8 harg8 arg9 harg9 q sv w a8 a9 k ct g) (x : S8x128.Idx) :
    v x = blockH q sv w a8 a9 ((Rect.unit (s := S256x4096) off S8x128.size inb).idx x) := by
  have hk : k.val < 8 := Nat.lt_of_lt_of_le k.isLt k0_t1_abs.2.1
  subst ho hv
  idx_vars x
  refine (tl_at arg1 harg1 arg2 harg2 arg3 harg3 arg8 harg8 arg9 harg9 q sv w a8 a9 k ct g _ _ (by omega) (by omega)).trans (congrArg (blockH _ _ _ _ _) (unit_idx _ _ ?_).symm)
  intro a; fin_cases a <;> simp

/-- A store of column sums is the block's function on the places it names. -/
theorem n_piece (k : Fin k0_t1_loop.trips) (ct : Fin 4) (off : Fin 3 → ℕ) (ho : off = ![0, 0, 512 * k.val + 128 * ct.val])
    (inb : ∀ a, off a + S1x1x128.size a ≤ S1x1x4096.size a) (v : FVec Ideal S1x1x128 .f32)
    (hv : v = colsum (chain (tl arg1 harg1 arg2 harg2 arg3 harg3 arg8 harg8 arg9 harg9 q sv w a8 a9 k ct) 31 (by decide))) (x : S1x1x128.Idx) :
    v x = blockN q sv w a8 a9 ((Rect.unit (s := S1x1x4096) off S1x1x128.size inb).idx x) := by
  have hk : k.val < 8 := Nat.lt_of_lt_of_le k.isLt k0_t1_abs.2.1
  subst ho hv
  idx_vars x
  have hl : 512 * k.val + 128 * ct.val + x2.val < 4096 := by omega
  refine Eq.trans ?_ (congrArg (blockN _ _ _ _ _) (unit_idx (ix3 x0 x1 x2) (ix3 0 0 ⟨512 * k.val + 128 * ct.val + x2.val, hl⟩) ?_).symm)
  · refine (colsum_at _ _ _ _).trans ?_
    unfold blockN
    rw [← sum_rows]
    refine Finset.sum_congr rfl fun r _ => ?_
    refine (chain_at _ _ _ _).trans (Finset.sum_congr rfl fun g _ => ?_)
    rw [tl_at arg1 harg1 arg2 harg2 arg3 harg3 arg8 harg8 arg9 harg9 q sv w a8 a9 k ct _ r x2 (by have := g.isLt; have := r.isLt; simp only; omega) hl]
    rfl
  · intro a; fin_cases a <;> simp

/-- One trip's stores of the activation are the block's function on the places they name. -/
theorem trip_h (k : Fin k0_t1_loop.trips) : View.PiecesOf (blockH q sv w a8 a9) (trip_k0_t1 (F := Ideal) 𝒱 c bd i arg1 harg1 arg2 harg2 arg3 harg3 arg4 harg4 arg5 harg5 arg6 harg6 arg7 harg7 arg8 harg8 arg9 harg9 (harg1.unread q) (harg2.unread sv) (harg3.unread w) (harg8.unread a8) (harg9.unread a9) k).1 := by
  unfold trip_k0_t1
  refine ⟨h_piece arg1 harg1 arg2 harg2 arg3 harg3 arg8 harg8 arg9 harg9 q sv w a8 a9 k 3 31 _ (k0_off34_eq k 3) (k0_off34_inb k 3) _ rfl,
    h_piece arg1 harg1 arg2 harg2 arg3 harg3 arg8 harg8 arg9 harg9 q sv w a8 a9 k 3 30 _ (k0_off33_eq k 3) (k0_off33_inb k 3) _ rfl,
    h_piece arg1 harg1 arg2 harg2 arg3 harg3 arg8 harg8 arg9 harg9 q sv w a8 a9 k 3 29 _ (k0_off32_eq k 3) (k0_off32_inb k 3) _ rfl,
    h_piece arg1 harg1 arg2 harg2 arg3 harg3 arg8 harg8 arg9 harg9 q sv w a8 a9 k 3 28 _ (k0_off31_eq k 3) (k0_off31_inb k 3) _ rfl,
    h_piece arg1 harg1 arg2 harg2 arg3 harg3 arg8 harg8 arg9 harg9 q sv w a8 a9 k 3 27 _ (k0_off30_eq k 3) (k0_off30_inb k 3) _ rfl,
    h_piece arg1 harg1 arg2 harg2 arg3 harg3 arg8 harg8 arg9 harg9 q sv w a8 a9 k 3 26 _ (k0_off29_eq k 3) (k0_off29_inb k 3) _ rfl,
    h_piece arg1 harg1 arg2 harg2 arg3 harg3 arg8 harg8 arg9 harg9 q sv w a8 a9 k 3 25 _ (k0_off28_eq k 3) (k0_off28_inb k 3) _ rfl,
    h_piece arg1 harg1 arg2 harg2 arg3 harg3 arg8 harg8 arg9 harg9 q sv w a8 a9 k 3 24 _ (k0_off27_eq k 3) (k0_off27_inb k 3) _ rfl,
    h_piece arg1 harg1 arg2 harg2 arg3 harg3 arg8 harg8 arg9 harg9 q sv w a8 a9 k 3 23 _ (k0_off26_eq k 3) (k0_off26_inb k 3) _ rfl,
    h_piece arg1 harg1 arg2 harg2 arg3 harg3 arg8 harg8 arg9 harg9 q sv w a8 a9 k 3 22 _ (k0_off25_eq k 3) (k0_off25_inb k 3) _ rfl,
    h_piece arg1 harg1 arg2 harg2 arg3 harg3 arg8 harg8 arg9 harg9 q sv w a8 a9 k 3 21 _ (k0_off24_eq k 3) (k0_off24_inb k 3) _ rfl,
    h_piece arg1 harg1 arg2 harg2 arg3 harg3 arg8 harg8 arg9 harg9 q sv w a8 a9 k 3 20 _ (k0_off23_eq k 3) (k0_off23_inb k 3) _ rfl,
    h_piece arg1 harg1 arg2 harg2 arg3 harg3 arg8 harg8 arg9 harg9 q sv w a8 a9 k 3 19 _ (k0_off22_eq k 3) (k0_off22_inb k 3) _ rfl,
    h_piece arg1 harg1 arg2 harg2 arg3 harg3 arg8 harg8 arg9 harg9 q sv w a8 a9 k 3 18 _ (k0_off21_eq k 3) (k0_off21_inb k 3) _ rfl,
    h_piece arg1 harg1 arg2 harg2 arg3 harg3 arg8 harg8 arg9 harg9 q sv w a8 a9 k 3 17 _ (k0_off20_eq k 3) (k0_off20_inb k 3) _ rfl,
    h_piece arg1 harg1 arg2 harg2 arg3 harg3 arg8 harg8 arg9 harg9 q sv w a8 a9 k 3 16 _ (k0_off19_eq k 3) (k0_off19_inb k 3) _ rfl,
    h_piece arg1 harg1 arg2 harg2 arg3 harg3 arg8 harg8 arg9 harg9 q sv w a8 a9 k 3 15 _ (k0_off18_eq k 3) (k0_off18_inb k 3) _ rfl,
    h_piece arg1 harg1 arg2 harg2 arg3 harg3 arg8 harg8 arg9 harg9 q sv w a8 a9 k 3 14 _ (k0_off17_eq k 3) (k0_off17_inb k 3) _ rfl,
    h_piece arg1 harg1 arg2 harg2 arg3 harg3 arg8 harg8 arg9 harg9 q sv w a8 a9 k 3 13 _ (k0_off16_eq k 3) (k0_off16_inb k 3) _ rfl,
    h_piece arg1 harg1 arg2 harg2 arg3 harg3 arg8 harg8 arg9 harg9 q sv w a8 a9 k 3 12 _ (k0_off15_eq k 3) (k0_off15_inb k 3) _ rfl,
    h_piece arg1 harg1 arg2 harg2 arg3 harg3 arg8 harg8 arg9 harg9 q sv w a8 a9 k 3 11 _ (k0_off14_eq k 3) (k0_off14_inb k 3) _ rfl,
    h_piece arg1 harg1 arg2 harg2 arg3 harg3 arg8 harg8 arg9 harg9 q sv w a8 a9 k 3 10 _ (k0_off13_eq k 3) (k0_off13_inb k 3) _ rfl,
    h_piece arg1 harg1 arg2 harg2 arg3 harg3 arg8 harg8 arg9 harg9 q sv w a8 a9 k 3 9 _ (k0_off12_eq k 3) (k0_off12_inb k 3) _ rfl,
    h_piece arg1 harg1 arg2 harg2 arg3 harg3 arg8 harg8 arg9 harg9 q sv w a8 a9 k 3 8 _ (k0_off11_eq k 3) (k0_off11_inb k 3) _ rfl,
    h_piece arg1 harg1 arg2 harg2 arg3 harg3 arg8 harg8 arg9 harg9 q sv w a8 a9 k 3 7 _ (k0_off10_eq k 3) (k0_off10_inb k 3) _ rfl,
    h_piece arg1 harg1 arg2 harg2 arg3 harg3 arg8 harg8 arg9 harg9 q sv w a8 a9 k 3 6 _ (k0_off9_eq k 3) (k0_off9_inb k 3) _ rfl,
    h_piece arg1 harg1 arg2 harg2 arg3 harg3 arg8 harg8 arg9 harg9 q sv w a8 a9 k 3 5 _ (k0_off8_eq k 3) (k0_off8_inb k 3) _ rfl,
    h_piece arg1 harg1 arg2 harg2 arg3 harg3 arg8 harg8 arg9 harg9 q sv w a8 a9 k 3 4 _ (k0_off7_eq k 3) (k0_off7_inb k 3) _ rfl,
    h_piece arg1 harg1 arg2 harg2 arg3 harg3 arg8 harg8 arg9 harg9 q sv w a8 a9 k 3 3 _ (k0_off6_eq k 3) (k0_off6_inb k 3) _ rfl,
    h_piece arg1 harg1 arg2 harg2 arg3 harg3 arg8 harg8 arg9 harg9 q sv w a8 a9 k 3 2 _ (k0_off5_eq k 3) (k0_off5_inb k 3) _ rfl,
    h_piece arg1 harg1 arg2 harg2 arg3 harg3 arg8 harg8 arg9 harg9 q sv w a8 a9 k 3 1 _ (k0_off4_eq k 3) (k0_off4_inb k 3) _ rfl,
    h_piece arg1 harg1 arg2 harg2 arg3 harg3 arg8 harg8 arg9 harg9 q sv w a8 a9 k 3 0 _ (k0_off3_eq k 3) (k0_off3_inb k 3) _ rfl,
    h_piece arg1 harg1 arg2 harg2 arg3 harg3 arg8 harg8 arg9 harg9 q sv w a8 a9 k 2 31 _ (k0_off34_eq k 2) (k0_off34_inb k 2) _ rfl,
    h_piece arg1 harg1 arg2 harg2 arg3 harg3 arg8 harg8 arg9 harg9 q sv w a8 a9 k 2 30 _ (k0_off33_eq k 2) (k0_off33_inb k 2) _ rfl,
    h_piece arg1 harg1 arg2 harg2 arg3 harg3 arg8 harg8 arg9 harg9 q sv w a8 a9 k 2 29 _ (k0_off32_eq k 2) (k0_off32_inb k 2) _ rfl,
    h_piece arg1 harg1 arg2 harg2 arg3 harg3 arg8 harg8 arg9 harg9 q sv w a8 a9 k 2 28 _ (k0_off31_eq k 2) (k0_off31_inb k 2) _ rfl,
    h_piece arg1 harg1 arg2 harg2 arg3 harg3 arg8 harg8 arg9 harg9 q sv w a8 a9 k 2 27 _ (k0_off30_eq k 2) (k0_off30_inb k 2) _ rfl,
    h_piece arg1 harg1 arg2 harg2 arg3 harg3 arg8 harg8 arg9 harg9 q sv w a8 a9 k 2 26 _ (k0_off29_eq k 2) (k0_off29_inb k 2) _ rfl,
    h_piece arg1 harg1 arg2 harg2 arg3 harg3 arg8 harg8 arg9 harg9 q sv w a8 a9 k 2 25 _ (k0_off28_eq k 2) (k0_off28_inb k 2) _ rfl,
    h_piece arg1 harg1 arg2 harg2 arg3 harg3 arg8 harg8 arg9 harg9 q sv w a8 a9 k 2 24 _ (k0_off27_eq k 2) (k0_off27_inb k 2) _ rfl,
    h_piece arg1 harg1 arg2 harg2 arg3 harg3 arg8 harg8 arg9 harg9 q sv w a8 a9 k 2 23 _ (k0_off26_eq k 2) (k0_off26_inb k 2) _ rfl,
    h_piece arg1 harg1 arg2 harg2 arg3 harg3 arg8 harg8 arg9 harg9 q sv w a8 a9 k 2 22 _ (k0_off25_eq k 2) (k0_off25_inb k 2) _ rfl,
    h_piece arg1 harg1 arg2 harg2 arg3 harg3 arg8 harg8 arg9 harg9 q sv w a8 a9 k 2 21 _ (k0_off24_eq k 2) (k0_off24_inb k 2) _ rfl,
    h_piece arg1 harg1 arg2 harg2 arg3 harg3 arg8 harg8 arg9 harg9 q sv w a8 a9 k 2 20 _ (k0_off23_eq k 2) (k0_off23_inb k 2) _ rfl,
    h_piece arg1 harg1 arg2 harg2 arg3 harg3 arg8 harg8 arg9 harg9 q sv w a8 a9 k 2 19 _ (k0_off22_eq k 2) (k0_off22_inb k 2) _ rfl,
    h_piece arg1 harg1 arg2 harg2 arg3 harg3 arg8 harg8 arg9 harg9 q sv w a8 a9 k 2 18 _ (k0_off21_eq k 2) (k0_off21_inb k 2) _ rfl,
    h_piece arg1 harg1 arg2 harg2 arg3 harg3 arg8 harg8 arg9 harg9 q sv w a8 a9 k 2 17 _ (k0_off20_eq k 2) (k0_off20_inb k 2) _ rfl,
    h_piece arg1 harg1 arg2 harg2 arg3 harg3 arg8 harg8 arg9 harg9 q sv w a8 a9 k 2 16 _ (k0_off19_eq k 2) (k0_off19_inb k 2) _ rfl,
    h_piece arg1 harg1 arg2 harg2 arg3 harg3 arg8 harg8 arg9 harg9 q sv w a8 a9 k 2 15 _ (k0_off18_eq k 2) (k0_off18_inb k 2) _ rfl,
    h_piece arg1 harg1 arg2 harg2 arg3 harg3 arg8 harg8 arg9 harg9 q sv w a8 a9 k 2 14 _ (k0_off17_eq k 2) (k0_off17_inb k 2) _ rfl,
    h_piece arg1 harg1 arg2 harg2 arg3 harg3 arg8 harg8 arg9 harg9 q sv w a8 a9 k 2 13 _ (k0_off16_eq k 2) (k0_off16_inb k 2) _ rfl,
    h_piece arg1 harg1 arg2 harg2 arg3 harg3 arg8 harg8 arg9 harg9 q sv w a8 a9 k 2 12 _ (k0_off15_eq k 2) (k0_off15_inb k 2) _ rfl,
    h_piece arg1 harg1 arg2 harg2 arg3 harg3 arg8 harg8 arg9 harg9 q sv w a8 a9 k 2 11 _ (k0_off14_eq k 2) (k0_off14_inb k 2) _ rfl,
    h_piece arg1 harg1 arg2 harg2 arg3 harg3 arg8 harg8 arg9 harg9 q sv w a8 a9 k 2 10 _ (k0_off13_eq k 2) (k0_off13_inb k 2) _ rfl,
    h_piece arg1 harg1 arg2 harg2 arg3 harg3 arg8 harg8 arg9 harg9 q sv w a8 a9 k 2 9 _ (k0_off12_eq k 2) (k0_off12_inb k 2) _ rfl,
    h_piece arg1 harg1 arg2 harg2 arg3 harg3 arg8 harg8 arg9 harg9 q sv w a8 a9 k 2 8 _ (k0_off11_eq k 2) (k0_off11_inb k 2) _ rfl,
    h_piece arg1 harg1 arg2 harg2 arg3 harg3 arg8 harg8 arg9 harg9 q sv w a8 a9 k 2 7 _ (k0_off10_eq k 2) (k0_off10_inb k 2) _ rfl,
    h_piece arg1 harg1 arg2 harg2 arg3 harg3 arg8 harg8 arg9 harg9 q sv w a8 a9 k 2 6 _ (k0_off9_eq k 2) (k0_off9_inb k 2) _ rfl,
    h_piece arg1 harg1 arg2 harg2 arg3 harg3 arg8 harg8 arg9 harg9 q sv w a8 a9 k 2 5 _ (k0_off8_eq k 2) (k0_off8_inb k 2) _ rfl,
    h_piece arg1 harg1 arg2 harg2 arg3 harg3 arg8 harg8 arg9 harg9 q sv w a8 a9 k 2 4 _ (k0_off7_eq k 2) (k0_off7_inb k 2) _ rfl,
    h_piece arg1 harg1 arg2 harg2 arg3 harg3 arg8 harg8 arg9 harg9 q sv w a8 a9 k 2 3 _ (k0_off6_eq k 2) (k0_off6_inb k 2) _ rfl,
    h_piece arg1 harg1 arg2 harg2 arg3 harg3 arg8 harg8 arg9 harg9 q sv w a8 a9 k 2 2 _ (k0_off5_eq k 2) (k0_off5_inb k 2) _ rfl,
    h_piece arg1 harg1 arg2 harg2 arg3 harg3 arg8 harg8 arg9 harg9 q sv w a8 a9 k 2 1 _ (k0_off4_eq k 2) (k0_off4_inb k 2) _ rfl,
    h_piece arg1 harg1 arg2 harg2 arg3 harg3 arg8 harg8 arg9 harg9 q sv w a8 a9 k 2 0 _ (k0_off3_eq k 2) (k0_off3_inb k 2) _ rfl,
    h_piece arg1 harg1 arg2 harg2 arg3 harg3 arg8 harg8 arg9 harg9 q sv w a8 a9 k 1 31 _ (k0_off34_eq k 1) (k0_off34_inb k 1) _ rfl,
    h_piece arg1 harg1 arg2 harg2 arg3 harg3 arg8 harg8 arg9 harg9 q sv w a8 a9 k 1 30 _ (k0_off33_eq k 1) (k0_off33_inb k 1) _ rfl,
    h_piece arg1 harg1 arg2 harg2 arg3 harg3 arg8 harg8 arg9 harg9 q sv w a8 a9 k 1 29 _ (k0_off32_eq k 1) (k0_off32_inb k 1) _ rfl,
    h_piece arg1 harg1 arg2 harg2 arg3 harg3 arg8 harg8 arg9 harg9 q sv w a8 a9 k 1 28 _ (k0_off31_eq k 1) (k0_off31_inb k 1) _ rfl,
    h_piece arg1 harg1 arg2 harg2 arg3 harg3 arg8 harg8 arg9 harg9 q sv w a8 a9 k 1 27 _ (k0_off30_eq k 1) (k0_off30_inb k 1) _ rfl,
    h_piece arg1 harg1 arg2 harg2 arg3 harg3 arg8 harg8 arg9 harg9 q sv w a8 a9 k 1 26 _ (k0_off29_eq k 1) (k0_off29_inb k 1) _ rfl,
    h_piece arg1 harg1 arg2 harg2 arg3 harg3 arg8 harg8 arg9 harg9 q sv w a8 a9 k 1 25 _ (k0_off28_eq k 1) (k0_off28_inb k 1) _ rfl,
    h_piece arg1 harg1 arg2 harg2 arg3 harg3 arg8 harg8 arg9 harg9 q sv w a8 a9 k 1 24 _ (k0_off27_eq k 1) (k0_off27_inb k 1) _ rfl,
    h_piece arg1 harg1 arg2 harg2 arg3 harg3 arg8 harg8 arg9 harg9 q sv w a8 a9 k 1 23 _ (k0_off26_eq k 1) (k0_off26_inb k 1) _ rfl,
    h_piece arg1 harg1 arg2 harg2 arg3 harg3 arg8 harg8 arg9 harg9 q sv w a8 a9 k 1 22 _ (k0_off25_eq k 1) (k0_off25_inb k 1) _ rfl,
    h_piece arg1 harg1 arg2 harg2 arg3 harg3 arg8 harg8 arg9 harg9 q sv w a8 a9 k 1 21 _ (k0_off24_eq k 1) (k0_off24_inb k 1) _ rfl,
    h_piece arg1 harg1 arg2 harg2 arg3 harg3 arg8 harg8 arg9 harg9 q sv w a8 a9 k 1 20 _ (k0_off23_eq k 1) (k0_off23_inb k 1) _ rfl,
    h_piece arg1 harg1 arg2 harg2 arg3 harg3 arg8 harg8 arg9 harg9 q sv w a8 a9 k 1 19 _ (k0_off22_eq k 1) (k0_off22_inb k 1) _ rfl,
    h_piece arg1 harg1 arg2 harg2 arg3 harg3 arg8 harg8 arg9 harg9 q sv w a8 a9 k 1 18 _ (k0_off21_eq k 1) (k0_off21_inb k 1) _ rfl,
    h_piece arg1 harg1 arg2 harg2 arg3 harg3 arg8 harg8 arg9 harg9 q sv w a8 a9 k 1 17 _ (k0_off20_eq k 1) (k0_off20_inb k 1) _ rfl,
    h_piece arg1 harg1 arg2 harg2 arg3 harg3 arg8 harg8 arg9 harg9 q sv w a8 a9 k 1 16 _ (k0_off19_eq k 1) (k0_off19_inb k 1) _ rfl,
    h_piece arg1 harg1 arg2 harg2 arg3 harg3 arg8 harg8 arg9 harg9 q sv w a8 a9 k 1 15 _ (k0_off18_eq k 1) (k0_off18_inb k 1) _ rfl,
    h_piece arg1 harg1 arg2 harg2 arg3 harg3 arg8 harg8 arg9 harg9 q sv w a8 a9 k 1 14 _ (k0_off17_eq k 1) (k0_off17_inb k 1) _ rfl,
    h_piece arg1 harg1 arg2 harg2 arg3 harg3 arg8 harg8 arg9 harg9 q sv w a8 a9 k 1 13 _ (k0_off16_eq k 1) (k0_off16_inb k 1) _ rfl,
    h_piece arg1 harg1 arg2 harg2 arg3 harg3 arg8 harg8 arg9 harg9 q sv w a8 a9 k 1 12 _ (k0_off15_eq k 1) (k0_off15_inb k 1) _ rfl,
    h_piece arg1 harg1 arg2 harg2 arg3 harg3 arg8 harg8 arg9 harg9 q sv w a8 a9 k 1 11 _ (k0_off14_eq k 1) (k0_off14_inb k 1) _ rfl,
    h_piece arg1 harg1 arg2 harg2 arg3 harg3 arg8 harg8 arg9 harg9 q sv w a8 a9 k 1 10 _ (k0_off13_eq k 1) (k0_off13_inb k 1) _ rfl,
    h_piece arg1 harg1 arg2 harg2 arg3 harg3 arg8 harg8 arg9 harg9 q sv w a8 a9 k 1 9 _ (k0_off12_eq k 1) (k0_off12_inb k 1) _ rfl,
    h_piece arg1 harg1 arg2 harg2 arg3 harg3 arg8 harg8 arg9 harg9 q sv w a8 a9 k 1 8 _ (k0_off11_eq k 1) (k0_off11_inb k 1) _ rfl,
    h_piece arg1 harg1 arg2 harg2 arg3 harg3 arg8 harg8 arg9 harg9 q sv w a8 a9 k 1 7 _ (k0_off10_eq k 1) (k0_off10_inb k 1) _ rfl,
    h_piece arg1 harg1 arg2 harg2 arg3 harg3 arg8 harg8 arg9 harg9 q sv w a8 a9 k 1 6 _ (k0_off9_eq k 1) (k0_off9_inb k 1) _ rfl,
    h_piece arg1 harg1 arg2 harg2 arg3 harg3 arg8 harg8 arg9 harg9 q sv w a8 a9 k 1 5 _ (k0_off8_eq k 1) (k0_off8_inb k 1) _ rfl,
    h_piece arg1 harg1 arg2 harg2 arg3 harg3 arg8 harg8 arg9 harg9 q sv w a8 a9 k 1 4 _ (k0_off7_eq k 1) (k0_off7_inb k 1) _ rfl,
    h_piece arg1 harg1 arg2 harg2 arg3 harg3 arg8 harg8 arg9 harg9 q sv w a8 a9 k 1 3 _ (k0_off6_eq k 1) (k0_off6_inb k 1) _ rfl,
    h_piece arg1 harg1 arg2 harg2 arg3 harg3 arg8 harg8 arg9 harg9 q sv w a8 a9 k 1 2 _ (k0_off5_eq k 1) (k0_off5_inb k 1) _ rfl,
    h_piece arg1 harg1 arg2 harg2 arg3 harg3 arg8 harg8 arg9 harg9 q sv w a8 a9 k 1 1 _ (k0_off4_eq k 1) (k0_off4_inb k 1) _ rfl,
    h_piece arg1 harg1 arg2 harg2 arg3 harg3 arg8 harg8 arg9 harg9 q sv w a8 a9 k 1 0 _ (k0_off3_eq k 1) (k0_off3_inb k 1) _ rfl,
    h_piece arg1 harg1 arg2 harg2 arg3 harg3 arg8 harg8 arg9 harg9 q sv w a8 a9 k 0 31 _ (k0_off34_eq k 0) (k0_off34_inb k 0) _ rfl,
    h_piece arg1 harg1 arg2 harg2 arg3 harg3 arg8 harg8 arg9 harg9 q sv w a8 a9 k 0 30 _ (k0_off33_eq k 0) (k0_off33_inb k 0) _ rfl,
    h_piece arg1 harg1 arg2 harg2 arg3 harg3 arg8 harg8 arg9 harg9 q sv w a8 a9 k 0 29 _ (k0_off32_eq k 0) (k0_off32_inb k 0) _ rfl,
    h_piece arg1 harg1 arg2 harg2 arg3 harg3 arg8 harg8 arg9 harg9 q sv w a8 a9 k 0 28 _ (k0_off31_eq k 0) (k0_off31_inb k 0) _ rfl,
    h_piece arg1 harg1 arg2 harg2 arg3 harg3 arg8 harg8 arg9 harg9 q sv w a8 a9 k 0 27 _ (k0_off30_eq k 0) (k0_off30_inb k 0) _ rfl,
    h_piece arg1 harg1 arg2 harg2 arg3 harg3 arg8 harg8 arg9 harg9 q sv w a8 a9 k 0 26 _ (k0_off29_eq k 0) (k0_off29_inb k 0) _ rfl,
    h_piece arg1 harg1 arg2 harg2 arg3 harg3 arg8 harg8 arg9 harg9 q sv w a8 a9 k 0 25 _ (k0_off28_eq k 0) (k0_off28_inb k 0) _ rfl,
    h_piece arg1 harg1 arg2 harg2 arg3 harg3 arg8 harg8 arg9 harg9 q sv w a8 a9 k 0 24 _ (k0_off27_eq k 0) (k0_off27_inb k 0) _ rfl,
    h_piece arg1 harg1 arg2 harg2 arg3 harg3 arg8 harg8 arg9 harg9 q sv w a8 a9 k 0 23 _ (k0_off26_eq k 0) (k0_off26_inb k 0) _ rfl,
    h_piece arg1 harg1 arg2 harg2 arg3 harg3 arg8 harg8 arg9 harg9 q sv w a8 a9 k 0 22 _ (k0_off25_eq k 0) (k0_off25_inb k 0) _ rfl,
    h_piece arg1 harg1 arg2 harg2 arg3 harg3 arg8 harg8 arg9 harg9 q sv w a8 a9 k 0 21 _ (k0_off24_eq k 0) (k0_off24_inb k 0) _ rfl,
    h_piece arg1 harg1 arg2 harg2 arg3 harg3 arg8 harg8 arg9 harg9 q sv w a8 a9 k 0 20 _ (k0_off23_eq k 0) (k0_off23_inb k 0) _ rfl,
    h_piece arg1 harg1 arg2 harg2 arg3 harg3 arg8 harg8 arg9 harg9 q sv w a8 a9 k 0 19 _ (k0_off22_eq k 0) (k0_off22_inb k 0) _ rfl,
    h_piece arg1 harg1 arg2 harg2 arg3 harg3 arg8 harg8 arg9 harg9 q sv w a8 a9 k 0 18 _ (k0_off21_eq k 0) (k0_off21_inb k 0) _ rfl,
    h_piece arg1 harg1 arg2 harg2 arg3 harg3 arg8 harg8 arg9 harg9 q sv w a8 a9 k 0 17 _ (k0_off20_eq k 0) (k0_off20_inb k 0) _ rfl,
    h_piece arg1 harg1 arg2 harg2 arg3 harg3 arg8 harg8 arg9 harg9 q sv w a8 a9 k 0 16 _ (k0_off19_eq k 0) (k0_off19_inb k 0) _ rfl,
    h_piece arg1 harg1 arg2 harg2 arg3 harg3 arg8 harg8 arg9 harg9 q sv w a8 a9 k 0 15 _ (k0_off18_eq k 0) (k0_off18_inb k 0) _ rfl,
    h_piece arg1 harg1 arg2 harg2 arg3 harg3 arg8 harg8 arg9 harg9 q sv w a8 a9 k 0 14 _ (k0_off17_eq k 0) (k0_off17_inb k 0) _ rfl,
    h_piece arg1 harg1 arg2 harg2 arg3 harg3 arg8 harg8 arg9 harg9 q sv w a8 a9 k 0 13 _ (k0_off16_eq k 0) (k0_off16_inb k 0) _ rfl,
    h_piece arg1 harg1 arg2 harg2 arg3 harg3 arg8 harg8 arg9 harg9 q sv w a8 a9 k 0 12 _ (k0_off15_eq k 0) (k0_off15_inb k 0) _ rfl,
    h_piece arg1 harg1 arg2 harg2 arg3 harg3 arg8 harg8 arg9 harg9 q sv w a8 a9 k 0 11 _ (k0_off14_eq k 0) (k0_off14_inb k 0) _ rfl,
    h_piece arg1 harg1 arg2 harg2 arg3 harg3 arg8 harg8 arg9 harg9 q sv w a8 a9 k 0 10 _ (k0_off13_eq k 0) (k0_off13_inb k 0) _ rfl,
    h_piece arg1 harg1 arg2 harg2 arg3 harg3 arg8 harg8 arg9 harg9 q sv w a8 a9 k 0 9 _ (k0_off12_eq k 0) (k0_off12_inb k 0) _ rfl,
    h_piece arg1 harg1 arg2 harg2 arg3 harg3 arg8 harg8 arg9 harg9 q sv w a8 a9 k 0 8 _ (k0_off11_eq k 0) (k0_off11_inb k 0) _ rfl,
    h_piece arg1 harg1 arg2 harg2 arg3 harg3 arg8 harg8 arg9 harg9 q sv w a8 a9 k 0 7 _ (k0_off10_eq k 0) (k0_off10_inb k 0) _ rfl,
    h_piece arg1 harg1 arg2 harg2 arg3 harg3 arg8 harg8 arg9 harg9 q sv w a8 a9 k 0 6 _ (k0_off9_eq k 0) (k0_off9_inb k 0) _ rfl,
    h_piece arg1 harg1 arg2 harg2 arg3 harg3 arg8 harg8 arg9 harg9 q sv w a8 a9 k 0 5 _ (k0_off8_eq k 0) (k0_off8_inb k 0) _ rfl,
    h_piece arg1 harg1 arg2 harg2 arg3 harg3 arg8 harg8 arg9 harg9 q sv w a8 a9 k 0 4 _ (k0_off7_eq k 0) (k0_off7_inb k 0) _ rfl,
    h_piece arg1 harg1 arg2 harg2 arg3 harg3 arg8 harg8 arg9 harg9 q sv w a8 a9 k 0 3 _ (k0_off6_eq k 0) (k0_off6_inb k 0) _ rfl,
    h_piece arg1 harg1 arg2 harg2 arg3 harg3 arg8 harg8 arg9 harg9 q sv w a8 a9 k 0 2 _ (k0_off5_eq k 0) (k0_off5_inb k 0) _ rfl,
    h_piece arg1 harg1 arg2 harg2 arg3 harg3 arg8 harg8 arg9 harg9 q sv w a8 a9 k 0 1 _ (k0_off4_eq k 0) (k0_off4_inb k 0) _ rfl,
    h_piece arg1 harg1 arg2 harg2 arg3 harg3 arg8 harg8 arg9 harg9 q sv w a8 a9 k 0 0 _ (k0_off3_eq k 0) (k0_off3_inb k 0) _ rfl, trivial⟩

/-- One trip's stores of the column sums likewise. -/
theorem trip_n (k : Fin k0_t1_loop.trips) : View.PiecesOf (blockN q sv w a8 a9) (trip_k0_t1 (F := Ideal) 𝒱 c bd i arg1 harg1 arg2 harg2 arg3 harg3 arg4 harg4 arg5 harg5 arg6 harg6 arg7 harg7 arg8 harg8 arg9 harg9 (harg1.unread q) (harg2.unread sv) (harg3.unread w) (harg8.unread a8) (harg9.unread a9) k).2.1 := by
  unfold trip_k0_t1
  refine ⟨n_piece arg1 harg1 arg2 harg2 arg3 harg3 arg8 harg8 arg9 harg9 q sv w a8 a9 k 3 _ (k0_off35_eq k 3) (k0_off35_inb k 3) _ rfl,
    n_piece arg1 harg1 arg2 harg2 arg3 harg3 arg8 harg8 arg9 harg9 q sv w a8 a9 k 2 _ (k0_off35_eq k 2) (k0_off35_inb k 2) _ rfl,
    n_piece arg1 harg1 arg2 harg2 arg3 harg3 arg8 harg8 arg9 harg9 q sv w a8 a9 k 1 _ (k0_off35_eq k 1) (k0_off35_inb k 1) _ rfl,
    n_piece arg1 harg1 arg2 harg2 arg3 harg3 arg8 harg8 arg9 harg9 q sv w a8 a9 k 0 _ (k0_off35_eq k 0) (k0_off35_inb k 0) _ rfl, trivial⟩

/-- The stores of any number of trips. -/
theorem pieces : ∀ n, n ≤ k0_t1_loop.trips →
    View.PiecesOf (blockH q sv w a8 a9) (pb_k0_t1 (F := Ideal) 𝒱 c bd i arg1 harg1 arg2 harg2 arg3 harg3 arg4 harg4 arg5 harg5 arg6 harg6 arg7 harg7 arg8 harg8 arg9 harg9 (harg1.unread q) (harg2.unread sv) (harg3.unread w) (harg8.unread a8) (harg9.unread a9) n).1
      ∧ View.PiecesOf (blockN q sv w a8 a9) (pb_k0_t1 (F := Ideal) 𝒱 c bd i arg1 harg1 arg2 harg2 arg3 harg3 arg4 harg4 arg5 harg5 arg6 harg6 arg7 harg7 arg8 harg8 arg9 harg9 (harg1.unread q) (harg2.unread sv) (harg3.unread w) (harg8.unread a8) (harg9.unread a9) n).2
  | 0, _ => ⟨trivial, trivial⟩
  | n + 1, h => by
    rw [pb_k0_t1_succ (F := Ideal) 𝒱 c bd i arg1 harg1 arg2 harg2 arg3 harg3 arg4 harg4 arg5 harg5 arg6 harg6 arg7 harg7 arg8 harg8 arg9 harg9 _ _ _ _ _ ⟨n, h⟩]
    obtain ⟨p, p'⟩ := pieces n (Nat.le_of_succ_le h)
    exact ⟨piecesOf_append _ _ (trip_h ..) p, piecesOf_append _ _ (trip_n ..) p'⟩

end

/-- A row times the square root of a half. -/
def half (x : FVec Ideal S1x4096 .f32) : FVec Ideal S1x4096 .f32 := fun y => x y * ((Real.sqrt (1 / 2) : ℝ) : EReal)

/-- The named constant is the square root of a half. -/
theorem named_half : Named.named (F := Ideal) κ "sqrt_half" (φ := .f32) 0x3F3504F3#32 = ((Real.sqrt (1 / 2) : ℝ) : EReal) :=
  IdealRules.named_const.ideal_named_scalar _ _ _ _ rfl

theorem pay1_at (x : FVec Ideal S1x4096 .f32) (a : Fin 1) (l : Fin 4096) : k0_pay1 (F := Ideal) x (ix2 a l) = half x (ix2 0 l) := by
  obtain rfl : a = 0 := Subsingleton.elim _ _
  unfold half
  rw [← named_half]
  pointwise! [k0_pay1]

theorem pay2_at (x : FVec Ideal S1x4096 .f32) (a : Fin 1) (l : Fin 4096) : k0_pay2 (F := Ideal) x (ix2 a l) = half x (ix2 0 l) := by
  obtain rfl : a = 0 := Subsingleton.elim _ _
  unfold half
  rw [← named_half]
  pointwise! [k0_pay2]

/-- The first point's store into a carried row. -/
theorem hs0 (c : Dev nD) (arg : Memref sig .tc .vmem S1x4096 .f32) (harg : arg.IsWhole) (x : FVec Ideal S1x4096 .f32) :
    View.PiecesOf (half x) (kernelRun0_A.sl.HS0_1 (F := Ideal) c arg harg x) := by
  unfold kernelRun0_A.sl.HS0_1
  refine ⟨fun (y : S1x4096.Idx) => ?_, trivial⟩
  idx_vars y
  refine (pay1_at _ _ _).trans ?_
  unfold half
  simp only [Memref.IsWhole.readAt_unread]
  refine congr (congrArg HMul.hMul (congrArg x ((unit_idx _ (ix2 0 y1) ?_).trans (unit_idx _ (ix2 0 y1) ?_).symm))) rfl
  all_goals (intro a; fin_cases a <;> simp)

/-- What the carried row holds after the first point. -/
theorem sc0 (c : Dev nD) (t : Fin cfg0.N) (h : t.val % 6 = 0) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) = half (iblk m c 3 t) := by
  funext y
  unfold sout0_A_0
  refine View.read_writes_apply_of_pieces _ _ _ _ (View.PiecesOf.mem ?_) y (scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y)
  unfold kernelRun0_A
  exact hs0 c _ _ _

/-- The loop of the first point reads the row just stored. -/
theorem x0 (c : Dev nD) (t : Fin cfg0.N) (h : t.val % 6 = 0) :
    scM0_0.view.writes (Elt Ideal) scM0_0.view.junk (kernelRun0_A.sl.HS0_1 (F := Ideal) c (ms0_3 t) (hs0_3 t) (iblk m c 3 t))
      = (Memref.isWhole_whole _).unread (half (iblk m c 3 t)) := by
  refine Memref.IsWhole.eq_unread _ (funext fun y => ?_)
  refine View.read_writes_apply_of_pieces _ _ _ _ (View.PiecesOf.mem (hs0 c _ _ _)) y ?_
  have hc := scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y
  unfold kernelRun0_A at hc
  exact hc

/-- The first point's store into a carried row. -/
theorem hs1 (c : Dev nD) (arg : Memref sig .tc .vmem S1x4096 .f32) (harg : arg.IsWhole) (x : FVec Ideal S1x4096 .f32) :
    View.PiecesOf (half x) (kernelRun0_A.sl.HS1_1 (F := Ideal) c arg harg x) := by
  unfold kernelRun0_A.sl.HS1_1
  refine ⟨fun (y : S1x4096.Idx) => ?_, trivial⟩
  idx_vars y
  refine (pay2_at _ _ _).trans ?_
  unfold half
  simp only [Memref.IsWhole.readAt_unread]
  refine congr (congrArg HMul.hMul (congrArg x ((unit_idx _ (ix2 0 y1) ?_).trans (unit_idx _ (ix2 0 y1) ?_).symm))) rfl
  all_goals (intro a; fin_cases a <;> simp)

/-- What the carried row holds after the first point. -/
theorem sc1 (c : Dev nD) (t : Fin cfg0.N) (h : t.val % 6 = 0) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) = half (iblk m c 4 t) := by
  funext y
  unfold sout0_A_1
  refine View.read_writes_apply_of_pieces _ _ _ _ (View.PiecesOf.mem ?_) y (scover0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y)
  unfold kernelRun0_A
  exact hs1 c _ _ _

/-- The loop of the first point reads the row just stored. -/
theorem x1 (c : Dev nD) (t : Fin cfg0.N) (h : t.val % 6 = 0) :
    scM0_1.view.writes (Elt Ideal) scM0_1.view.junk (kernelRun0_A.sl.HS1_1 (F := Ideal) c (ms0_4 t) (hs0_4 t) (iblk m c 4 t))
      = (Memref.isWhole_whole _).unread (half (iblk m c 4 t)) := by
  refine Memref.IsWhole.eq_unread _ (funext fun y => ?_)
  refine View.read_writes_apply_of_pieces _ _ _ _ (View.PiecesOf.mem (hs1 c _ _ _)) y ?_
  have hc := scover0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y
  unfold kernelRun0_A at hc
  exact hc

theorem out_A_5 (c : Dev nD) (t : Fin cfg0.N) (h : t.val % 6 = 0) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) = blockH (iblk m c 0 t) (iblk m c 1 t) (iblk m c 2 t) (half (iblk m c 3 t)) (half (iblk m c 4 t)) := by
  funext y
  have hc := cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y
  unfold out0_A_5
  refine View.read_writes_apply_of_pieces _ _ _ _ (View.PiecesOf.mem ?_) y hc
  unfold kernelRun0_A
  dsimp only
  rw [x0 m c t h, x1 m c t h]
  exact (pieces _ c none (grid0.coords t) _ (hs0_0 t) _ (hs0_1 t) _ (hs0_2 t) _ (hs0_3 t) _ (hs0_4 t) _ (hs0_5 t) _ (hs0_6 t) _ (Memref.isWhole_whole _) _ (Memref.isWhole_whole _) _ _ _ _ _ _ le_rfl).1

theorem out_B_5 (c : Dev nD) (t : Fin cfg0.N) (h : ¬ t.val % 6 = 0) (a8 a9 : FVec Ideal S1x4096 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h ((hcond0_0 t).mp h')) (iblk m c 0 t) (iblk m c 1 t) (iblk m c 2 t) (iblk m c 3 t) (iblk m c 4 t) a8 a9 = blockH (iblk m c 0 t) (iblk m c 1 t) (iblk m c 2 t) a8 a9 := by
  funext y
  have hc := cover0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h ((hcond0_0 t).mp h')) (iblk m c 0 t) (iblk m c 1 t) (iblk m c 2 t) (iblk m c 3 t) (iblk m c 4 t) a8 a9 y
  unfold out0_B_5
  refine View.read_writes_apply_of_pieces _ _ _ _ (View.PiecesOf.mem ?_) y hc
  unfold kernelRun0_B
  exact (pieces _ c none (grid0.coords t) _ (hs0_0 t) _ (hs0_1 t) _ (hs0_2 t) _ (hs0_3 t) _ (hs0_4 t) _ (hs0_5 t) _ (hs0_6 t) _ (Memref.isWhole_whole _) _ (Memref.isWhole_whole _) _ _ _ _ _ _ le_rfl).1

theorem out_A_6 (c : Dev nD) (t : Fin cfg0.N) (h : t.val % 6 = 0) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) = blockN (iblk m c 0 t) (iblk m c 1 t) (iblk m c 2 t) (half (iblk m c 3 t)) (half (iblk m c 4 t)) := by
  funext y
  have hc := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h) (iblk m c 0 t) (iblk m c 1 t) (iblk m c 2 t) (iblk m c 3 t) (iblk m c 4 t) y
  unfold out0_A_6
  refine View.read_writes_apply_of_pieces _ _ _ _ (View.PiecesOf.mem ?_) y hc
  unfold kernelRun0_A
  dsimp only
  rw [x0 m c t h, x1 m c t h]
  exact (pieces _ c none (grid0.coords t) _ (hs0_0 t) _ (hs0_1 t) _ (hs0_2 t) _ (hs0_3 t) _ (hs0_4 t) _ (hs0_5 t) _ (hs0_6 t) _ (Memref.isWhole_whole _) _ (Memref.isWhole_whole _) _ _ _ _ _ _ le_rfl).2

theorem out_B_6 (c : Dev nD) (t : Fin cfg0.N) (h : ¬ t.val % 6 = 0) (a8 a9 : FVec Ideal S1x4096 .f32) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h ((hcond0_0 t).mp h')) (iblk m c 0 t) (iblk m c 1 t) (iblk m c 2 t) (iblk m c 3 t) (iblk m c 4 t) a8 a9 = blockN (iblk m c 0 t) (iblk m c 1 t) (iblk m c 2 t) a8 a9 := by
  funext y
  have hc := cover0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h ((hcond0_0 t).mp h')) (iblk m c 0 t) (iblk m c 1 t) (iblk m c 2 t) (iblk m c 3 t) (iblk m c 4 t) a8 a9 y
  unfold out0_B_6
  refine View.read_writes_apply_of_pieces _ _ _ _ (View.PiecesOf.mem ?_) y hc
  unfold kernelRun0_B
  exact (pieces _ c none (grid0.coords t) _ (hs0_0 t) _ (hs0_1 t) _ (hs0_2 t) _ (hs0_3 t) _ (hs0_4 t) _ (hs0_5 t) _ (hs0_6 t) _ (Memref.isWhole_whole _) _ (Memref.isWhole_whole _) _ _ _ _ _ _ le_rfl).2

/-- A vector as a row. -/
def row (x : FVec Ideal S4096 .f32) : FVec Ideal S1x4096 .f32 := fun y => x (ix1 (y 1))

theorem div_lt (a : Fin 1536) : a.val / 256 < 6 := by omega

/-- The activation, from the five arguments. -/
def GH (q1 : FVec Ideal S6x256x1024 .fp8e4m3) (s1 : FVec Ideal S6x256 .f32) (w1 : FVec Ideal S1024x4096 .fp8e4m3)
    (w1s b1 : FVec Ideal S4096 .f32) : FVec Ideal S1536x4096 .f32 :=
  fun y => act ((∑ k : Fin 1024, q1 (ix3 ⟨(y 0).val / 256, div_lt (y 0)⟩ ⟨(y 0).val % 256, Nat.mod_lt _ (by decide)⟩ k) * w1 (ix2 k (y 1)))
    * s1 (ix2 ⟨(y 0).val / 256, div_lt (y 0)⟩ ⟨(y 0).val % 256, Nat.mod_lt _ (by decide)⟩) * half (row w1s) (ix2 0 (y 1)) + half (row b1) (ix2 0 (y 1)))

theorem row_lt (a : Fin 6) (b : Fin 256) : 256 * a.val + b.val < 1536 := by omega

/-- The column sums of its squares. -/
def GN (q1 : FVec Ideal S6x256x1024 .fp8e4m3) (s1 : FVec Ideal S6x256 .f32) (w1 : FVec Ideal S1024x4096 .fp8e4m3)
    (w1s b1 : FVec Ideal S4096 .f32) : FVec Ideal S6x1x4096 .f32 :=
  fun y => ∑ i : Fin 256, (GH q1 s1 w1 w1s b1 (ix2 ⟨256 * (y 0).val + i.val, row_lt (y 0) i⟩ (y 2)) : EReal) * GH q1 s1 w1 w1s b1 (ix2 ⟨256 * (y 0).val + i.val, row_lt (y 0) i⟩ (y 2))

/-- Which block of each window a grid point sees. -/
theorem idx : ∀ t : Fin cfg0.N, win0_0.index t = ![t.val, 0, 0] ∧ win0_1.index t = ![t.val, 0] ∧ win0_2.index t = ![0, 0] ∧
    win0_3.index t = ![0, 0] ∧ win0_4.index t = ![0, 0] ∧ win0_5.index t = ![t.val, 0] ∧ win0_6.index t = ![t.val, 0, 0] :=
  (by decide +kernel : ∀ t : Fin grid0.N, _)

/-- The per-row scale, laid out over the lanes. -/
theorem V_s1b (c : Dev nD) (a : Fin 6) (b : Fin 256) (l : Fin 128) :
    (V m c main_v1 : FVec Ideal S1536x128 .f32) (ix2 ⟨256 * a.val + b.val, row_lt a b⟩ l) = (m ((c : Thread nD τ).loc main_arg1) : FVec Ideal S6x256 .f32) (ix2 a b) := by
  entry_read
  pointwise
  exact congrArg _ (congr (congrArg ix2 (Fin.ext (by dsimp only; omega))) (Fin.ext (by dsimp only; omega)))

theorem V_w1s (c : Dev nD) (a : Fin 1) (b : Fin 4096) :
    (V m c main_v2 : FVec Ideal S1x4096 .f32) (ix2 a b) = (m ((c : Thread nD τ).loc main_arg3) : FVec Ideal S4096 .f32) (ix1 b) := by
  entry_read
  pointwise

theorem V_b1 (c : Dev nD) (a : Fin 1) (b : Fin 4096) :
    (V m c main_v3 : FVec Ideal S1x4096 .f32) (ix2 a b) = (m ((c : Thread nD τ).loc main_arg4) : FVec Ideal S4096 .f32) (ix1 b) := by
  entry_read
  pointwise

/-- The weight scales' block is all of them, at every grid point. -/
theorem blk_w1s (c : Dev nD) (t : Fin cfg0.N) : (iblk m c 3 t : FVec Ideal S1x4096 .f32) = row (m ((c : Thread nD τ).loc main_arg3)) := by
  obtain ⟨i0, i1, i2, i3, i4, i5, i6⟩ := idx t
  funext (y : S1x4096.Idx)
  idx_vars y
  obtain rfl : y0 = 0 := Subsingleton.elim _ _
  refine Eq.trans ?_ (V_w1s m c 0 y1)
  exact congrArg (V m c main_v2) (by blk_ext [i3])

theorem blk_b1 (c : Dev nD) (t : Fin cfg0.N) : (iblk m c 4 t : FVec Ideal S1x4096 .f32) = row (m ((c : Thread nD τ).loc main_arg4)) := by
  obtain ⟨i0, i1, i2, i3, i4, i5, i6⟩ := idx t
  funext (y : S1x4096.Idx)
  idx_vars y
  obtain rfl : y0 = 0 := Subsingleton.elim _ _
  refine Eq.trans ?_ (V_b1 m c 0 y1)
  exact congrArg (V m c main_v3) (by blk_ext [i4])

/-- What every grid point leaves: the two blocks, and the two carried rows. -/
theorem outs (c : Dev nD) : ∀ (n : ℕ) (hn : n < cfg0.N), outsAt0 m c n hn
    = (blockH (iblk m c 0 ⟨n, hn⟩) (iblk m c 1 ⟨n, hn⟩) (iblk m c 2 ⟨n, hn⟩) (half (row (m ((c : Thread nD τ).loc main_arg3)))) (half (row (m ((c : Thread nD τ).loc main_arg4)))),
       blockN (iblk m c 0 ⟨n, hn⟩) (iblk m c 1 ⟨n, hn⟩) (iblk m c 2 ⟨n, hn⟩) (half (row (m ((c : Thread nD τ).loc main_arg3)))) (half (row (m ((c : Thread nD τ).loc main_arg4)))),
       half (row (m ((c : Thread nD τ).loc main_arg3))), half (row (m ((c : Thread nD τ).loc main_arg4)))) := by
  intro n
  induction n with
  | zero =>
    intro hn
    refine (outsAt0_A m c ⟨0, hn⟩ rfl).trans ?_
    have h : (⟨0, hn⟩ : Fin cfg0.N).val % 6 = 0 := rfl
    rw [out_A_5 m c _ h, out_A_6 m c _ h, sc0 m c _ h, sc1 m c _ h, blk_w1s, blk_b1]
  | succ n ih =>
    intro hn
    have h6 : cfg0.N = 6 := by decide
    refine (outsAt0_B m c ⟨n + 1, hn⟩ (by dsimp only; omega)).trans ?_
    simp only [Nat.add_sub_cancel]
    rw [ih (Nat.lt_of_succ_lt hn), out_B_5, out_B_6]
    rfl

theorem b0 (c : Dev nD) (t : Fin cfg0.N) (ht : t.val < 6) (r : Fin 256) (l : Fin 1024) :
    iblk m c 0 t (ix3 0 r l : S1x256x1024.Idx) = m ((c : Thread nD τ).loc main_arg0) (ix3 ⟨t.val, ht⟩ r l) := by
  obtain ⟨i0, i1, i2, i3, i4, i5, i6⟩ := idx t
  rw [← V_main_arg0 m c]
  exact congrArg (V m c main_arg0) (by blk_ext [i0])

theorem b1 (c : Dev nD) (t : Fin cfg0.N) (ht : t.val < 6) (r : Fin 256) (l : Fin 128) :
    iblk m c 1 t (ix2 r l : S256x128.Idx) = m ((c : Thread nD τ).loc main_arg1) (ix2 ⟨t.val, ht⟩ r) := by
  obtain ⟨i0, i1, i2, i3, i4, i5, i6⟩ := idx t
  rw [← V_s1b m c ⟨t.val, ht⟩ r l]
  exact congrArg (V m c main_v1) (by blk_ext [i1])

theorem b2 (c : Dev nD) (t : Fin cfg0.N) (r : Fin 1024) (l : Fin 4096) :
    iblk m c 2 t (ix2 r l : S1024x4096.Idx) = m ((c : Thread nD τ).loc main_arg2) (ix2 r l) := by
  obtain ⟨i0, i1, i2, i3, i4, i5, i6⟩ := idx t
  rw [← V_main_arg2 m c]
  exact congrArg (V m c main_arg2) (by blk_ext [i2])

/-- A block of the activation is the function of the arguments, at the block's rows. -/
theorem blockH_eq (c : Dev nD) (t : Fin cfg0.N) (ht : t.val < 6) (r : Fin 256) (l : Fin 4096) :
    blockH (iblk m c 0 t) (iblk m c 1 t) (iblk m c 2 t) (half (row (m ((c : Thread nD τ).loc main_arg3)))) (half (row (m ((c : Thread nD τ).loc main_arg4)))) (ix2 r l)
      = GH (m ((c : Thread nD τ).loc main_arg0)) (m ((c : Thread nD τ).loc main_arg1)) (m ((c : Thread nD τ).loc main_arg2))
        (m ((c : Thread nD τ).loc main_arg3)) (m ((c : Thread nD τ).loc main_arg4)) (ix2 ⟨256 * t.val + r.val, row_lt ⟨t.val, ht⟩ r⟩ l) := by
  have e1 : (⟨(256 * t.val + r.val) / 256, by omega⟩ : Fin 6) = ⟨t.val, ht⟩ := Fin.ext (by dsimp only; omega)
  have e2 : (⟨(256 * t.val + r.val) % 256, by omega⟩ : Fin 256) = r := Fin.ext (by dsimp only; omega)
  unfold blockH GH
  refine congrArg act (congrArg (· + _) (congrArg (· * _) (congr (congrArg HMul.hMul (Finset.sum_congr rfl fun k _ => congr (congrArg HMul.hMul ?_) (b2 m c t _ _))) ?_)))
  · refine (b0 m c t ht r k).trans (congrArg _ ?_)
    exact congr (congr (congrArg ix3 e1.symm) e2.symm) rfl
  · refine (b1 m c t ht r _).trans (congrArg _ ?_)
    exact congr (congrArg ix2 e1.symm) e2.symm

/-- The first result array after the run. -/
theorem final5 (c : Dev nD) : (dats m 0 c).arrAt 5 cfg0.N
    = GH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ (y : S256x4096.Idx) => ?_
  blk_simp
  rw [after0_5, outs]
  have ht : t.val < 6 := t.isLt
  obtain ⟨i0, i1, i2, i3, i4, i5, i6⟩ := idx t
  have ey : (win0_5.blk t).view.emb y = (ix2 ⟨256 * t.val + (y 0).val, row_lt ⟨t.val, ht⟩ (y 0)⟩ (y 1) : S1536x4096.Idx) := by
    blk_ext [i5]
  refine Eq.trans ?_ (congrArg (GH _ _ _ _ _) ey.symm)
  rw [show y = (ix2 (y 0) (y 1) : S256x4096.Idx) from eq_ix2 y]
  exact blockH_eq m c t ht (y 0) (y 1)

theorem sq_sum (f g : Fin 256 → EReal) (h : ∀ i, f i = g i) : (∑ i, f i * f i) = ∑ i, g i * g i :=
  Finset.sum_congr rfl fun i _ => by rw [h i]

/-- The second result array after the run. -/
theorem final6 (c : Dev nD) : (dats m 0 c).arrAt 6 cfg0.N
    = GN (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ (y : S1x1x4096.Idx) => ?_
  blk_simp
  rw [after0_6, outs]
  have ht : t.val < 6 := t.isLt
  obtain ⟨i0, i1, i2, i3, i4, i5, i6⟩ := idx t
  have ey : (win0_6.blk t).view.emb y = (ix3 ⟨t.val, ht⟩ 0 (y 2) : S6x1x4096.Idx) := by
    blk_ext [i6]
  refine Eq.trans ?_ (congrArg (GN _ _ _ _ _) ey.symm)
  exact sq_sum _ _ fun i => blockH_eq m c t ht i (y 2)

end Cert.KernelUpIdeal.Val
end
-- ==== Proof.ReferenceUp.lean ====
module

public import proofs.«01_k».proof.Proof.Gen.ReferenceUpIdeal.Value
public import proofs.«01_k».proof.Proof.KernelUp
public import Idealize.ShloMosaic.Lib.Pipeline.ValueKit
public import Idealize.ShloMosaic.Lib.Pointwise
public import Idealize.ShloMosaic.Lib.Claim

/-! The reference of the first product and the activation: its two result arrays, as functions of the arguments. -/

@[expose] public section
set_option maxRecDepth 16384
noncomputable section
open Idealize.ShloMosaic Idealize.ShloMosaic.TcCoe Idealize.SL.Sem
open Idealize.ShloMosaic.Pipeline (Dat)
namespace Cert.ReferenceUpIdeal.Val
open Cert.ReferenceUpIdeal Cert.ReferenceUpIdeal.Gen
variable (m : (ℓ : Loc nD τ sig) → Buf (Elt Ideal) ℓ)

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0, 0] :=
  (by decide +kernel : ∀ t : Fin grid0.N, _)

/-- `2.0` denotes the real two. -/
theorem bits_two : Ideal.ofBits .f32 0x40000000#32 = ((2 : ℝ) : EReal) := by
  simp [Ideal.ofBits, Ideal.ieee, -EReal.coe_mul]; norm_num

/-- `0.5` denotes the real half. -/
theorem bits_half : Ideal.ofBits .f32 0x3F000000#32 = ((1 / 2 : ℝ) : EReal) := by
  simp [Ideal.ofBits, Ideal.ieee, -EReal.coe_mul]; norm_num

/-- The activation times the square root of two, as the reference computes it from the pre-activation. -/
def ract (v : EReal) : EReal :=
  Ideal.sqrt (Ideal.ofBits .f32 0x40000000#32) * (Ideal.ofBits .f32 0x3F000000#32
    * (v + v * FloatOps.erf (F := Ideal) (φ := .f32) (Ideal.div v (Ideal.sqrt (Ideal.ofBits .f32 0x40000000#32)))))

theorem sqrt_half : Real.sqrt (1 / 2) = 1 / Real.sqrt 2 := by
  rw [Real.sqrt_div (by norm_num), Real.sqrt_one]

theorem two_half : Real.sqrt 2 * (1 / 2) = Real.sqrt (1 / 2) := by
  rw [sqrt_half]
  have h := Real.mul_self_sqrt (show (0 : ℝ) ≤ 2 by norm_num)
  have h2 : Real.sqrt 2 ≠ 0 := (Real.sqrt_pos.mpr (by norm_num)).ne'
  field_simp
  nlinarith

/-- It is the kernel's activation of the pre-activation over the square root of two, at every extended real. -/
theorem ract_eq (v : EReal) : ract v = Cert.KernelUpIdeal.Val.act (v * ((Real.sqrt (1 / 2) : ℝ) : EReal)) := by
  have h2 : Real.sqrt 2 ≠ 0 := (Real.sqrt_pos.mpr (by norm_num)).ne'
  unfold ract Cert.KernelUpIdeal.Val.act
  rw [bits_two, bits_half, Ideal.sqrt_coe, if_neg (by norm_num), Ideal.div_coe h2, ← sqrt_half, ← mul_assoc, ← EReal.coe_mul, two_half,
    EReal.left_distrib_of_nonneg_of_ne_top (by exact_mod_cast Real.sqrt_nonneg _) (EReal.coe_ne_top _), ← mul_assoc,
    mul_comm ((Real.sqrt (1 / 2) : ℝ) : EReal) v]

/-- The kernel scales the weight scale and the bias, the reference the pre-activation: the same. -/
theorem scale_eq (a w b : EReal) : a * (w * ((Real.sqrt (1 / 2) : ℝ) : EReal)) + b * ((Real.sqrt (1 / 2) : ℝ) : EReal)
    = (a * w + b) * ((Real.sqrt (1 / 2) : ℝ) : EReal) := by
  rw [EReal.right_distrib_of_nonneg_of_ne_top (by exact_mod_cast Real.sqrt_nonneg _) (EReal.coe_ne_top _), mul_assoc]

/-- What the body stores first, at an index. -/
theorem pay1_at (v0 : FVec Ideal S1536x1024 .fp8e4m3) (v2 : FVec Ideal S1024x4096 .fp8e4m3) (v4 : FVec Ideal S1536x1 .f32)
    (v8 v12 : FVec Ideal S1x4096 .f32) (a : Fin 1536) (l : Fin 4096) :
    k0_pay1 (F := Ideal) v0 v2 v4 v8 v12 (ix2 a l)
      = ract ((∑ k : Fin 1024, v0 (ix2 a k) * v2 (ix2 k l)) * v4 (ix2 a 0) * v8 (ix2 0 l) + v12 (ix2 0 l)) := by
  unfold ract
  pointwise! [k0_pay1]

/-- The rows' sums of squares. -/
theorem pay2_at (v0 : FVec Ideal S1536x1024 .fp8e4m3) (v2 : FVec Ideal S1024x4096 .fp8e4m3) (v4 : FVec Ideal S1536x1 .f32)
    (v8 v12 : FVec Ideal S1x4096 .f32) (a : Fin 6) (z : Fin 1) (l : Fin 4096) :
    k0_pay2 (F := Ideal) v0 v2 v4 v8 v12 (ix3 a z l)
      = ∑ i : Fin 256, k0_pay1 (F := Ideal) v0 v2 v4 v8 v12 (ix2 ⟨256 * a.val + i.val, Cert.KernelUpIdeal.Val.row_lt a i⟩ l) * k0_pay1 (F := Ideal) v0 v2 v4 v8 v12 (ix2 ⟨256 * a.val + i.val, Cert.KernelUpIdeal.Val.row_lt a i⟩ l) := by
  unfold k0_pay2
  generalize k0_pay1 (F := Ideal) v0 v2 v4 v8 v12 = p
  pointwise
  exact Cert.KernelUpIdeal.Val.sq_sum _ _ fun i => congrArg (fun r => p (ix2 r l)) (Fin.ext (by dsimp only; omega))

theorem V_q1 (c : Dev nD) (a : Fin 1536) (l : Fin 1024) :
    (V m c main_v0 : FVec Ideal S1536x1024 .fp8e4m3) (ix2 a l) = (m ((c : Thread nD τ).loc main_arg0) : FVec Ideal S6x256x1024 .fp8e4m3) (ix3 ⟨a.val / 256, Cert.KernelUpIdeal.Val.div_lt a⟩ ⟨a.val % 256, Nat.mod_lt _ (by decide)⟩ l) := by
  entry_read
  pointwise

theorem V_s1 (c : Dev nD) (a : Fin 1536) (l : Fin 1) :
    (V m c main_v1 : FVec Ideal S1536x1 .f32) (ix2 a l) = (m ((c : Thread nD τ).loc main_arg1) : FVec Ideal S6x256 .f32) (ix2 ⟨a.val / 256, Cert.KernelUpIdeal.Val.div_lt a⟩ ⟨a.val % 256, Nat.mod_lt _ (by decide)⟩) := by
  entry_read
  pointwise

theorem V_w1s (c : Dev nD) (a : Fin 1) (b : Fin 4096) :
    (V m c main_v2 : FVec Ideal S1x4096 .f32) (ix2 a b) = (m ((c : Thread nD τ).loc main_arg3) : FVec Ideal S4096 .f32) (ix1 b) := by
  entry_read
  pointwise

theorem V_b1 (c : Dev nD) (a : Fin 1) (b : Fin 4096) :
    (V m c main_v3 : FVec Ideal S1x4096 .f32) (ix2 a b) = (m ((c : Thread nD τ).loc main_arg4) : FVec Ideal S4096 .f32) (ix1 b) := by
  entry_read
  pointwise

/-- What the body stores first is the kernel's function of the arguments. -/
theorem store1 (c : Dev nD) (t : Fin cfg0.N) (a : Fin 1536) (l : Fin 4096) :
    k0_pay1 (F := Ideal) (iblk m c 0 t) (iblk m c 2 t) (iblk m c 1 t) (iblk m c 3 t) (iblk m c 4 t) (ix2 a l)
      = Cert.KernelUpIdeal.Val.GH (m ((c : Thread nD τ).loc main_arg0)) (m ((c : Thread nD τ).loc main_arg1)) (m ((c : Thread nD τ).loc main_arg2))
        (m ((c : Thread nD τ).loc main_arg3)) (m ((c : Thread nD τ).loc main_arg4)) (ix2 a l) := by
  obtain ⟨i0, i1, i2, i3, i4, i5, i6⟩ := idx t
  have b0 : ∀ r l, iblk m c 0 t (ix2 r l : S1536x1024.Idx) = (V m c main_v0 : FVec Ideal S1536x1024 .fp8e4m3) (ix2 r l) := fun r l =>
    congrArg (V m c main_v0) (by blk_ext [i0])
  have b1 : ∀ r l, iblk m c 1 t (ix2 r l : S1536x1.Idx) = (V m c main_v1 : FVec Ideal S1536x1 .f32) (ix2 r l) := fun r l =>
    congrArg (V m c main_v1) (by blk_ext [i1])
  have b2 : ∀ r l, iblk m c 2 t (ix2 r l : S1024x4096.Idx) = m ((c : Thread nD τ).loc main_arg2) (ix2 r l) := fun r l => by
    rw [← V_main_arg2 m c]
    exact congrArg (V m c main_arg2) (by blk_ext [i2])
  have b3 : ∀ r l, iblk m c 3 t (ix2 r l : S1x4096.Idx) = (V m c main_v2 : FVec Ideal S1x4096 .f32) (ix2 r l) := fun r l =>
    congrArg (V m c main_v2) (by blk_ext [i3])
  have b4 : ∀ r l, iblk m c 4 t (ix2 r l : S1x4096.Idx) = (V m c main_v3 : FVec Ideal S1x4096 .f32) (ix2 r l) := fun r l =>
    congrArg (V m c main_v3) (by blk_ext [i4])
  refine (pay1_at _ _ _ _ _ _ _).trans ((ract_eq _).trans ?_)
  rw [← scale_eq]
  unfold Cert.KernelUpIdeal.Val.GH Cert.KernelUpIdeal.Val.half Cert.KernelUpIdeal.Val.row
  refine congrArg Cert.KernelUpIdeal.Val.act (congr (congrArg HAdd.hAdd (congr (congrArg HMul.hMul (congr (congrArg HMul.hMul (Finset.sum_congr rfl fun k _ => congr (congrArg HMul.hMul ((b0 _ _).trans (V_q1 m c _ _))) (b2 _ _))) ((b1 _ _).trans (V_s1 m c _ _)))) (congrArg (· * _) ((b3 _ _).trans (V_w1s m c _ _))))) (congrArg (· * _) ((b4 _ _).trans (V_b1 m c _ _))))

/-- The first result array after the run. -/
theorem final5 (c : Dev nD) : (dats m 0 c).arrAt 5 cfg0.N
    = Cert.KernelUpIdeal.Val.GH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ (y : S1536x4096.Idx) => ?_
  blk_simp
  rw [after0_5]
  frame_out
  obtain ⟨i0, i1, i2, i3, i4, i5, i6⟩ := idx t
  have ey : (win0_5.blk t).view.emb y = (ix2 (y 0) (y 1) : S1536x4096.Idx) := by
    blk_ext [i5]
  refine Eq.trans ?_ (congrArg (Cert.KernelUpIdeal.Val.GH _ _ _ _ _) ey.symm)
  rw [show y = (ix2 (y 0) (y 1) : S1536x4096.Idx) from eq_ix2 y]
  exact store1 m c t (y 0) (y 1)

/-- The second result array after the run. -/
theorem final6 (c : Dev nD) : (dats m 0 c).arrAt 6 cfg0.N
    = Cert.KernelUpIdeal.Val.GN (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ (y : S6x1x4096.Idx) => ?_
  blk_simp
  rw [after0_6]
  frame_out
  obtain ⟨i0, i1, i2, i3, i4, i5, i6⟩ := idx t
  have ey : (win0_6.blk t).view.emb y = (ix3 (y 0) (y 1) (y 2) : S6x1x4096.Idx) := by
    blk_ext [i6]
  refine Eq.trans ?_ (congrArg (Cert.KernelUpIdeal.Val.GN _ _ _ _ _) ey.symm)
  rw [show y = (ix3 (y 0) (y 1) (y 2) : S6x1x4096.Idx) from eq_ix3 y]
  refine (pay2_at _ _ _ _ _ _ _ _).trans ?_
  exact Cert.KernelUpIdeal.Val.sq_sum _ _ fun i => store1 m c t _ _

end Cert.ReferenceUpIdeal.Val
end
-- ==== Proof.Scale.lean ====
module

public import Idealize.ShloMosaic.Lib.Pointwise

/-! The quantiser's power of two: a ladder of compares computes what a logarithm names. -/

@[expose] public section
set_option maxRecDepth 16384
noncomputable section
open Idealize.ShloMosaic
namespace Cert.Scale

/-- One rung: take the scale up by `c` if that stays at most `y2`. -/
def step (y2 p c : EReal) : EReal := if p * c ≤ y2 then p * c else p

/-- The kernel's scale of `y`: the greatest power of two in `2^-126 … 2^128` that is at most `2 y`; one unless `y` is a positive finite number. -/
def kscale (y : EReal) : EReal :=
  if 0 < y ∧ y < ⊤ then
    step (y + y) (step (y + y) (step (y + y) (step (y + y) (step (y + y) (step (y + y) (step (y + y) (step (y + y)
      (Ideal.ofBits .f32 0x00800000#32) (Ideal.ofBits .f32 0x7F000000#32)) (Ideal.ofBits .f32 0x5F800000#32)) (Ideal.ofBits .f32 0x4F800000#32))
      (Ideal.ofBits .f32 0x47800000#32)) (Ideal.ofBits .f32 0x43800000#32)) (Ideal.ofBits .f32 0x41800000#32)) (Ideal.ofBits .f32 0x40800000#32)) (Ideal.ofBits .f32 0x40000000#32)
  else Ideal.ofBits .f32 0x3F800000#32

/-- The exponent the reference names for `y`. -/
def rexp (y : EReal) : EReal :=
  if 0 < y ∧ y < ⊤ then
    min (Ideal.ofBits .f32 0x43000000#32) (max (Ideal.ofBits .f32 0xC2FC0000#32)
      (Ideal.liftRound Int.floor (Ideal.div (Ideal.log y) (Ideal.log (Ideal.ofBits .f32 0x40000000#32))) + Ideal.ofBits .f32 0x3F800000#32))
  else 0

/-- A power of two, as an extended real. -/
def pw (k : ℤ) : EReal := (((2 : ℝ) ^ k : ℝ) : EReal)

theorem pw_mul (j k : ℤ) : pw j * pw k = pw (j + k) := by
  unfold pw
  rw [← EReal.coe_mul, zpow_add₀ (by norm_num : (2 : ℝ) ≠ 0)]

theorem pw_zero : pw 0 = 1 := by simp [pw]

theorem bits_m126 : Ideal.ofBits .f32 0x00800000#32 = pw (-126) := by simp [Ideal.ofBits, Ideal.ieee, pw, -EReal.coe_mul]; norm_num
theorem bits_127 : Ideal.ofBits .f32 0x7F000000#32 = pw 127 := by simp [Ideal.ofBits, Ideal.ieee, pw, -EReal.coe_mul, -EReal.coe_pow]; norm_num
theorem bits_64 : Ideal.ofBits .f32 0x5F800000#32 = pw 64 := by simp [Ideal.ofBits, Ideal.ieee, pw, -EReal.coe_mul, -EReal.coe_pow]; norm_num
theorem bits_32 : Ideal.ofBits .f32 0x4F800000#32 = pw 32 := by simp [Ideal.ofBits, Ideal.ieee, pw, -EReal.coe_mul, -EReal.coe_pow]; norm_num
theorem bits_16 : Ideal.ofBits .f32 0x47800000#32 = pw 16 := by simp [Ideal.ofBits, Ideal.ieee, pw, -EReal.coe_mul, -EReal.coe_pow]; norm_num
theorem bits_8 : Ideal.ofBits .f32 0x43800000#32 = pw 8 := by simp [Ideal.ofBits, Ideal.ieee, pw, -EReal.coe_mul, -EReal.coe_pow]; norm_num
theorem bits_4 : Ideal.ofBits .f32 0x41800000#32 = pw 4 := by simp [Ideal.ofBits, Ideal.ieee, pw, -EReal.coe_mul, -EReal.coe_pow]; norm_num
theorem bits_2 : Ideal.ofBits .f32 0x40800000#32 = pw 2 := by simp [Ideal.ofBits, Ideal.ieee, pw, -EReal.coe_mul, -EReal.coe_pow]; norm_num
theorem bits_1 : Ideal.ofBits .f32 0x40000000#32 = pw 1 := by simp [Ideal.ofBits, Ideal.ieee, pw, -EReal.coe_mul]; norm_num
theorem bits_0 : Ideal.ofBits .f32 0x3F800000#32 = pw 0 := by simp [Ideal.ofBits, Ideal.ieee, pw, -EReal.coe_mul]; norm_num
theorem bits_two : Ideal.ofBits .f32 0x40000000#32 = ((2 : ℝ) : EReal) := by simp [Ideal.ofBits, Ideal.ieee, -EReal.coe_mul]; norm_num
theorem bits_one : Ideal.ofBits .f32 0x3F800000#32 = ((1 : ℝ) : EReal) := by simp [Ideal.ofBits, Ideal.ieee, -EReal.coe_mul]; norm_num
theorem bits_hi : Ideal.ofBits .f32 0x43000000#32 = ((128 : ℝ) : EReal) := by simp [Ideal.ofBits, Ideal.ieee, -EReal.coe_mul]; norm_num
theorem bits_lo : Ideal.ofBits .f32 0xC2FC0000#32 = ((-126 : ℝ) : EReal) := by simp [Ideal.ofBits, Ideal.ieee, -EReal.coe_mul]; norm_num

/-- The integer part of the logarithm to base two. -/
def lg (r : ℝ) : ℤ := ⌊Real.log r / Real.log 2⌋

theorem le_lg (r : ℝ) (hr : 0 < r) (j : ℤ) : (2 : ℝ) ^ j ≤ r ↔ j ≤ lg r := by
  have h2 : 0 < Real.log 2 := Real.log_pos (by norm_num)
  unfold lg
  rw [Int.le_floor, le_div_iff₀ h2, ← Real.log_zpow, Real.log_le_log_iff (by positivity) hr]

/-- A rung on exponents. -/
def rung (E k n : ℤ) : ℤ := if k + n ≤ E then k + n else k

/-- A rung on powers of two, under twice a positive number. -/
theorem step_pw (r : ℝ) (hr : 0 < r) (k n : ℤ) :
    step (((r : ℝ) : EReal) + ((r : ℝ) : EReal)) (pw k) (pw n) = pw (rung (lg r + 1) k n) := by
  have e : pw (k + n) ≤ ((r : ℝ) : EReal) + ((r : ℝ) : EReal) ↔ k + n ≤ lg r + 1 := by
    unfold pw
    rw [← EReal.coe_add, EReal.coe_le_coe_iff]
    have h2 : ((2 : ℝ) ^ (k + n) ≤ r + r) ↔ (2 : ℝ) ^ (k + n - 1) ≤ r := by
      rw [zpow_sub_one₀ (by norm_num : (2 : ℝ) ≠ 0)]
      constructor <;> intro h <;> linarith
    rw [h2, le_lg r hr]
    omega
  unfold step rung
  rw [pw_mul]
  split_ifs with h1 h2 h2
  · rfl
  · exact absurd (e.mp h1) h2
  · exact absurd (e.mpr h2) h1
  · rfl

/-- The ladder of exponents ends at `E` clipped to `-126 … 128`. -/
theorem ladder (E : ℤ) : rung E (rung E (rung E (rung E (rung E (rung E (rung E (rung E (-126) 127) 64) 32) 16) 8) 4) 2) 1 = min 128 (max (-126) E) := by
  obtain ⟨a, ha⟩ : ∃ a, a = rung E (-126) 127 := ⟨_, rfl⟩
  have ia : (E ≤ -126 ∧ a = -126) ∨ (a ≤ E ∧ E ≤ a + 126 ∧ -126 ≤ a ∧ a ≤ 1) ∨ (128 ≤ E ∧ a = 1) := by rw [ha]; unfold rung; split_ifs <;> omega
  rw [← ha]
  obtain ⟨b, hb⟩ : ∃ b, b = rung E a 64 := ⟨_, rfl⟩
  have ib : (E ≤ -126 ∧ b = -126) ∨ (b ≤ E ∧ E ≤ b + 63 ∧ -126 ≤ b ∧ b ≤ 65) ∨ (128 ≤ E ∧ b = 65) := by rw [hb]; unfold rung; split_ifs <;> omega
  rw [← hb]
  obtain ⟨d, hd⟩ : ∃ d, d = rung E b 32 := ⟨_, rfl⟩
  have id : (E ≤ -126 ∧ d = -126) ∨ (d ≤ E ∧ E ≤ d + 31 ∧ -126 ≤ d ∧ d ≤ 97) ∨ (128 ≤ E ∧ d = 97) := by rw [hd]; unfold rung; split_ifs <;> omega
  rw [← hd]
  obtain ⟨e, he⟩ : ∃ e, e = rung E d 16 := ⟨_, rfl⟩
  have ie : (E ≤ -126 ∧ e = -126) ∨ (e ≤ E ∧ E ≤ e + 15 ∧ -126 ≤ e ∧ e ≤ 113) ∨ (128 ≤ E ∧ e = 113) := by rw [he]; unfold rung; split_ifs <;> omega
  rw [← he]
  obtain ⟨f, hf⟩ : ∃ f, f = rung E e 8 := ⟨_, rfl⟩
  have iff : (E ≤ -126 ∧ f = -126) ∨ (f ≤ E ∧ E ≤ f + 7 ∧ -126 ≤ f ∧ f ≤ 121) ∨ (128 ≤ E ∧ f = 121) := by rw [hf]; unfold rung; split_ifs <;> omega
  rw [← hf]
  obtain ⟨g, hg⟩ : ∃ g, g = rung E f 4 := ⟨_, rfl⟩
  have ig : (E ≤ -126 ∧ g = -126) ∨ (g ≤ E ∧ E ≤ g + 3 ∧ -126 ≤ g ∧ g ≤ 125) ∨ (128 ≤ E ∧ g = 125) := by rw [hg]; unfold rung; split_ifs <;> omega
  rw [← hg]
  obtain ⟨h, hh⟩ : ∃ h, h = rung E g 2 := ⟨_, rfl⟩
  have ih : (E ≤ -126 ∧ h = -126) ∨ (h ≤ E ∧ E ≤ h + 1 ∧ -126 ≤ h ∧ h ≤ 127) ∨ (128 ≤ E ∧ h = 127) := by rw [hh]; unfold rung; split_ifs <;> omega
  rw [← hh]
  unfold rung; split_ifs <;> omega

theorem floor_coe (r : ℝ) : Ideal.liftRound Int.floor ((r : ℝ) : EReal) = (((⌊r⌋ : ℤ) : ℝ) : EReal) := rfl

/-- The kernel's ladder is the power of two the reference's logarithm names, and its reciprocal is the opposite power. -/
theorem scale_facts (y : EReal) : kscale y = Ideal.exp2 (rexp y) ∧ Ideal.div 1 (kscale y) = Ideal.exp2 (0 - rexp y) := by
  unfold kscale rexp
  by_cases hy : 0 < y ∧ y < ⊤
  · rw [if_pos hy, if_pos hy]
    induction y using EReal.rec with
    | bot => exact absurd hy.1 (by simp)
    | top => exact absurd hy.2 (by simp)
    | coe r =>
      have hr : 0 < r := by exact_mod_cast hy.1
      have hlog2 : Real.log 2 ≠ 0 := (Real.log_pos (by norm_num)).ne'
      have hl : Ideal.log ((r : ℝ) : EReal) = ((Real.log r : ℝ) : EReal) := (if_neg (not_le.mpr hr))
      have hl2 : Ideal.log (((2 : ℝ) : ℝ) : EReal) = ((Real.log 2 : ℝ) : EReal) := (if_neg (not_le.mpr (by norm_num : (0 : ℝ) < 2)))
      have hfl : ⌊Real.log r / Real.log 2⌋ = lg r := rfl
      have hE : min (Ideal.ofBits .f32 0x43000000#32) (max (Ideal.ofBits .f32 0xC2FC0000#32)
          (Ideal.liftRound Int.floor (Ideal.div (Ideal.log ((r : ℝ) : EReal)) (Ideal.log (Ideal.ofBits .f32 0x40000000#32))) + Ideal.ofBits .f32 0x3F800000#32))
          = (((min 128 (max (-126) (lg r + 1)) : ℤ) : ℝ) : EReal) := by
        rw [bits_two, hl2, hl, Ideal.div_coe hlog2, ← EReal.coe_mul, mul_one_div, floor_coe, hfl, bits_one, bits_hi, bits_lo, ← EReal.coe_add, ← EReal.coe_strictMono.monotone.map_max, ← EReal.coe_strictMono.monotone.map_min]
        push_cast
        rfl
      have hK := ladder (lg r + 1)
      rw [hE, bits_m126, bits_127, bits_64, bits_32, bits_16, bits_8, bits_4, bits_2, bits_1]
      rw [step_pw r hr, step_pw r hr, step_pw r hr, step_pw r hr, step_pw r hr, step_pw r hr, step_pw r hr, step_pw r hr]
      rw [hK]
      generalize (min 128 (max (-126) (lg r + 1)) : ℤ) = k
      constructor
      · unfold pw
        show _ = ((Real.rpow 2 (k : ℝ) : ℝ) : EReal)
        rw [Real.rpow_eq_pow, Real.rpow_intCast]
      · have h2 : (0 : EReal) - (((k : ℤ) : ℝ) : EReal) = (((-k : ℤ) : ℝ) : EReal) := by
          push_cast
          rw [zero_sub]
        rw [h2]
        show _ = ((Real.rpow 2 ((-k : ℤ) : ℝ) : ℝ) : EReal)
        rw [Real.rpow_eq_pow, Real.rpow_intCast]
        unfold pw
        rw [Ideal.div_coe (by positivity), one_mul, zpow_neg, one_div]
  · rw [if_neg hy, if_neg hy, bits_one]
    constructor
    · show _ = ((Real.rpow 2 0 : ℝ) : EReal)
      simp
    · rw [sub_zero, ← EReal.coe_one, Ideal.div_coe one_ne_zero]
      show _ = ((Real.rpow 2 0 : ℝ) : EReal)
      simp

/-- One rung, on a vector. -/
def vstep {s : Shape} (y2 p : FVec Ideal s .f32) (b : BitVec 32) : FVec Ideal s .f32 :=
  select (cmpf .oge y2 (mulf p (broadcast s (Scalar.ofBits .f32 b)))) (mulf p (broadcast s (Scalar.ofBits .f32 b))) p

theorem select_cmp (p : Prop) [Decidable p] (a b : EReal) : Scalar.select (BitVec.ofBool (decide p)) a b = if p then a else b := by
  unfold Scalar.select; by_cases h : p <;> simp [h]

theorem vstep_at {s : Shape} (y2 p : FVec Ideal s .f32) (b : BitVec 32) (j : s.Idx) :
    vstep y2 p b j = step (y2 j) (p j) (Ideal.ofBits .f32 b) := by
  show Scalar.select (BitVec.ofBool (decide (p j * Ideal.ofBits .f32 b ≤ y2 j))) _ _ = _
  rw [select_cmp]; rfl

/-- The kernel's scale, on a vector. -/
def vscale {s : Shape} (y : FVec Ideal s .f32) : FVec Ideal s .f32 :=
  select (andi (cmpf .ogt y (broadcast s (Scalar.ofBits .f32 0x00000000#32))) (cmpf .olt y (broadcast s (Scalar.ofBits .f32 0x7F800000#32))))
    (vstep (addf y y) (vstep (addf y y) (vstep (addf y y) (vstep (addf y y) (vstep (addf y y) (vstep (addf y y) (vstep (addf y y) (vstep (addf y y)
      (broadcast s (Scalar.ofBits .f32 0x00800000#32)) 0x7F000000#32) 0x5F800000#32) 0x4F800000#32) 0x47800000#32) 0x43800000#32) 0x41800000#32) 0x40800000#32) 0x40000000#32)
    (broadcast s (Scalar.ofBits .f32 0x3F800000#32))

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_zero : Ideal.ofBits .f32 0x00000000#32 = 0 := by simp [Ideal.ofBits, Ideal.ieee]

theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

theorem vscale_at {s : Shape} (y : FVec Ideal s .f32) (j : s.Idx) : vscale y j = kscale (y j) := by
  show Scalar.select (IntOp.andi (BitVec.ofBool (decide (Ideal.ofBits .f32 0x00000000#32 < y j))) (BitVec.ofBool (decide (y j < Ideal.ofBits .f32 0x7F800000#32)))) (vstep _ _ _ j) _ = _
  rw [and_ofBool, select_cmp, bits_zero, bits_top]
  simp only [vstep_at]
  rfl

/-- The reference's exponent, on a vector. -/
def vexp {s : Shape} (y : FVec Ideal s .f32) : FVec Ideal s .f32 :=
  select (andi (cmpf .ogt y (broadcast s (Scalar.ofBits .f32 0x00000000#32))) (cmpf .olt y (broadcast s (Scalar.ofBits .f32 0x7F800000#32))))
    (minimumf (broadcast s (Scalar.ofBits .f32 0x43000000#32)) (maximumf (broadcast s (Scalar.ofBits .f32 0xC2FC0000#32))
      (addf (floor (divf (log y) (log (broadcast s (Scalar.ofBits .f32 0x40000000#32))))) (broadcast s (Scalar.ofBits .f32 0x3F800000#32)))))
    (broadcast s (Scalar.ofBits .f32 0x00000000#32))

theorem vexp_at {s : Shape} (y : FVec Ideal s .f32) (j : s.Idx) : vexp y j = rexp (y j) := by
  show Scalar.select (IntOp.andi (BitVec.ofBool (decide (Ideal.ofBits .f32 0x00000000#32 < y j))) (BitVec.ofBool (decide (y j < Ideal.ofBits .f32 0x7F800000#32)))) _
    (Ideal.ofBits .f32 0x00000000#32) = _
  rw [and_ofBool, select_cmp, bits_top, bits_zero]
  rfl

theorem bits_1024 : Ideal.ofBits .f32 0x44800000#32 = ((1024 : ℝ) : EReal) := by simp [Ideal.ofBits, Ideal.ieee, -EReal.coe_mul]; norm_num
theorem bits_inv1024 : Ideal.ofBits .f32 0x3A800000#32 = ((1 / 1024 : ℝ) : EReal) := by simp [Ideal.ofBits, Ideal.ieee, -EReal.coe_mul]; norm_num

/-- Division by `1024` is multiplication by its inverse. -/
theorem div_1024 (x : EReal) : Ideal.div x (Ideal.ofBits .f32 0x44800000#32) = x * Ideal.ofBits .f32 0x3A800000#32 := by
  rw [bits_1024, bits_inv1024, Ideal.div_coe (by norm_num)]

/-- The greatest absolute value of a row. -/
def amax {n : ℕ} (z : Fin n → EReal) : EReal := Finset.univ.fold max (Ideal.ofBits .f32 0xFF800000#32) fun k => max (z k) (-(z k))

/-- A row's scale. -/
def sc {n : ℕ} (z : Fin n → EReal) : EReal := kscale (amax z * Ideal.ofBits .f32 0x3B124925#32)

/-- A row's codes. -/
def code {n : ℕ} (z : Fin n → EReal) (k : Fin n) : EReal :=
  min (Ideal.ofBits .f32 0x43E00000#32) (max (Ideal.ofBits .f32 0xC3E00000#32) (z k * Ideal.div 1 (sc z)))

theorem amax_le {n : ℕ} (z : Fin n → EReal) (b : EReal) : amax z ≤ b ↔ ∀ k, max (z k) (-(z k)) ≤ b := by
  unfold amax
  rw [Finset.fold_max_le, bits_bot]
  simp

/-- The normalised row. -/
def mu (f : Fin 1024 → EReal) : EReal := (∑ k, f k) * Ideal.ofBits .f32 0x3A800000#32
def rs (f : Fin 1024 → EReal) : EReal :=
  Ideal.rsqrt ((∑ k, (f k - mu f) * (f k - mu f)) * Ideal.ofBits .f32 0x3A800000#32 + Ideal.ofBits .f32 0x358637BD#32)
def lnz (f g b : Fin 1024 → EReal) (k : Fin 1024) : EReal := (f k - mu f) * rs f * g k + b k

theorem sum_tiles (f : Fin 1024 → EReal) (t : Fin 8 → Fin 128 → EReal) (h : ∀ c l, t c l = f ⟨128 * c.val + l.val, by omega⟩) :
    (∑ l : Fin 128, (t 0 l + t 1 l + t 2 l + t 3 l + t 4 l + t 5 l + t 6 l + t 7 l)) = ∑ k, f k := by
  have e : ∀ l, t 0 l + t 1 l + t 2 l + t 3 l + t 4 l + t 5 l + t 6 l + t 7 l = ∑ c : Fin 8, t c l := fun l => (Fin.sum_univ_eight fun c => t c l).symm
  rw [Finset.sum_congr rfl fun l _ => e l, Finset.sum_comm]
  simp only [h]
  rw [← Fintype.sum_prod_type' (f := fun (c : Fin 8) (l : Fin 128) => f ⟨128 * c.val + l.val, by omega⟩)]
  exact Fintype.sum_equiv (finProdFinEquiv (m := 8) (n := 128)) _ _ fun p => congrArg f (Fin.ext (Nat.add_comm _ _))

/-- The greatest absolute value, taken over lanes of the greatest over column groups. -/
theorem amax_tiles (f : Fin 1024 → EReal) (t : Fin 8 → Fin 128 → EReal) (h : ∀ c l, t c l = f ⟨128 * c.val + l.val, by omega⟩) :
    (Finset.univ.fold max (Ideal.ofBits .f32 0xFF800000#32) fun l : Fin 128 =>
      max (max (max (max (max (max (max (max (t 0 l) (-(t 0 l))) (max (t 1 l) (-(t 1 l)))) (max (t 2 l) (-(t 2 l)))) (max (t 3 l) (-(t 3 l))))
        (max (t 4 l) (-(t 4 l)))) (max (t 5 l) (-(t 5 l)))) (max (t 6 l) (-(t 6 l)))) (max (t 7 l) (-(t 7 l)))) = amax f := by
  refine eq_of_forall_ge_iff fun b => ?_
  rw [amax_le, Finset.fold_max_le, bits_bot]
  constructor
  · rintro ⟨-, H⟩ k
    have := H ⟨k.val % 128, Nat.mod_lt _ (by decide)⟩ (Finset.mem_univ _)
    have key : ∀ c : Fin 8, max (t c ⟨k.val % 128, Nat.mod_lt _ (by decide)⟩) (-(t c ⟨k.val % 128, Nat.mod_lt _ (by decide)⟩)) ≤ b := by
      simp only [max_le_iff] at this ⊢
      intro c; fin_cases c <;> tauto
    have hk := key ⟨k.val / 128, by have := k.isLt; omega⟩
    rw [h] at hk
    have e : (⟨128 * (k.val / 128) + k.val % 128, by have := k.isLt; omega⟩ : Fin 1024) = k := Fin.ext (Nat.div_add_mod _ _)
    simp only [e] at hk
    exact hk
  · intro H
    refine ⟨bot_le, fun l _ => ?_⟩
    have key : ∀ c : Fin 8, max (t c l) (-(t c l)) ≤ b := fun c => by rw [h]; exact H _
    exact max_le (max_le (max_le (max_le (max_le (max_le (max_le (key 0) (key 1)) (key 2)) (key 3)) (key 4)) (key 5)) (key 6)) (key 7)

end Cert.Scale
-- ==== Proof.KernelLn.lean ====
module

public import proofs.«01_k».proof.Proof.Gen.KernelLnIdeal.Value
public import proofs.«01_k».proof.Proof.Scale
public import proofs.«01_k».proof.Proof.KernelUp
public import Idealize.ShloMosaic.Lib.Pipeline.ValueKit
public import Idealize.ShloMosaic.Lib.Pointwise
public import Idealize.ShloMosaic.Lib.WholeRead
public import Idealize.ShloMosaic.Lib.Claim
public import Idealize.ShloMosaic.Lib.Pipeline.ReadBack

/-! The layer norm and the first quantiser: the two result arrays, as functions of the arguments. -/

@[expose] public section
set_option maxRecDepth 16384
noncomputable section
open Idealize.ShloMosaic Idealize.ShloMosaic.TcCoe Idealize.SL.Sem
open Idealize.ShloMosaic.Pipeline (Dat)
namespace Cert.KernelLnIdeal.Val
open Cert.KernelLnIdeal Cert.KernelLnIdeal.Gen Cert.Scale
open Cert.KernelUpIdeal.Val (unit_idx piecesOf_append)
variable (m : (ℓ : Loc nD τ sig) → Buf (Elt Ideal) ℓ)

/-- The sum of a row tile's eight column groups. -/
def sum8 (v : Fin 8 → FVec Ideal S32x128 .f32) : FVec Ideal S32x128 .f32 :=
  addf (addf (addf (addf (addf (addf (addf (v 0) (v 1)) (v 2)) (v 3)) (v 4)) (v 5)) (v 6)) (v 7)

/-- The rows' means, on the rows' tile. -/
def mv (v : Fin 8 → FVec Ideal S32x128 .f32) : FVec Ideal S32x128 .f32 := broadcastTo S32x128 (k0_pay10 (sum8 v)) broadcasts_S32x1_S32x128

/-- The centred column group. -/
def yc (v : Fin 8 → FVec Ideal S32x128 .f32) (c : Fin 8) : FVec Ideal S32x128 .f32 := subf (v c) (mv v)

/-- The rows' inverse deviations. -/
def rv (w : FVec Ideal S32x128 .f32) : FVec Ideal S32x1 .f32 :=
  rsqrt (addf (mulf (shapeCast S32x1 (multiReduction .add [1] S32 w 0x00000000#32 reduces_S32x128_S32 (.inl rfl) rfl) shapeCasts_S32_S32x1)
    (broadcast S32x1 (Scalar.ofBits .f32 0x3A800000#32))) (broadcast S32x1 (Scalar.ofBits .f32 0x358637BD#32)))

/-- The squares of the centred groups, summed. -/
def sq (v : Fin 8 → FVec Ideal S32x128 .f32) : FVec Ideal S32x128 .f32 := sum8 fun c => mulf (yc v c) (yc v c)

/-- The normalised column group. -/
def zt (v : Fin 8 → FVec Ideal S32x128 .f32) (g b : Fin 8 → FVec Ideal S1x128 .f32) (c : Fin 8) : FVec Ideal S32x128 .f32 :=
  addf (mulf (mulf (yc v c) (broadcastTo S32x128 (rv (sq v)) broadcasts_S32x1_S32x128))
    (broadcastTo S32x128 (shapeCast S1x128 (g c) shapeCasts_S1x128_S1x128) broadcasts_S1x128_S32x128))
    (broadcastTo S32x128 (shapeCast S1x128 (b c) shapeCasts_S1x128_S1x128) broadcasts_S1x128_S32x128)

/-- The lane-wise greatest absolute value of eight groups. -/
def max8 (z : Fin 8 → FVec Ideal S32x128 .f32) : FVec Ideal S32x128 .f32 :=
  maximumf (maximumf (maximumf (maximumf (maximumf (maximumf (maximumf (absf (z 0)) (absf (z 1))) (absf (z 2))) (absf (z 3))) (absf (z 4))) (absf (z 5))) (absf (z 6))) (absf (z 7))

/-- The rows' greatest, on the rows' tile. -/
def rowmax (w : FVec Ideal S32x128 .f32) : FVec Ideal S32x128 .f32 :=
  broadcastTo S32x128 (shapeCast S32x1 (shapeCast S32x1 (multiReduction .maximumf [1] S32 w 0xFF800000#32 reduces_S32x128_S32 (.inl rfl) rfl) shapeCasts_S32_S32x1) shapeCasts_S32x1_S32x1) broadcasts_S32x1_S32x128

/-- The rows' scales, on the rows' tile. -/
def sv (z : Fin 8 → FVec Ideal S32x128 .f32) : FVec Ideal S32x128 .f32 :=
  vscale (mulf (rowmax (max8 z)) (broadcast S32x128 (Scalar.ofBits .f32 0x3B124925#32)))

/-- The codes of one column group. -/
def cd (z : Fin 8 → FVec Ideal S32x128 .f32) (c : Fin 8) : FVec Ideal S1x32x128 .fp8e4m3 :=
  shapeCast S1x32x128 (truncf .fp8e4m3 (minimumf (broadcast S32x128 (Scalar.ofBits .f32 0x43E00000#32)) (maximumf (broadcast S32x128 (Scalar.ofBits .f32 0xC3E00000#32))
    (mulf (z c) (divf (broadcast S32x128 (Scalar.ofBits .f32 0x3F800000#32)) (sv z))))) bitsLt_fp8e4m3_f32) shapeCasts_S32x128_S1x32x128

section
variable (v : Fin 8 → FVec Ideal S32x128 .f32) (g b : Fin 8 → FVec Ideal S1x128 .f32) (f : Fin 32 → Fin 1024 → EReal) (G B : Fin 1024 → EReal)
  (hv : ∀ (c : Fin 8) (r : Fin 32) (l : Fin 128), v c (ix2 r l) = f r ⟨128 * c.val + l.val, by omega⟩)
  (hg : ∀ (c : Fin 8) (l : Fin 128), g c (ix2 0 l) = G ⟨128 * c.val + l.val, by omega⟩)
  (hb : ∀ (c : Fin 8) (l : Fin 128), b c (ix2 0 l) = B ⟨128 * c.val + l.val, by omega⟩)

theorem pay10_at (w : FVec Ideal S32x128 .f32) (r : Fin 32) : k0_pay10 (F := Ideal) w (ix2 r 0) = (∑ l : Fin 128, w (ix2 r l)) * Ideal.ofBits .f32 0x3A800000#32 := by
  pointwise! [k0_pay10]

include hv in
theorem mv_at (r : Fin 32) (l : Fin 128) : mv v (ix2 r l) = mu (f r) := by
  have e : mv v (ix2 r l) = k0_pay10 (F := Ideal) (sum8 v) (ix2 r 0) := by pointwise! [mv]
  rw [e, pay10_at]
  unfold mu
  rw [← sum_tiles (f r) (fun c l => v c (ix2 r l)) (fun c l => hv c r l)]
  rfl

include hv in
theorem yc_at (c : Fin 8) (r : Fin 32) (l : Fin 128) : yc v c (ix2 r l) = f r ⟨128 * c.val + l.val, by omega⟩ - mu (f r) := by
  rw [← mv_at v f hv r l, ← hv]; rfl

theorem rv_at (w : FVec Ideal S32x128 .f32) (r : Fin 32) :
    rv w (ix2 r 0) = Ideal.rsqrt ((∑ l : Fin 128, w (ix2 r l)) * Ideal.ofBits .f32 0x3A800000#32 + Ideal.ofBits .f32 0x358637BD#32) := by
  pointwise! [rv]

include hv in
theorem rs_at (r : Fin 32) : rv (sq v) (ix2 r 0) = rs (f r) := by
  rw [rv_at]
  unfold rs
  rw [← sum_tiles (fun k => (f r k - mu (f r)) * (f r k - mu (f r))) (fun c l => yc v c (ix2 r l) * yc v c (ix2 r l)) (fun c l => by rw [yc_at v f hv])]
  rfl

include hv hg hb in
theorem zt_at (c : Fin 8) (r : Fin 32) (l : Fin 128) : zt v g b c (ix2 r l) = lnz (f r) G B ⟨128 * c.val + l.val, by omega⟩ := by
  have e : zt v g b c (ix2 r l) = yc v c (ix2 r l) * rv (sq v) (ix2 r 0) * g c (ix2 0 l) + b c (ix2 0 l) := by pointwise! [zt]
  rw [e, yc_at v f hv, rs_at v f hv, hg, hb]
  rfl
end

section
variable (z : Fin 8 → FVec Ideal S32x128 .f32) (f : Fin 32 → Fin 1024 → EReal)
  (hz : ∀ (c : Fin 8) (r : Fin 32) (l : Fin 128), z c (ix2 r l) = f r ⟨128 * c.val + l.val, by omega⟩)

theorem rowmax_at (w : FVec Ideal S32x128 .f32) (r : Fin 32) (l : Fin 128) :
    rowmax w (ix2 r l) = Finset.univ.fold max (Ideal.ofBits .f32 0xFF800000#32) fun l : Fin 128 => w (ix2 r l) := by
  pointwise! [rowmax]

include hz in
theorem sv_at (r : Fin 32) (l : Fin 128) : sv z (ix2 r l) = sc (f r) := by
  unfold sv
  rw [vscale_at]
  show kscale (rowmax (max8 z) (ix2 r l) * Ideal.ofBits .f32 0x3B124925#32) = _
  rw [rowmax_at]
  unfold sc
  rw [← amax_tiles (f r) (fun c l => z c (ix2 r l)) (fun c l => hz c r l)]
  rfl

include hz in
theorem cd_at (c : Fin 8) (a : Fin 1) (r : Fin 32) (l : Fin 128) : cd z c (ix3 a r l) = code (f r) ⟨128 * c.val + l.val, by omega⟩ := by
  have e : cd z c (ix3 a r l) = min (Ideal.ofBits .f32 0x43E00000#32) (max (Ideal.ofBits .f32 0xC3E00000#32)
      (z c (ix2 r l) * Ideal.div (Ideal.ofBits .f32 0x3F800000#32) (sv z (ix2 r l)))) := by pointwise! [cd]
  rw [e, sv_at z f hz, hz, bits_one]
  rfl
end

/-- One row of a block of the input. -/
def row (x : FVec Ideal S1x8x256x128 .f32) (r : Fin 256) (k : Fin 1024) : EReal :=
  x (ix4 0 ⟨k.val / 128, by omega⟩ r ⟨k.val % 128, Nat.mod_lt _ (by decide)⟩)

/-- One row of a block, normalised. -/
def zrow (x : FVec Ideal S1x8x256x128 .f32) (g b : FVec Ideal S1x1024 .f32) (r : Fin 256) : Fin 1024 → EReal :=
  lnz (row x r) (fun k => g (ix2 0 k)) (fun k => b (ix2 0 k))

/-- One block of the codes. -/
def blockQ (x : FVec Ideal S1x8x256x128 .f32) (g b : FVec Ideal S1x1024 .f32) : FVec Ideal S1x256x1024 .fp8e4m3 :=
  fun y => code (zrow x g b (y 1)) (y 2)

/-- One block of the scales, the same in every lane. -/
def blockS (x : FVec Ideal S1x8x256x128 .f32) (g b : FVec Ideal S1x1024 .f32) : FVec Ideal S256x128 .f32 :=
  fun y => sc (zrow x g b (y 0))

section
variable (𝒱 : Variants) (c : Dev nD) (bd : Option 𝒱.V) (i : grid0.Coords) (arg1 : Memref sig .tc .vmem S1x8x256x128 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x256x1024 .fp8e4m3) (harg4 : arg4.IsWhole) (arg5 : Memref sig .tc .vmem S6x256 .f32) (harg5 : arg5.IsWhole) (arg6 : Memref sig .tc .vmem S256x128 .f32) (harg6 : arg6.IsWhole)
  (x : FVec Ideal S1x8x256x128 .f32) (g b : FVec Ideal S1x1024 .f32)

/-- The eight column groups one trip loads. -/
def xs (k : Fin k0_t1_loop.trips) : Fin 8 → Vec Ideal S1x1x32x128 .f32 :=
  ![
    View.readAt (Elt Ideal) arg1.view (Rect.unit (s := S1x8x256x128) (k0_off1 k) S1x1x32x128.size (k0_off1_inb k)).toLoadRect (harg1.unread x),
    View.readAt (Elt Ideal) arg1.view (Rect.unit (s := S1x8x256x128) (k0_off2 k) S1x1x32x128.size (k0_off2_inb k)).toLoadRect (harg1.unread x),
    View.readAt (Elt Ideal) arg1.view (Rect.unit (s := S1x8x256x128) (k0_off3 k) S1x1x32x128.size (k0_off3_inb k)).toLoadRect (harg1.unread x),
    View.readAt (Elt Ideal) arg1.view (Rect.unit (s := S1x8x256x128) (k0_off4 k) S1x1x32x128.size (k0_off4_inb k)).toLoadRect (harg1.unread x),
    View.readAt (Elt Ideal) arg1.view (Rect.unit (s := S1x8x256x128) (k0_off5 k) S1x1x32x128.size (k0_off5_inb k)).toLoadRect (harg1.unread x),
    View.readAt (Elt Ideal) arg1.view (Rect.unit (s := S1x8x256x128) (k0_off6 k) S1x1x32x128.size (k0_off6_inb k)).toLoadRect (harg1.unread x),
    View.readAt (Elt Ideal) arg1.view (Rect.unit (s := S1x8x256x128) (k0_off7 k) S1x1x32x128.size (k0_off7_inb k)).toLoadRect (harg1.unread x),
    View.readAt (Elt Ideal) arg1.view (Rect.unit (s := S1x8x256x128) (k0_off8 k) S1x1x32x128.size (k0_off8_inb k)).toLoadRect (harg1.unread x)]

/-- The same, as tiles. -/
def vs (k : Fin k0_t1_loop.trips) (ct : Fin 8) : FVec Ideal S32x128 .f32 := shapeCast S32x128 (xs arg1 harg1 x k ct) shapeCasts_S1x1x32x128_S32x128

/-- A column group of a row vector. -/
def gs (arg : Memref sig .tc .vmem S1x1024 .f32) (harg : arg.IsWhole) (w : FVec Ideal S1x1024 .f32) (ct : Fin 8) : FVec Ideal S1x128 .f32 :=
  View.readAt (Elt Ideal) arg.view (Rect.unit (s := S1x1024) ![0, 128 * ct.val] S1x128.size (by intro a; fin_cases a <;> simp <;> omega)).toLoadRect (harg.unread w)

theorem gs_at (arg : Memref sig .tc .vmem S1x1024 .f32) (harg : arg.IsWhole) (w : FVec Ideal S1x1024 .f32) (ct : Fin 8) (l : Fin 128) :
    gs arg harg w ct (ix2 0 l) = w (ix2 0 ⟨128 * ct.val + l.val, by omega⟩) := by
  unfold gs
  simp only [Memref.IsWhole.readAt_unread]
  refine congrArg w (unit_idx _ _ ?_)
  intro a; fin_cases a <;> simp

theorem cast_at (w : Vec Ideal S1x1x32x128 .f32) (r : Fin 32) (l : Fin 128) :
    shapeCast S32x128 w shapeCasts_S1x1x32x128_S32x128 (ix2 r l) = w (ix4 0 0 r l) := by pointwise!

theorem vs_at (k : Fin k0_t1_loop.trips) (ct : Fin 8) (r : Fin 32) (l : Fin 128) (hr : 32 * k.val + r.val < 256) :
    vs arg1 harg1 x k ct (ix2 r l) = row x ⟨32 * k.val + r.val, hr⟩ ⟨128 * ct.val + l.val, by omega⟩ := by
  unfold vs
  rw [cast_at]
  unfold row
  have key : ∀ (n : ℕ) (hn : n < 8) (off : Fin 4 → ℕ) (ho : off = ![0, n, 32 * k.val, 0]) (inb : ∀ a, off a + S1x1x32x128.size a ≤ S1x8x256x128.size a),
      View.readAt (Elt Ideal) arg1.view (Rect.unit (s := S1x8x256x128) off S1x1x32x128.size inb).toLoadRect (harg1.unread x) (ix4 0 0 r l)
        = x (ix4 0 ⟨(128 * n + l.val) / 128, by omega⟩ ⟨32 * k.val + r.val, hr⟩ ⟨(128 * n + l.val) % 128, Nat.mod_lt _ (by decide)⟩) := by
    intro n hn off ho inb
    subst ho
    simp only [Memref.IsWhole.readAt_unread]
    refine congrArg x (unit_idx _ _ ?_)
    intro a; fin_cases a <;> simp <;> omega
  fin_cases ct
  · exact key 0 (by decide) _ (k0_off1_eq k) _
  · exact key 1 (by decide) _ (k0_off2_eq k) _
  · exact key 2 (by decide) _ (k0_off3_eq k) _
  · exact key 3 (by decide) _ (k0_off4_eq k) _
  · exact key 4 (by decide) _ (k0_off5_eq k) _
  · exact key 5 (by decide) _ (k0_off6_eq k) _
  · exact key 6 (by decide) _ (k0_off7_eq k) _
  · exact key 7 (by decide) _ (k0_off8_eq k) _

/-- The normalised column groups of one trip. -/
def zs (k : Fin k0_t1_loop.trips) : Fin 8 → FVec Ideal S32x128 .f32 := zt (vs arg1 harg1 x k) (gs arg2 harg2 g) (gs arg3 harg3 b)

theorem zs_at (k : Fin k0_t1_loop.trips) (ct : Fin 8) (r : Fin 32) (l : Fin 128) :
    zs arg1 harg1 arg2 harg2 arg3 harg3 x g b k ct (ix2 r l)
      = zrow x g b ⟨32 * k.val + r.val, by have hk : k.val < 8 := Nat.lt_of_lt_of_le k.isLt k0_t1_abs.2.1; omega⟩ ⟨128 * ct.val + l.val, by omega⟩ :=
  zt_at _ _ _ (fun r => row x ⟨32 * k.val + r.val, by have hk : k.val < 8 := Nat.lt_of_lt_of_le k.isLt k0_t1_abs.2.1; omega⟩) _ _
    (fun ct r l => vs_at arg1 harg1 x k ct r l _) (fun ct l => gs_at arg2 harg2 g ct l) (fun ct l => gs_at arg3 harg3 b ct l) ct r l

/-- A store of codes is the block's function on the places it names. -/
theorem q_piece (k : Fin k0_t1_loop.trips) (ct : Fin 8) (off : Fin 3 → ℕ) (ho : off = ![0, 32 * k.val, 128 * ct.val])
    (inb : ∀ a, off a + S1x32x128.size a ≤ S1x256x1024.size a) (v : FVec Ideal S1x32x128 .fp8e4m3)
    (hv : v = cd (zs arg1 harg1 arg2 harg2 arg3 harg3 x g b k) ct) (y : S1x32x128.Idx) :
    v y = blockQ x g b ((Rect.unit (s := S1x256x1024) off S1x32x128.size inb).idx y) := by
  have hk : k.val < 8 := Nat.lt_of_lt_of_le k.isLt k0_t1_abs.2.1
  subst ho hv
  idx_vars y
  refine (cd_at _ _ (fun ct r l => zs_at arg1 harg1 arg2 harg2 arg3 harg3 x g b k ct r l) _ _ _ _).trans
    (congrArg (blockQ x g b) (unit_idx _ (ix3 0 ⟨32 * k.val + y1.val, by omega⟩ ⟨128 * ct.val + y2.val, by omega⟩) ?_)).symm
  intro a; fin_cases a <;> simp

/-- A store of scales is the block's function on the places it names. -/
theorem s_piece (k : Fin k0_t1_loop.trips) (off : Fin 2 → ℕ) (ho : off = ![32 * k.val, 0])
    (inb : ∀ a, off a + S32x128.size a ≤ S256x128.size a) (v : FVec Ideal S32x128 .f32)
    (hv : v = shapeCast S32x128 (sv (zs arg1 harg1 arg2 harg2 arg3 harg3 x g b k)) shapeCasts_S32x128_S32x128) (y : S32x128.Idx) :
    v y = blockS x g b ((Rect.unit (s := S256x128) off S32x128.size inb).idx y) := by
  have hk : k.val < 8 := Nat.lt_of_lt_of_le k.isLt k0_t1_abs.2.1
  subst ho hv
  idx_vars y
  have e : shapeCast S32x128 (sv (zs arg1 harg1 arg2 harg2 arg3 harg3 x g b k)) shapeCasts_S32x128_S32x128 (ix2 y0 y1)
      = sv (zs arg1 harg1 arg2 harg2 arg3 harg3 x g b k) (ix2 y0 y1) := by pointwise!
  refine e.trans ((sv_at _ _ (fun ct r l => zs_at arg1 harg1 arg2 harg2 arg3 harg3 x g b k ct r l) _ _).trans
    (congrArg (blockS x g b) (unit_idx _ (ix2 ⟨32 * k.val + y0.val, by omega⟩ y1) ?_)).symm)
  intro a; fin_cases a <;> simp

end

/-- The generated payloads, as the tile functions above. -/
theorem p19 (v : Fin 8 → FVec Ideal S32x128 .f32) : k0_pay19 (v 0) (v 1) (v 2) (v 3) (v 4) (v 5) (v 6) (v 7) (sum8 v) = rv (sq v) := rfl
theorem p20 (v : Fin 8 → FVec Ideal S32x128 .f32) (g b : Fin 8 → FVec Ideal S1x128 .f32) :
    k0_pay20 (v 0) (v 1) (v 2) (v 3) (v 4) (v 5) (v 6) (v 7) (sum8 v) (g 0) (b 0) = zt v g b 0 := rfl
theorem pz1 (v : Fin 8 → FVec Ideal S32x128 .f32) (g b : Fin 8 → FVec Ideal S1x128 .f32) :
    k0_pay21 (yc v 1) (rv (sq v)) (g 1) (b 1) = zt v g b 1 := rfl
theorem pz2 (v : Fin 8 → FVec Ideal S32x128 .f32) (g b : Fin 8 → FVec Ideal S1x128 .f32) :
    k0_pay22 (yc v 2) (rv (sq v)) (g 2) (b 2) = zt v g b 2 := rfl
theorem pz3 (v : Fin 8 → FVec Ideal S32x128 .f32) (g b : Fin 8 → FVec Ideal S1x128 .f32) :
    k0_pay23 (yc v 3) (rv (sq v)) (g 3) (b 3) = zt v g b 3 := rfl
theorem pz5 (v : Fin 8 → FVec Ideal S32x128 .f32) (g b : Fin 8 → FVec Ideal S1x128 .f32) :
    k0_pay27 (yc v 5) (rv (sq v)) (g 5) (b 5) = zt v g b 5 := rfl
theorem pz6 (v : Fin 8 → FVec Ideal S32x128 .f32) (g b : Fin 8 → FVec Ideal S1x128 .f32) :
    k0_pay28 (yc v 6) (rv (sq v)) (g 6) (b 6) = zt v g b 6 := rfl
theorem pz7 (v : Fin 8 → FVec Ideal S32x128 .f32) (g b : Fin 8 → FVec Ideal S1x128 .f32) :
    k0_pay29 (yc v 7) (rv (sq v)) (g 7) (b 7) = zt v g b 7 := rfl
theorem pz4 (v : Fin 8 → FVec Ideal S32x128 .f32) (g b : Fin 8 → FVec Ideal S1x128 .f32) :
    k0_pay26 (k0_pay25 (yc v 4) (rv (sq v)) (g 4)) (b 4) = zt v g b 4 := rfl
theorem p32 (w : FVec Ideal S32x128 .f32) : k0_pay32 w k0_pay31 = vscale (mulf w (broadcast S32x128 (Scalar.ofBits .f32 0x3B124925#32))) := rfl
theorem p30 (v : Fin 8 → FVec Ideal S32x128 .f32) (g b : Fin 8 → FVec Ideal S1x128 .f32) :
    k0_pay30 (yc v 5) (yc v 6) (yc v 7) (rv (sq v))
      (k0_pay24 (yc v 1) (yc v 2) (yc v 3) (rv (sq v)) (zt v g b 0) (g 1) (b 1) (g 2) (b 2) (g 3) (b 3))
      (k0_pay25 (yc v 4) (rv (sq v)) (g 4)) (b 4) (g 5) (b 5) (g 6) (b 6) (g 7) (b 7) = rowmax (max8 (zt v g b)) := by
  unfold k0_pay30 k0_pay24
  rw [pz1, pz2, pz3, pz4, pz5, pz6, pz7]
  rfl

section
variable (arg1 : Memref sig .tc .vmem S1x8x256x128 .f32) (harg1 : arg1.IsWhole) (arg2 : Memref sig .tc .vmem S1x1024 .f32) (harg2 : arg2.IsWhole) (arg3 : Memref sig .tc .vmem S1x1024 .f32) (harg3 : arg3.IsWhole)
  (x : FVec Ideal S1x8x256x128 .f32) (g b : FVec Ideal S1x1024 .f32) (k : Fin k0_t1_loop.trips)

theorem r0 : trip_k0_t1.sl.r (F := Ideal) arg1 (harg1.unread x) k = vs arg1 harg1 x k 0 := rfl
theorem r1 : trip_k0_t1.sl.r_1 (F := Ideal) arg1 (harg1.unread x) k = vs arg1 harg1 x k 1 := rfl
theorem r2 : trip_k0_t1.sl.r_2 (F := Ideal) arg1 (harg1.unread x) k = vs arg1 harg1 x k 2 := rfl
theorem r3 : trip_k0_t1.sl.r_3 (F := Ideal) arg1 (harg1.unread x) k = vs arg1 harg1 x k 3 := rfl
theorem r4 : trip_k0_t1.sl.r_4 (F := Ideal) arg1 (harg1.unread x) k = vs arg1 harg1 x k 4 := rfl
theorem r5 : trip_k0_t1.sl.r_5 (F := Ideal) arg1 (harg1.unread x) k = vs arg1 harg1 x k 5 := rfl
theorem r6 : trip_k0_t1.sl.r_6 (F := Ideal) arg1 (harg1.unread x) k = vs arg1 harg1 x k 6 := rfl
theorem r7 : trip_k0_t1.sl.r_7 (F := Ideal) arg1 (harg1.unread x) k = vs arg1 harg1 x k 7 := rfl
theorem r8 : trip_k0_t1.sl.r_8 (F := Ideal) arg1 (harg1.unread x) k = sum8 (vs arg1 harg1 x k) := rfl
theorem r9 : trip_k0_t1.sl.r_9 (F := Ideal) arg1 (harg1.unread x) k = yc (vs arg1 harg1 x k) 1 := by
  unfold trip_k0_t1.sl.r_9; rw [r1 arg1 harg1, r8 arg1 harg1]; rfl
theorem r10 : trip_k0_t1.sl.r_10 (F := Ideal) arg1 (harg1.unread x) k = yc (vs arg1 harg1 x k) 2 := by
  unfold trip_k0_t1.sl.r_10; rw [r2 arg1 harg1, r8 arg1 harg1]; rfl
theorem r11 : trip_k0_t1.sl.r_11 (F := Ideal) arg1 (harg1.unread x) k = yc (vs arg1 harg1 x k) 3 := by
  unfold trip_k0_t1.sl.r_11; rw [r3 arg1 harg1, r8 arg1 harg1]; rfl
theorem r12 : trip_k0_t1.sl.r_12 (F := Ideal) arg1 (harg1.unread x) k = yc (vs arg1 harg1 x k) 4 := by
  unfold trip_k0_t1.sl.r_12; rw [r4 arg1 harg1, r8 arg1 harg1]; rfl
theorem r13 : trip_k0_t1.sl.r_13 (F := Ideal) arg1 (harg1.unread x) k = yc (vs arg1 harg1 x k) 5 := by
  unfold trip_k0_t1.sl.r_13; rw [r5 arg1 harg1, r8 arg1 harg1]; rfl
theorem r14 : trip_k0_t1.sl.r_14 (F := Ideal) arg1 (harg1.unread x) k = yc (vs arg1 harg1 x k) 6 := by
  unfold trip_k0_t1.sl.r_14; rw [r6 arg1 harg1, r8 arg1 harg1]; rfl
theorem r15 : trip_k0_t1.sl.r_15 (F := Ideal) arg1 (harg1.unread x) k = yc (vs arg1 harg1 x k) 7 := by
  unfold trip_k0_t1.sl.r_15; rw [r7 arg1 harg1, r8 arg1 harg1]; rfl
theorem r16 : trip_k0_t1.sl.r_16 (F := Ideal) arg1 (harg1.unread x) k = rv (sq (vs arg1 harg1 x k)) := by
  unfold trip_k0_t1.sl.r_16; rw [r0 arg1 harg1, r1 arg1 harg1, r2 arg1 harg1, r3 arg1 harg1, r4 arg1 harg1, r5 arg1 harg1, r6 arg1 harg1, r7 arg1 harg1, r8 arg1 harg1]; exact p19 _
theorem r17 : trip_k0_t1.sl.r_17 (F := Ideal) arg1 arg2 arg3 (harg1.unread x) (harg2.unread g) (harg3.unread b) k = zs arg1 harg1 arg2 harg2 arg3 harg3 x g b k 0 := by
  unfold trip_k0_t1.sl.r_17; rw [r0 arg1 harg1, r1 arg1 harg1, r2 arg1 harg1, r3 arg1 harg1, r4 arg1 harg1, r5 arg1 harg1, r6 arg1 harg1, r7 arg1 harg1, r8 arg1 harg1]
  exact p20 (vs arg1 harg1 x k) (gs arg2 harg2 g) (gs arg3 harg3 b)
theorem r18 : trip_k0_t1.sl.r_18 (F := Ideal) arg1 arg2 arg3 (harg1.unread x) (harg2.unread g) (harg3.unread b) k = zs arg1 harg1 arg2 harg2 arg3 harg3 x g b k 1 := by
  unfold trip_k0_t1.sl.r_18; rw [r9 arg1 harg1, r16 arg1 harg1]; exact pz1 (vs arg1 harg1 x k) (gs arg2 harg2 g) (gs arg3 harg3 b)
theorem r19 : trip_k0_t1.sl.r_19 (F := Ideal) arg1 arg2 arg3 (harg1.unread x) (harg2.unread g) (harg3.unread b) k = zs arg1 harg1 arg2 harg2 arg3 harg3 x g b k 2 := by
  unfold trip_k0_t1.sl.r_19; rw [r10 arg1 harg1, r16 arg1 harg1]; exact pz2 (vs arg1 harg1 x k) (gs arg2 harg2 g) (gs arg3 harg3 b)
theorem r20 : trip_k0_t1.sl.r_20 (F := Ideal) arg1 arg2 arg3 (harg1.unread x) (harg2.unread g) (harg3.unread b) k = zs arg1 harg1 arg2 harg2 arg3 harg3 x g b k 3 := by
  unfold trip_k0_t1.sl.r_20; rw [r11 arg1 harg1, r16 arg1 harg1]; exact pz3 (vs arg1 harg1 x k) (gs arg2 harg2 g) (gs arg3 harg3 b)
theorem r25 : trip_k0_t1.sl.r_25 (F := Ideal) arg1 arg2 arg3 (harg1.unread x) (harg2.unread g) (harg3.unread b) k = zs arg1 harg1 arg2 harg2 arg3 harg3 x g b k 5 := by
  unfold trip_k0_t1.sl.r_25; rw [r13 arg1 harg1, r16 arg1 harg1]; exact pz5 (vs arg1 harg1 x k) (gs arg2 harg2 g) (gs arg3 harg3 b)
theorem r26 : trip_k0_t1.sl.r_26 (F := Ideal) arg1 arg2 arg3 (harg1.unread x) (harg2.unread g) (harg3.unread b) k = zs arg1 harg1 arg2 harg2 arg3 harg3 x g b k 6 := by
  unfold trip_k0_t1.sl.r_26; rw [r14 arg1 harg1, r16 arg1 harg1]; exact pz6 (vs arg1 harg1 x k) (gs arg2 harg2 g) (gs arg3 harg3 b)
theorem r27 : trip_k0_t1.sl.r_27 (F := Ideal) arg1 arg2 arg3 (harg1.unread x) (harg2.unread g) (harg3.unread b) k = zs arg1 harg1 arg2 harg2 arg3 harg3 x g b k 7 := by
  unfold trip_k0_t1.sl.r_27; rw [r15 arg1 harg1, r16 arg1 harg1]; exact pz7 (vs arg1 harg1 x k) (gs arg2 harg2 g) (gs arg3 harg3 b)
theorem r22 : trip_k0_t1.sl.r_22 (F := Ideal) arg1 arg2 (harg1.unread x) (harg2.unread g) k = k0_pay25 (yc (vs arg1 harg1 x k) 4) (rv (sq (vs arg1 harg1 x k))) (gs arg2 harg2 g 4) := by
  unfold trip_k0_t1.sl.r_22; rw [r12 arg1 harg1, r16 arg1 harg1]; rfl
theorem r23 : trip_k0_t1.sl.r_23 (F := Ideal) arg3 (harg3.unread b) = gs arg3 harg3 b 4 := rfl
theorem r24 : trip_k0_t1.sl.r_24 (F := Ideal) arg1 arg2 arg3 (harg1.unread x) (harg2.unread g) (harg3.unread b) k = zs arg1 harg1 arg2 harg2 arg3 harg3 x g b k 4 := by
  unfold trip_k0_t1.sl.r_24; rw [r22 arg1 harg1 arg2 harg2, r23 arg3 harg3]; exact pz4 (vs arg1 harg1 x k) (gs arg2 harg2 g) (gs arg3 harg3 b)
theorem r28 : trip_k0_t1.sl.r_28 (F := Ideal) arg1 arg2 arg3 (harg1.unread x) (harg2.unread g) (harg3.unread b) k = rowmax (max8 (zs arg1 harg1 arg2 harg2 arg3 harg3 x g b k)) := by
  unfold trip_k0_t1.sl.r_28 trip_k0_t1.sl.r_21
  rw [r9 arg1 harg1, r10 arg1 harg1, r11 arg1 harg1, r13 arg1 harg1, r14 arg1 harg1, r15 arg1 harg1, r16 arg1 harg1, r17 arg1 harg1 arg2 harg2 arg3 harg3,
    r22 arg1 harg1 arg2 harg2, r23 arg3 harg3]
  exact p30 (vs arg1 harg1 x k) (gs arg2 harg2 g) (gs arg3 harg3 b)
theorem r29 : trip_k0_t1.sl.r_29 (F := Ideal) arg1 arg2 arg3 (harg1.unread x) (harg2.unread g) (harg3.unread b) k = sv (zs arg1 harg1 arg2 harg2 arg3 harg3 x g b k) := by
  unfold trip_k0_t1.sl.r_29; rw [r28 arg1 harg1 arg2 harg2 arg3 harg3]; exact p32 _
theorem r30 : trip_k0_t1.sl.r_30 (F := Ideal) arg1 arg2 arg3 (harg1.unread x) (harg2.unread g) (harg3.unread b) k = divf (broadcast S32x128 (Scalar.ofBits .f32 0x3F800000#32)) (sv (zs arg1 harg1 arg2 harg2 arg3 harg3 x g b k)) := by
  unfold trip_k0_t1.sl.r_30 k0_pay33; rw [r28 arg1 harg1 arg2 harg2 arg3 harg3, p32]; rfl
end

section
variable (𝒱 : Variants) (c : Dev nD) (bd : Option 𝒱.V) (i : grid0.Coords) (arg1 : Memref sig .tc .vmem S1x8x256x128 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x256x1024 .fp8e4m3) (harg4 : arg4.IsWhole) (arg5 : Memref sig .tc .vmem S6x256 .f32) (harg5 : arg5.IsWhole) (arg6 : Memref sig .tc .vmem S256x128 .f32) (harg6 : arg6.IsWhole)
  (x : FVec Ideal S1x8x256x128 .f32) (g b : FVec Ideal S1x1024 .f32)

/-- One trip's stores of codes. -/
theorem trip_q (k : Fin k0_t1_loop.trips) : View.PiecesOf (blockQ x g b) (trip_k0_t1 (F := Ideal) 𝒱 c bd i arg1 harg1 arg2 harg2 arg3 harg3 arg4 harg4 arg5 harg5 arg6 harg6 (harg1.unread x) (harg2.unread g) (harg3.unread b) k).1 := by
  unfold trip_k0_t1
  exact ⟨q_piece arg1 harg1 arg2 harg2 arg3 harg3 x g b k 7 _ (k0_off17_eq k) (k0_off17_inb k) _ (by unfold trip_k0_t1.sl.r_33; rw [r27 arg1 harg1 arg2 harg2 arg3 harg3, r30 arg1 harg1 arg2 harg2 arg3 harg3]; rfl),
    q_piece arg1 harg1 arg2 harg2 arg3 harg3 x g b k 6 _ (k0_off16_eq k) (k0_off16_inb k) _ (by rw [r26 arg1 harg1 arg2 harg2 arg3 harg3, r30 arg1 harg1 arg2 harg2 arg3 harg3]; rfl),
    q_piece arg1 harg1 arg2 harg2 arg3 harg3 x g b k 5 _ (k0_off15_eq k) (k0_off15_inb k) _ (by rw [r25 arg1 harg1 arg2 harg2 arg3 harg3, r30 arg1 harg1 arg2 harg2 arg3 harg3]; rfl),
    q_piece arg1 harg1 arg2 harg2 arg3 harg3 x g b k 4 _ (k0_off14_eq k) (k0_off14_inb k) _ (by rw [r24 arg1 harg1 arg2 harg2 arg3 harg3, r30 arg1 harg1 arg2 harg2 arg3 harg3]; rfl),
    q_piece arg1 harg1 arg2 harg2 arg3 harg3 x g b k 3 _ (k0_off13_eq k) (k0_off13_inb k) _ (by unfold trip_k0_t1.sl.r_32; rw [r20 arg1 harg1 arg2 harg2 arg3 harg3, r30 arg1 harg1 arg2 harg2 arg3 harg3]; rfl),
    q_piece arg1 harg1 arg2 harg2 arg3 harg3 x g b k 2 _ (k0_off12_eq k) (k0_off12_inb k) _ (by rw [r19 arg1 harg1 arg2 harg2 arg3 harg3, r30 arg1 harg1 arg2 harg2 arg3 harg3]; rfl),
    q_piece arg1 harg1 arg2 harg2 arg3 harg3 x g b k 1 _ (k0_off11_eq k) (k0_off11_inb k) _ (by rw [r18 arg1 harg1 arg2 harg2 arg3 harg3, r30 arg1 harg1 arg2 harg2 arg3 harg3]; rfl),
    q_piece arg1 harg1 arg2 harg2 arg3 harg3 x g b k 0 _ (k0_off10_eq k) (k0_off10_inb k) _ (by rw [r17 arg1 harg1 arg2 harg2 arg3 harg3, r30 arg1 harg1 arg2 harg2 arg3 harg3]; rfl), trivial⟩

/-- One trip's store of scales. -/
theorem trip_s (k : Fin k0_t1_loop.trips) : View.PiecesOf (blockS x g b) (trip_k0_t1 (F := Ideal) 𝒱 c bd i arg1 harg1 arg2 harg2 arg3 harg3 arg4 harg4 arg5 harg5 arg6 harg6 (harg1.unread x) (harg2.unread g) (harg3.unread b) k).2.1 := by
  unfold trip_k0_t1
  exact ⟨s_piece arg1 harg1 arg2 harg2 arg3 harg3 x g b k _ (k0_off9_eq k) (k0_off9_inb k) _ (by rw [r29 arg1 harg1 arg2 harg2 arg3 harg3]; rfl), trivial⟩

theorem pieces : ∀ n, n ≤ k0_t1_loop.trips →
    View.PiecesOf (blockQ x g b) (pb_k0_t1 (F := Ideal) 𝒱 c bd i arg1 harg1 arg2 harg2 arg3 harg3 arg4 harg4 arg5 harg5 arg6 harg6 (harg1.unread x) (harg2.unread g) (harg3.unread b) n).1
      ∧ View.PiecesOf (blockS x g b) (pb_k0_t1 (F := Ideal) 𝒱 c bd i arg1 harg1 arg2 harg2 arg3 harg3 arg4 harg4 arg5 harg5 arg6 harg6 (harg1.unread x) (harg2.unread g) (harg3.unread b) n).2
  | 0, _ => ⟨trivial, trivial⟩
  | n + 1, h => by
    rw [pb_k0_t1_succ (F := Ideal) 𝒱 c bd i arg1 harg1 arg2 harg2 arg3 harg3 arg4 harg4 arg5 harg5 arg6 harg6 _ _ _ ⟨n, h⟩]
    obtain ⟨p, p'⟩ := pieces n (Nat.le_of_succ_le h)
    exact ⟨piecesOf_append _ _ (trip_q ..) p, piecesOf_append _ _ (trip_s ..) p'⟩

end

/-- The first result's block at a grid point. -/
theorem out_A_3 (c : Dev nD) (t : Fin cfg0.N) (h : t.val % 6 = 0) :
    out0_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) = blockQ (iblk m c 0 t) (iblk m c 1 t) (iblk m c 2 t) := by
  funext y
  have hc := cover0_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) y
  unfold out0_A_3
  refine View.read_writes_apply_of_pieces _ _ _ _ (View.PiecesOf.mem ?_) y hc
  unfold kernelRun0_A
  exact (pieces _ c none (grid0.coords t) _ (hs0_0 t) _ (hs0_1 t) _ (hs0_2 t) _ (hs0_3 t) _ (hs0_4 t) _ (Memref.isWhole_whole _) _ _ _ _ le_rfl).1

theorem out_B_3 (c : Dev nD) (t : Fin cfg0.N) (h : ¬ t.val % 6 = 0) (a5 : FVec Ideal S6x256 .f32) :
    out0_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) a5 = blockQ (iblk m c 0 t) (iblk m c 1 t) (iblk m c 2 t) := by
  funext y
  have hc := cover0_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) a5 y
  unfold out0_B_3
  refine View.read_writes_apply_of_pieces _ _ _ _ (View.PiecesOf.mem ?_) y hc
  unfold kernelRun0_B
  exact (pieces _ c none (grid0.coords t) _ (hs0_0 t) _ (hs0_1 t) _ (hs0_2 t) _ (hs0_3 t) _ (hs0_4 t) _ (Memref.isWhole_whole _) _ _ _ _ le_rfl).1

theorem cmp_eq (a b : ℕ) (ha : a < 4294967296) (hb : b < 4294967296) :
    IntOp.cmpi CmpIPredicate.eq (BitVec.ofNat 32 a) (BitVec.ofNat 32 b) = BitVec.ofBool (decide (a = b)) := by
  unfold IntOp.cmpi
  have e : (BitVec.ofNat 32 a = BitVec.ofNat 32 b) ↔ a = b := by
    constructor
    · intro h
      have := congrArg BitVec.toNat h
      simpa [BitVec.toNat_ofNat, Nat.mod_eq_of_lt ha, Nat.mod_eq_of_lt hb] using this
    · rintro rfl; rfl
  by_cases h : a = b
  · subst h; simp
  · have h' : (BitVec.ofNat 32 a == BitVec.ofNat 32 b) = false := by simpa using fun h'' => h (e.mp h'')
    simp only [h', decide_eq_false h]

/-- A sum masked to the diagonal is the diagonal's entry. -/
theorem diag (f : Fin 128 → EReal) (l : Fin 128) : (∑ k : Fin 128, if k.val = l.val then f k else 0) = f l := by
  rw [Finset.sum_congr rfl fun k _ => if_congr (Fin.ext_iff (a := k) (b := l)).symm rfl rfl, Finset.sum_ite_eq' Finset.univ l]; simp

/-- The store of one grid point's scales: its own row of the tile is the tile's diagonal, the others stay. -/
theorem pay47_at (i : grid0.Coords) (v7 : FVec Ideal S128x128 .f32) (v15 : FVec Ideal S6x128 .f32) (a : Fin 6) (l : Fin 128) :
    k0_pay47 i v7 v15 (ix2 a l) = if a.val = (i 0).val then v7 (ix2 l l) else v15 (ix2 a l) := by
  have hi : (i 0).val < 6 := (i 0).isLt
  unfold k0_pay47 k0_pay46
  pointwise
  rw [cmp_eq _ _ (by omega) (by omega), select_cmp]
  refine if_congr Iff.rfl ?_ rfl
  refine (Finset.sum_congr rfl fun k _ => ?_).trans (diag (fun k => v7 (ix2 k l)) l)
  rw [cmp_eq _ _ (by omega) (by omega), select_cmp]

theorem pay48_at (i : grid0.Coords) (v7 : FVec Ideal S128x128 .f32) (v15 : FVec Ideal S6x128 .f32) (a : Fin 6) (l : Fin 128) :
    k0_pay48 i v7 v15 (ix2 a l) = if a.val = (i 0).val then v7 (ix2 l l) else v15 (ix2 a l) := pay47_at i v7 v15 a l

/-- The loop's stores of scales cover their buffer. -/
theorem cov6 (𝒱 : Variants) (c : Dev nD) (bd : Option 𝒱.V) (i : grid0.Coords) (arg1 : Memref sig .tc .vmem S1x8x256x128 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x256x1024 .fp8e4m3) (harg4 : arg4.IsWhole) (arg5 : Memref sig .tc .vmem S6x256 .f32) (harg5 : arg5.IsWhole) (arg6 : Memref sig .tc .vmem S256x128 .f32) (harg6 : arg6.IsWhole)
    (x : FVec Ideal S1x8x256x128 .f32) (g b : FVec Ideal S1x1024 .f32) (y : S256x128.Idx) :
    ∃ p ∈ (pb_k0_t1 (F := Ideal) 𝒱 c bd i arg1 harg1 arg2 harg2 arg3 harg3 arg4 harg4 arg5 harg5 arg6 harg6 (harg1.unread x) (harg2.unread g) (harg3.unread b) k0_t1_loop.trips).2, y ∈ p.1.set :=
  View.cover_of_tiledL (pb_k0_t1 (F := Ideal) 𝒱 c bd i arg1 harg1 arg2 harg2 arg3 harg3 arg4 harg4 arg5 harg5 arg6 harg6 (harg1.unread x) (harg2.unread g) (harg3.unread b) k0_t1_loop.trips).2 S32x128.size (by sl_kernel_rfl) y

/-- The scales read back after the loop. -/
theorem read6 (𝒱 : Variants) (c : Dev nD) (bd : Option 𝒱.V) (i : grid0.Coords) (arg1 : Memref sig .tc .vmem S1x8x256x128 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x256x1024 .fp8e4m3) (harg4 : arg4.IsWhole) (arg5 : Memref sig .tc .vmem S6x256 .f32) (harg5 : arg5.IsWhole) (arg6 : Memref sig .tc .vmem S256x128 .f32) (harg6 : arg6.IsWhole)
    (x : FVec Ideal S1x8x256x128 .f32) (g b : FVec Ideal S1x1024 .f32) (off : Fin 2 → ℕ) (inb : ∀ a, off a + S128x128.size a ≤ S256x128.size a) (o : ℕ) (ho : off = ![o, 0]) (l : Fin 128) (hl : o + l.val < 256) :
    arg6.view.readCov (pb_k0_t1 (F := Ideal) 𝒱 c bd i arg1 harg1 arg2 harg2 arg3 harg3 arg4 harg4 arg5 harg5 arg6 harg6 (harg1.unread x) (harg2.unread g) (harg3.unread b) k0_t1_loop.trips).2 (Rect.unit (s := S256x128) off S128x128.size inb).toLoadRect (ix2 l l) = blockS x g b (ix2 ⟨o + l.val, hl⟩ 0) := by
  rw [View.readCov_eq_canon']
  have h := View.canon_append_of_piecesOf (blockS x g b) [] (pb_k0_t1 (F := Ideal) 𝒱 c bd i arg1 harg1 arg2 harg2 arg3 harg3 arg4 harg4 arg5 harg5 arg6 harg6 (harg1.unread x) (harg2.unread g) (harg3.unread b) k0_t1_loop.trips).2 (pieces 𝒱 c bd i arg1 harg1 arg2 harg2 arg3 harg3 arg4 harg4 arg5 harg5 arg6 harg6 x g b _ le_rfl).2
    ((Rect.unit (s := S256x128) off S128x128.size inb).toLoadRect.idx (ix2 l l)) (cov6 ..)
  rw [List.append_nil] at h
  refine h.trans ?_
  subst ho
  have e : (Rect.unit (s := S256x128) ![o, 0] S128x128.size inb).toLoadRect.idx (ix2 l l) = (ix2 ⟨o + l.val, hl⟩ l : S256x128.Idx) := by
    refine unit_idx _ _ ?_
    intro a; fin_cases a <;> simp
  rw [e]
  rfl

/-- One row of scales put into the array of rows. -/
def put (n : ℕ) (s : FVec Ideal S256x128 .f32) (old : FVec Ideal S6x256 .f32) : FVec Ideal S6x256 .f32 :=
  fun y => if (y 0).val = n then s (ix2 (y 1) 0) else old y

/-- A store into the rows of scales is that function on the places it names. -/
theorem put_piece (i : grid0.Coords) (s : FVec Ideal S256x128 .f32) (old : FVec Ideal S6x256 .f32) (v7 : FVec Ideal S128x128 .f32) (v15 : FVec Ideal S6x128 .f32)
    (o : ℕ) (off : Fin 2 → ℕ) (ho : off = ![0, o]) (inb : ∀ a, off a + S6x128.size a ≤ S6x256.size a)
    (h7 : ∀ (l : Fin 128) (hl : o + l.val < 256), v7 (ix2 l l) = s (ix2 ⟨o + l.val, hl⟩ 0))
    (h15 : ∀ x : S6x128.Idx, v15 x = old ((Rect.unit (s := S6x256) off S6x128.size inb).idx x)) (y : S6x128.Idx) :
    k0_pay47 i v7 v15 y = put (i 0).val s old ((Rect.unit (s := S6x256) off S6x128.size inb).idx y) := by
  have hl : o + 128 ≤ 256 := by have := inb 1; rw [ho] at this; simpa using this
  idx_vars y
  rw [pay47_at, h15]
  subst ho
  have e : (Rect.unit (s := S6x256) ![0, o] S6x128.size inb).idx (ix2 y0 y1) = (ix2 y0 ⟨o + y1.val, by omega⟩ : S6x256.Idx) := by
    refine unit_idx _ _ ?_
    intro a; fin_cases a <;> simp
  rw [e, h7 y1 (by omega)]
  rfl

/-- The rows of scales after a grid point that carries them from the one before. -/
theorem out_B_4 (c : Dev nD) (t : Fin cfg0.N) (h : ¬ t.val % 6 = 0) (a5 : FVec Ideal S6x256 .f32) :
    out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) a5
      = put (grid0.coords t 0).val (blockS (iblk m c 0 t) (iblk m c 1 t) (iblk m c 2 t)) a5 := by
  funext y
  have hc := cover0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) a5 y
  unfold out0_B_4
  refine View.read_writes_apply_of_pieces _ _ _ _ (View.PiecesOf.mem ?_) y hc
  unfold kernelRun0_B
  refine ⟨?_, ?_, trivial⟩
  · unfold kernelRun0_B.sl.r
    refine put_piece _ _ _ _ _ 128 ![0, 128] rfl inb_S6x256_S6x128_0_128 (fun l hl => read6 _ c none (grid0.coords t) _ (hs0_0 t) _ (hs0_1 t) _ (hs0_2 t) _ (hs0_3 t) _ (hs0_4 t) _ (Memref.isWhole_whole _) _ _ _ _ _ 128 rfl l hl) ?_
    intro x
    unfold kernelRun0_B.sl.v29
    simp only [Memref.IsWhole.readAt_unread]
  · refine put_piece _ _ _ _ _ 0 ![0, 0] rfl inb_S6x256_S6x128_0_0 (fun l hl => read6 _ c none (grid0.coords t) _ (hs0_0 t) _ (hs0_1 t) _ (hs0_2 t) _ (hs0_3 t) _ (hs0_4 t) _ (Memref.isWhole_whole _) _ _ _ _ _ 0 rfl l hl) ?_
    intro x
    simp only [Memref.IsWhole.readAt_unread]

theorem zero_off : ∀ a : Fin 2, (![0, 0] : Fin 2 → ℕ) a = 0 := by intro a; fin_cases a <;> rfl

theorem pay44_at (y : S6x256.Idx) : k0_pay44 (F := Ideal) y = 0 := by
  unfold k0_pay44
  idx_vars y
  pointwise

/-- The rows of scales after the first grid point. -/
theorem out_A_4 (c : Dev nD) (t : Fin cfg0.N) (h : t.val % 6 = 0) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t)
      = put (grid0.coords t 0).val (blockS (iblk m c 0 t) (iblk m c 1 t) (iblk m c 2 t)) (fun _ => 0) := by
  funext y
  unfold out0_A_4
  rw [View.read_writes_junk_apply_eq_canon]
  unfold kernelRun0_A
  dsimp only
  unfold kernelRun0_A.sl.H4_2
  refine View.canon_append_of_piecesOf _ kernelRun0_A.sl.H4_1 [_, _] ?_ y (View.cover_of_tiledL (s := S6x256) [_, _] S6x128.size (by sl_kernel_rfl) y)
  refine ⟨?_, ?_, trivial⟩
  · unfold kernelRun0_A.sl.r
    refine put_piece _ _ _ _ _ 128 ![0, 128] rfl inb_S6x256_S6x128_0_128 (fun l hl => read6 _ c none (grid0.coords t) _ (hs0_0 t) _ (hs0_1 t) _ (hs0_2 t) _ (hs0_3 t) _ (hs0_4 t) _ (Memref.isWhole_whole _) _ _ _ _ _ 128 rfl l hl) ?_
    intro x
    unfold kernelRun0_A.sl.v29 kernelRun0_A.sl.H4_2 kernelRun0_A.sl.H4_1
    rw [View.readCov_skip _ _ _ _ _ rfl]
    have hf := congrFun (View.readCov_fill (Val := Elt Ideal) (ms0_4 t).view inb_S6x256_S6x256_0_0 (k0_pay44 (F := Ideal)) [] (Rect.unit (s := S6x256) ![0, 128] S6x128.size inb_S6x256_S6x128_0_128) zero_off) x
    exact hf.trans (pay44_at _)
  · refine put_piece _ _ _ _ _ 0 ![0, 0] rfl inb_S6x256_S6x128_0_0 (fun l hl => read6 _ c none (grid0.coords t) _ (hs0_0 t) _ (hs0_1 t) _ (hs0_2 t) _ (hs0_3 t) _ (hs0_4 t) _ (Memref.isWhole_whole _) _ _ _ _ _ 0 rfl l hl) ?_
    intro x
    unfold kernelRun0_A.sl.v15 kernelRun0_A.sl.H4_1
    have hf := congrFun (View.readCov_fill (Val := Elt Ideal) (ms0_4 t).view inb_S6x256_S6x256_0_0 (k0_pay44 (F := Ideal)) [] (Rect.unit (s := S6x256) ![0, 0] S6x128.size inb_S6x256_S6x128_0_0) zero_off) x
    exact hf.trans (pay44_at _)

/-- One row of the input, normalised. -/
def zA (y : FVec Ideal S6x256x1024 .f32) (g b : FVec Ideal S1024 .f32) (a : Fin 6) (r : Fin 256) : Fin 1024 → EReal :=
  lnz (fun k => y (ix3 a r k)) (fun k => g (ix1 k)) (fun k => b (ix1 k))

/-- The codes, from the three arguments. -/
def GQ (y : FVec Ideal S6x256x1024 .f32) (g b : FVec Ideal S1024 .f32) : FVec Ideal S6x256x1024 .fp8e4m3 :=
  fun i => code (zA y g b (i 0) (i 1)) (i 2)

/-- The scales, from the three arguments. -/
def GS (y : FVec Ideal S6x256x1024 .f32) (g b : FVec Ideal S1024 .f32) : FVec Ideal S6x256 .f32 :=
  fun i => sc (zA y g b (i 0) (i 1))

/-- Which block of each window a grid point sees. -/
theorem idx : ∀ t : Fin cfg0.N, win0_0.index t = ![t.val, 0, 0, 0] ∧ win0_1.index t = ![0, 0] ∧ win0_2.index t = ![0, 0] ∧
    win0_3.index t = ![t.val, 0, 0] ∧ win0_4.index t = ![0, 0] ∧ (grid0.coords t 0).val = t.val :=
  (by decide +kernel : ∀ t : Fin grid0.N, _)

theorem V_y (c : Dev nD) (a : Fin 6) (u : Fin 8) (r : Fin 256) (l : Fin 128) :
    (V m c main_v1 : FVec Ideal S6x8x256x128 .f32) (ix4 a u r l) = (m ((c : Thread nD τ).loc main_arg0) : FVec Ideal S6x256x1024 .f32) (ix3 a r ⟨128 * u.val + l.val, by omega⟩) := by
  entry_read
  pointwise
  exact congrArg _ (congr (congr (congrArg ix3 rfl) rfl) (Fin.ext (by dsimp only; omega)))

theorem V_g (c : Dev nD) (a : Fin 1) (b : Fin 1024) :
    (V m c main_v2 : FVec Ideal S1x1024 .f32) (ix2 a b) = (m ((c : Thread nD τ).loc main_arg1) : FVec Ideal S1024 .f32) (ix1 b) := by
  entry_read
  pointwise

theorem V_b (c : Dev nD) (a : Fin 1) (b : Fin 1024) :
    (V m c main_v3 : FVec Ideal S1x1024 .f32) (ix2 a b) = (m ((c : Thread nD τ).loc main_arg2) : FVec Ideal S1024 .f32) (ix1 b) := by
  entry_read
  pointwise

theorem b0 (c : Dev nD) (t : Fin cfg0.N) (ht : t.val < 6) (u : Fin 8) (r : Fin 256) (l : Fin 128) :
    iblk m c 0 t (ix4 0 u r l : S1x8x256x128.Idx) = m ((c : Thread nD τ).loc main_arg0) (ix3 ⟨t.val, ht⟩ r ⟨128 * u.val + l.val, by omega⟩) := by
  obtain ⟨i0, i1, i2, i3, i4, i5⟩ := idx t
  rw [← V_y m c ⟨t.val, ht⟩ u r l]
  exact congrArg (V m c main_v1) (by blk_ext [i0])

theorem b1 (c : Dev nD) (t : Fin cfg0.N) (l : Fin 1024) :
    iblk m c 1 t (ix2 0 l : S1x1024.Idx) = m ((c : Thread nD τ).loc main_arg1) (ix1 l) := by
  obtain ⟨i0, i1, i2, i3, i4, i5⟩ := idx t
  rw [← V_g m c 0 l]
  exact congrArg (V m c main_v2) (by blk_ext [i1])

theorem b2 (c : Dev nD) (t : Fin cfg0.N) (l : Fin 1024) :
    iblk m c 2 t (ix2 0 l : S1x1024.Idx) = m ((c : Thread nD τ).loc main_arg2) (ix1 l) := by
  obtain ⟨i0, i1, i2, i3, i4, i5⟩ := idx t
  rw [← V_b m c 0 l]
  exact congrArg (V m c main_v3) (by blk_ext [i2])

/-- A block's normalised row is the array's. -/
theorem zrow_eq (c : Dev nD) (t : Fin cfg0.N) (ht : t.val < 6) (r : Fin 256) :
    zrow (iblk m c 0 t) (iblk m c 1 t) (iblk m c 2 t) r = zA (m ((c : Thread nD τ).loc main_arg0)) (m ((c : Thread nD τ).loc main_arg1)) (m ((c : Thread nD τ).loc main_arg2)) ⟨t.val, ht⟩ r := by
  unfold zrow zA
  refine congr (congr (congrArg lnz (funext fun k => ?_)) (funext fun k => b1 m c t k)) (funext fun k => b2 m c t k)
  unfold row
  refine (b0 m c t ht _ r _).trans (congrArg _ ?_)
  exact congrArg (ix3 _ r) (Fin.ext (by dsimp only; omega))

/-- The rows of scales written up to a grid point. -/
def rows (c : Dev nD) (n : ℕ) : FVec Ideal S6x256 .f32 := fun y =>
  if (y 0).val ≤ n then GS (m ((c : Thread nD τ).loc main_arg0)) (m ((c : Thread nD τ).loc main_arg1)) (m ((c : Thread nD τ).loc main_arg2)) y else 0

/-- A block's scale is the array's. -/
theorem blockS_eq (c : Dev nD) (t : Fin cfg0.N) (y : S6x256.Idx) (h : (y 0).val = t.val) :
    blockS (iblk m c 0 t) (iblk m c 1 t) (iblk m c 2 t) (ix2 (y 1) 0) = GS (m ((c : Thread nD τ).loc main_arg0)) (m ((c : Thread nD τ).loc main_arg1)) (m ((c : Thread nD τ).loc main_arg2)) y := by
  unfold blockS GS
  have e : (⟨t.val, t.isLt⟩ : Fin 6) = y 0 := Fin.ext h.symm
  refine congrArg sc ((zrow_eq m c t t.isLt (y 1)).trans ?_)
  rw [e]

/-- What every grid point leaves. -/
theorem outs (c : Dev nD) : ∀ (n : ℕ) (hn : n < cfg0.N), outsAt0 m c n hn
    = (blockQ (iblk m c 0 ⟨n, hn⟩) (iblk m c 1 ⟨n, hn⟩) (iblk m c 2 ⟨n, hn⟩), rows m c n) := by
  intro n
  induction n with
  | zero =>
    intro hn
    refine (outsAt0_A m c ⟨0, hn⟩ rfl).trans ?_
    have h : (⟨0, hn⟩ : Fin cfg0.N).val % 6 = 0 := rfl
    rw [out_A_3 m c _ h, out_A_4 m c _ h]
    refine congrArg (Prod.mk _) (funext fun y => ?_)
    unfold put rows
    obtain ⟨-, -, -, -, -, i5⟩ := idx ⟨0, hn⟩
    rw [i5]
    by_cases hy : (y 0).val = 0
    · rw [if_pos hy, if_pos (le_of_eq hy)]
      exact blockS_eq m c ⟨0, hn⟩ y hy
    · rw [if_neg hy, if_neg (by omega)]
  | succ n ih =>
    intro hn
    have h6 : cfg0.N = 6 := by decide
    have h : ¬ (⟨n + 1, hn⟩ : Fin cfg0.N).val % 6 = 0 := by dsimp only; omega
    refine (outsAt0_B m c ⟨n + 1, hn⟩ h).trans ?_
    simp only [Nat.add_sub_cancel]
    rw [ih (Nat.lt_of_succ_lt hn), out_B_3, out_B_4]
    refine congrArg (Prod.mk _) (funext fun y => ?_)
    unfold put rows
    obtain ⟨-, -, -, -, -, i5⟩ := idx ⟨n + 1, hn⟩
    rw [i5]
    by_cases hy : (y 0).val = n + 1
    · rw [if_pos hy, if_pos (le_of_eq hy)]
      exact blockS_eq m c ⟨n + 1, hn⟩ y hy
    · rw [if_neg hy]
      exact if_congr (by omega) rfl rfl

/-- The first result array after the run. -/
theorem final3 (c : Dev nD) : (dats m 0 c).arrAt 3 cfg0.N
    = GQ (m ((c : Thread nD τ).loc main_arg0)) (m ((c : Thread nD τ).loc main_arg1)) (m ((c : Thread nD τ).loc main_arg2)) := by
  refine (dats m 0 c).arrAt_eq_of_covers 3 _ (by decide +kernel) fun t _ (y : S1x256x1024.Idx) => ?_
  blk_simp
  rw [after0_3, outs]
  have ht : t.val < 6 := t.isLt
  obtain ⟨i0, i1, i2, i3, i4, i5⟩ := idx t
  have ey : (win0_3.blk t).view.emb y = (ix3 ⟨t.val, ht⟩ (y 1) (y 2) : S6x256x1024.Idx) := by
    blk_ext [i3]
  refine Eq.trans ?_ (congrArg (GQ _ _ _) ey.symm)
  exact congrArg (fun z => code z (y 2)) (zrow_eq m c t ht (y 1))

/-- The second result array after the run. -/
theorem final4 (c : Dev nD) : (dats m 0 c).arrAt 4 cfg0.N
    = GS (m ((c : Thread nD τ).loc main_arg0)) (m ((c : Thread nD τ).loc main_arg1)) (m ((c : Thread nD τ).loc main_arg2)) := by
  refine (dats m 0 c).arrAt_eq_of_covers 4 _ (by decide +kernel) fun t hf (y : S6x256.Idx) => ?_
  blk_simp
  rw [after0_4, outs]
  have ht : t.val = 5 := by
    have hl : ∀ t : Fin grid0.N, (cfg0.win 4).flush t = true → t.val = 5 := by decide +kernel
    exact hl t hf
  obtain ⟨i0, i1, i2, i3, i4, i5⟩ := idx t
  have ey : (win0_4.blk t).view.emb y = (y : S6x256.Idx) := by
    blk_ext [i4]
  refine Eq.trans ?_ (congrArg (GS _ _ _) ey.symm)
  have hy : (y 0).val < 6 := (y 0).isLt
  exact if_pos (by omega)

end Cert.KernelLnIdeal.Val
-- ==== Proof.ReferenceLn.lean ====
module

public import proofs.«01_k».proof.Proof.Gen.ReferenceLnIdeal.Frame
public import proofs.«01_k».proof.Proof.KernelLn
public import Idealize.ShloMosaic.Lib.Pipeline.Value
public import Idealize.ShloMosaic.Lib.Pipeline.ValueKit
public import Idealize.ShloMosaic.Lib.Pointwise
public import Idealize.ShloMosaic.Lib.Claim

/-! The reference of the layer norm and the first quantiser: its run, and its two result arrays as functions of the arguments. -/

@[expose] public section
set_option maxRecDepth 16384
noncomputable section
open Idealize.ShloMosaic Idealize.ShloMosaic.TcCoe Idealize.SL.Sem
open Idealize.ShloMosaic.Pipeline (Dat)
namespace Cert.ReferenceLnIdeal.Val
open Cert.ReferenceLnIdeal Cert.ReferenceLnIdeal.Gen Cert.Scale
open Cert.KernelLnIdeal.Val (GQ GS zA)

section
variable {F : FTy → Type} [FloatOps F]
variable (m : (ℓ : Loc nD τ sig) → Buf (Elt F) ℓ) (ρ : Dev nD → PrngReg)

/-- The run, with each result array after it named, the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)
end

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧
    win0_3.index t = ![0, 0, 0] ∧ win0_4.index t = ![0, 0] :=
  (by decide +kernel : ∀ t : Fin grid0.N, _)

section
variable (x : FVec Ideal S6x256x1024 .f32) (g b : FVec Ideal S1x1x1024 .f32)

/-- One normalised row. -/
def zR (a : Fin 6) (r : Fin 256) : Fin 1024 → EReal :=
  lnz (fun k => x (ix3 a r k)) (fun k => g (ix3 0 0 k)) (fun k => b (ix3 0 0 k))

theorem pay4_at (a : Fin 6) (r : Fin 256) (k : Fin 1024) : k0_pay4 (F := Ideal) x g b (ix3 a r k) = zR x g b a r k := by
  unfold zR lnz rs mu
  simp only [← div_1024]
  pointwise! [k0_pay4]

theorem pay5_eq : k0_pay5 (F := Ideal) x g b
    = mulf (multiReduction .maximumf [2] S6x256 (absf (k0_pay4 (F := Ideal) x g b)) 0xFF800000#32 reduces_S6x256x1024_S6x256 (.inl rfl) rfl)
      (broadcast S6x256 (Scalar.ofBits .f32 0x3B124925#32)) := rfl

theorem amax_at (z : FVec Ideal S6x256x1024 .f32) (a : Fin 6) (r : Fin 256) :
    mulf (multiReduction .maximumf [2] S6x256 (absf z) 0xFF800000#32 reduces_S6x256x1024_S6x256 (.inl rfl) rfl)
      (broadcast S6x256 (Scalar.ofBits .f32 0x3B124925#32)) (ix2 a r) = amax (fun k => z (ix3 a r k)) * Ideal.ofBits .f32 0x3B124925#32 := by
  unfold amax
  pointwise!

theorem pay5_at (a : Fin 6) (r : Fin 256) : k0_pay5 (F := Ideal) x g b (ix2 a r) = amax (zR x g b a r) * Ideal.ofBits .f32 0x3B124925#32 :=
  (congrFun (pay5_eq x g b) (ix2 a r)).trans ((amax_at (k0_pay4 (F := Ideal) x g b) a r).trans
    (congrArg (fun f : Fin 1024 → EReal => amax f * Ideal.ofBits .f32 0x3B124925#32) (funext fun k => pay4_at x g b a r k)))

theorem vexp_rfl (y : FVec Ideal S6x256 .f32) :
    k0_pay1 (addf (floor (divf (log y) (log (broadcast S6x256 (Scalar.ofBits .f32 0x40000000#32))))) (broadcast S6x256 (Scalar.ofBits .f32 0x3F800000#32)))
      (cmpf .ogt y (broadcast S6x256 (Scalar.ofBits .f32 0x00000000#32))) (cmpf .olt y (broadcast S6x256 (Scalar.ofBits .f32 0x7F800000#32))) = vexp y := rfl

theorem pay6_eq : k0_pay6 (F := Ideal) x g b = addf (floor (divf (log (k0_pay5 (F := Ideal) x g b)) (log (broadcast S6x256 (Scalar.ofBits .f32 0x40000000#32)))))
    (broadcast S6x256 (Scalar.ofBits .f32 0x3F800000#32)) := rfl
theorem pay7_eq : k0_pay7 (F := Ideal) x g b = cmpf .ogt (k0_pay5 (F := Ideal) x g b) (broadcast S6x256 (Scalar.ofBits .f32 0x00000000#32)) := rfl
theorem pay8_eq : k0_pay8 (F := Ideal) x g b = cmpf .olt (k0_pay5 (F := Ideal) x g b) (broadcast S6x256 (Scalar.ofBits .f32 0x7F800000#32)) := rfl

theorem pay1_eq : k0_pay1 (k0_pay6 (F := Ideal) x g b) (k0_pay7 (F := Ideal) x g b) (k0_pay8 (F := Ideal) x g b)
    = vexp (k0_pay5 (F := Ideal) x g b) := by
  rw [pay6_eq, pay7_eq, pay8_eq]
  exact vexp_rfl _

/-- The exponent of a row's scale. -/
theorem exp_at (a : Fin 6) (r : Fin 256) : k0_pay1 (k0_pay6 (F := Ideal) x g b) (k0_pay7 (F := Ideal) x g b) (k0_pay8 (F := Ideal) x g b) (ix2 a r)
    = rexp (amax (zR x g b a r) * Ideal.ofBits .f32 0x3B124925#32) :=
  (congrFun (pay1_eq x g b) (ix2 a r)).trans ((vexp_at _ (ix2 a r)).trans (congrArg rexp (pay5_at x g b a r)))

theorem sc_eq {n : ℕ} (z : Fin n → EReal) : Ideal.exp2 (rexp (amax z * Ideal.ofBits .f32 0x3B124925#32)) = sc z :=
  (scale_facts _).1.symm

theorem code_eq {n : ℕ} (z : Fin n → EReal) (k : Fin n) : min (Ideal.ofBits .f32 0x43E00000#32) (max (Ideal.ofBits .f32 0xC3E00000#32)
        (z k * Ideal.exp2 (0 - rexp (amax z * Ideal.ofBits .f32 0x3B124925#32)))) = code z k := by
  unfold code sc
  rw [(scale_facts _).2]

theorem exp2_at (e : FVec Ideal S6x256 .f32) (j : S6x256.Idx) : exp2 e j = Ideal.exp2 (e j) := rfl

theorem pay2_eq (p : FVec Ideal S6x256 .f32) (q q' : IVec S6x256 1) : k0_pay2 p q q' = exp2 (k0_pay1 p q q') := rfl

theorem pay2_rfl (p : FVec Ideal S6x256 .f32) (q q' : IVec S6x256 1) (j : S6x256.Idx) : k0_pay2 p q q' j = Ideal.exp2 (k0_pay1 p q q' j) :=
  (congrFun (pay2_eq p q q') j).trans (exp2_at _ j)

theorem pay2_at (a : Fin 6) (r : Fin 256) : k0_pay2 (k0_pay6 (F := Ideal) x g b) (k0_pay7 (F := Ideal) x g b) (k0_pay8 (F := Ideal) x g b) (ix2 a r) = sc (zR x g b a r) :=
  (pay2_rfl _ _ _ (ix2 a r)).trans ((congrArg Ideal.exp2 (exp_at x g b a r)).trans (sc_eq _))

theorem pay3_rfl (z : FVec Ideal S6x256x1024 .f32) (p : FVec Ideal S6x256 .f32) (q q' : IVec S6x256 1) (a : Fin 6) (r : Fin 256) (k : Fin 1024) :
    k0_pay3 z p q q' (ix3 a r k) = min (Ideal.ofBits .f32 0x43E00000#32) (max (Ideal.ofBits .f32 0xC3E00000#32)
        (z (ix3 a r k) * Ideal.exp2 (0 - k0_pay1 p q q' (ix2 a r)))) := by
  unfold k0_pay3
  generalize k0_pay1 p q q' = e
  pointwise
  rfl

theorem pay3_at (a : Fin 6) (r : Fin 256) (k : Fin 1024) :
    k0_pay3 (k0_pay4 (F := Ideal) x g b) (k0_pay6 (F := Ideal) x g b) (k0_pay7 (F := Ideal) x g b) (k0_pay8 (F := Ideal) x g b) (ix3 a r k) = code (zR x g b a r) k := by
  refine (pay3_rfl _ _ _ _ a r k).trans (Eq.trans ?_ (code_eq (zR x g b a r) k))
  rw [exp_at, pay4_at]

/-- The first result's buffer, from the staged arguments. -/
theorem out3_at (a : Fin 6) (r : Fin 256) (k : Fin 1024) : (out0_3 (F := Ideal) x g b (ix3 a r k) : EReal) = code (zR x g b a r) k := by
  unfold_out out0_3
  frame_out
  exact pay3_at x g b a r k

/-- The second result's buffer, from the staged arguments. -/
theorem out4_at (a : Fin 6) (r : Fin 256) : (out0_4 (F := Ideal) x g b (ix2 a r) : EReal) = sc (zR x g b a r) := by
  unfold_out out0_4
  frame_out
  exact pay2_at x g b a r
end

theorem V_g (c : Dev nD) (a b : Fin 1) (l : Fin 1024) :
    (V m c main_v0 : FVec Ideal S1x1x1024 .f32) (ix3 a b l) = (m ((c : Thread nD τ).loc main_arg1) : FVec Ideal S1024 .f32) (ix1 l) := by
  entry_read
  pointwise

theorem V_b (c : Dev nD) (a b : Fin 1) (l : Fin 1024) :
    (V m c main_v1 : FVec Ideal S1x1x1024 .f32) (ix3 a b l) = (m ((c : Thread nD τ).loc main_arg2) : FVec Ideal S1024 .f32) (ix1 l) := by
  entry_read
  pointwise

/-- A normalised row is the kernel's. -/
theorem zR_eq (c : Dev nD) (t : Fin cfg0.N) (a : Fin 6) (r : Fin 256) :
    zR (iblk m c 0 t) (iblk m c 1 t) (iblk m c 2 t) a r
      = zA (m ((c : Thread nD τ).loc main_arg0)) (m ((c : Thread nD τ).loc main_arg1)) (m ((c : Thread nD τ).loc main_arg2)) a r := by
  obtain ⟨i0, i1, i2, i3, i4⟩ := idx t
  unfold zR zA
  refine congr (congr (congrArg lnz (funext fun k => ?_)) (funext fun k => ?_)) (funext fun k => ?_)
  · rw [← V_main_arg0 m c]
    exact congrArg (V m c main_arg0) (by blk_ext [i0])
  · rw [← V_g m c 0 0 k]
    exact congrArg (V m c main_v0) (by blk_ext [i1])
  · rw [← V_b m c 0 0 k]
    exact congrArg (V m c main_v1) (by blk_ext [i2])

/-- The first result array after the run. -/
theorem final3 (c : Dev nD) : (dats m 0 c).arrAt 3 cfg0.N
    = GQ (m ((c : Thread nD τ).loc main_arg0)) (m ((c : Thread nD τ).loc main_arg1)) (m ((c : Thread nD τ).loc main_arg2)) := by
  refine (dats m 0 c).arrAt_eq_of_covers 3 _ (by decide +kernel) fun t _ (y : S6x256x1024.Idx) => ?_
  blk_simp
  rw [after0_3]
  obtain ⟨i0, i1, i2, i3, i4⟩ := idx t
  have ey : (win0_3.blk t).view.emb y = (ix3 (y 0) (y 1) (y 2) : S6x256x1024.Idx) := by
    blk_ext [i3]
  refine Eq.trans ?_ (congrArg (GQ _ _ _) ey.symm)
  rw [show y = (ix3 (y 0) (y 1) (y 2) : S6x256x1024.Idx) from eq_ix3 y]
  refine (out3_at _ _ _ _ _ _).trans ?_
  exact congrArg (fun z => code z (y 2)) (zR_eq m c t (y 0) (y 1))

/-- The second result array after the run. -/
theorem final4 (c : Dev nD) : (dats m 0 c).arrAt 4 cfg0.N
    = GS (m ((c : Thread nD τ).loc main_arg0)) (m ((c : Thread nD τ).loc main_arg1)) (m ((c : Thread nD τ).loc main_arg2)) := by
  refine (dats m 0 c).arrAt_eq_of_covers 4 _ (by decide +kernel) fun t _ (y : S6x256.Idx) => ?_
  blk_simp
  rw [after0_4]
  obtain ⟨i0, i1, i2, i3, i4⟩ := idx t
  have ey : (win0_4.blk t).view.emb y = (ix2 (y 0) (y 1) : S6x256.Idx) := by
    blk_ext [i4]
  refine Eq.trans ?_ (congrArg (GS _ _ _) ey.symm)
  rw [show y = (ix2 (y 0) (y 1) : S6x256.Idx) from eq_ix2 y]
  refine (out4_at _ _ _ _ _).trans ?_
  exact congrArg sc (zR_eq m c t (y 0) (y 1))

end Cert.ReferenceLnIdeal.Val
end
-- ==== Proof.KernelGrn.lean ====
module

public import proofs.«01_k».proof.Proof.Gen.KernelGrnIdeal.Value
public import proofs.«01_k».proof.Proof.Scale
public import proofs.«01_k».proof.Proof.KernelUp
public import proofs.«01_k».proof.Proof.KernelLn
public import Idealize.ShloMosaic.Lib.Pipeline.ValueKit
public import Idealize.ShloMosaic.Lib.Pointwise
public import Idealize.ShloMosaic.Lib.WholeRead
public import Idealize.ShloMosaic.Lib.Claim
public import Idealize.ShloMosaic.Lib.Pipeline.ReadBack

/-! The global response normalisation and its quantiser: the two result arrays, as functions of the arguments. -/

@[expose] public section
set_option maxRecDepth 16384
noncomputable section
open Idealize.ShloMosaic Idealize.ShloMosaic.TcCoe Idealize.SL.Sem
open Idealize.ShloMosaic.Pipeline (Dat)
namespace Cert.KernelGrnIdeal.Val
open Cert.KernelGrnIdeal Cert.KernelGrnIdeal.Gen Cert.Scale
open Cert.KernelUpIdeal.Val (unit_idx piecesOf_append)

/-- A list of stores is the row groups `n - 1, …, 0` of the column group at `o`, each holding `g` on its places. -/
def Bands {C : ℕ} (o : ℕ) (g : (⟨2, ![256, C]⟩ : Shape).Idx → EReal) : ℕ → List (View.Piece (Elt Ideal) (⟨2, ![256, C]⟩ : Shape) .f32) → Prop
  | 0, L => L = []
  | n + 1, L => ∃ (off : Fin 2 → ℕ) (inb : ∀ a, off a + S8x128.size a ≤ (⟨2, ![256, C]⟩ : Shape).size a) (w : S8x128.Idx → EReal) (L' : List (View.Piece (Elt Ideal) (⟨2, ![256, C]⟩ : Shape) .f32)),
      L = ⟨Rect.unit (s := (⟨2, ![256, C]⟩ : Shape)) off S8x128.size inb, w⟩ :: L' ∧ off = ![8 * n, o]
        ∧ (∀ x, w x = g ((Rect.unit (s := (⟨2, ![256, C]⟩ : Shape)) off S8x128.size inb).idx x)) ∧ Bands o g n L'

theorem bands_read {sg : RefSig} {κ : Kind} {sp : Space} {C : ℕ} (v : View sg κ sp (⟨2, ![256, C]⟩ : Shape) .f32) (f : v.ty.Contents (Elt Ideal)) (o : ℕ)
    (g : (⟨2, ![256, C]⟩ : Shape).Idx → EReal) (r : Fin 256) (c : Fin C) : ∀ n (L : List (View.Piece (Elt Ideal) (⟨2, ![256, C]⟩ : Shape) .f32)), Bands o g n L →
    v.read (Elt Ideal) (v.writes (Elt Ideal) f L) (ix2 r c) = if r.val < 8 * n ∧ o ≤ c.val ∧ c.val < o + 128 then g (ix2 r c) else v.read (Elt Ideal) f (ix2 r c)
  | 0, L, h => by
    have h' : L = [] := h
    subst h'
    rw [if_neg (by omega)]; rfl
  | n + 1, L, h => by
    obtain ⟨off, inb, w, L', rfl, rfl, hw, hb⟩ := h
    have ih := bands_read v f o g r c n L' hb
    by_cases hr : 8 * n ≤ r.val
    · by_cases hr' : r.val < 8 * n + 8
      · by_cases hc : o ≤ c.val ∧ c.val < o + 128
        · rw [if_pos ⟨by omega, hc⟩]
          refine (View.read_writes_cons_hit_of_coords v f (Rect.unit (s := (⟨2, ![256, C]⟩ : Shape)) ![8 * n, o] S8x128.size inb) w L' (ix2 ⟨r.val - 8 * n, by omega⟩ ⟨c.val - o, by omega⟩ : S8x128.Idx) _ ?_).trans ?_
          · intro a; fin_cases a
            · show r.val = 8 * n + 1 * (r.val - 8 * n); omega
            · show c.val = o + 1 * (c.val - o); omega
          · rw [hw]
            refine congrArg g (unit_idx _ _ ?_)
            intro a; fin_cases a
            · show 8 * n + (r.val - 8 * n) = r.val; omega
            · show o + (c.val - o) = c.val; omega
        · rw [if_neg (by omega)]
          refine (View.read_writes_cons_miss_of_axis v f _ L' _ (1 : Fin 2) o 128 rfl rfl rfl ?_).trans (ih.trans (if_neg (by omega)))
          show c.val < o ∨ o + 128 ≤ c.val
          omega
      · rw [if_neg (by omega)]
        refine (View.read_writes_cons_miss_of_axis v f _ L' _ (0 : Fin 2) (8 * n) 8 rfl rfl rfl ?_).trans (ih.trans (if_neg (by omega)))
        show r.val < 8 * n ∨ 8 * n + 8 ≤ r.val
        omega
    · refine (View.read_writes_cons_miss_of_axis v f _ L' _ (0 : Fin 2) (8 * n) 8 rfl rfl rfl ?_).trans (ih.trans (if_congr (by omega) rfl rfl))
      show r.val < 8 * n ∨ 8 * n + 8 ≤ r.val
      omega

/-- One tile of the normalised activation. -/
def tV (w : FVec Ideal S8x128 .f32) (a b : FVec Ideal S1x128 .f32) : FVec Ideal S8x128 .f32 :=
  addf (mulf w (broadcastTo S8x128 a broadcasts_S1x128_S8x128)) (broadcastTo S8x128 (shapeCast S1x128 b shapeCasts_S1x128_S1x128) broadcasts_S1x128_S8x128)
def tH (w : FVec Ideal S8x128 .f32) (a b : FVec Ideal S1x128 .f32) : FVec Ideal S8x128 .f32 := shapeCast S8x128 (tV w a b) shapeCasts_S8x128_S8x128
/-- The running greatest absolute value. -/
def tM (u w : FVec Ideal S8x128 .f32) (a b : FVec Ideal S1x128 .f32) : FVec Ideal S8x128 .f32 :=
  shapeCast S8x128 (maximumf u (absf (tV w a b))) shapeCasts_S8x128_S8x128

theorem tH_at (w : FVec Ideal S8x128 .f32) (a b : FVec Ideal S1x128 .f32) (i : Fin 8) (l : Fin 128) :
    tH w a b (ix2 i l) = w (ix2 i l) * a (ix2 0 l) + b (ix2 0 l) := by pointwise! [tH, tV]
theorem tM_at (u w : FVec Ideal S8x128 .f32) (a b : FVec Ideal S1x128 .f32) (i : Fin 8) (l : Fin 128) :
    tM u w a b (ix2 i l) = max (u (ix2 i l)) (max (w (ix2 i l) * a (ix2 0 l) + b (ix2 0 l)) (-(w (ix2 i l) * a (ix2 0 l) + b (ix2 0 l)))) := by pointwise! [tM, tV]

section
variable (arg4 arg8 : Memref sig .tc .vmem S1x4096 .f32) (arg9 : Memref sig .tc .vmem S256x128 .f32) (arg10 : Memref sig .tc .vmem S256x4096 .f32)
  (X4 : BufTy.Contents (Elt Ideal) arg4.view.ty) (X8 : BufTy.Contents (Elt Ideal) arg8.view.ty) (k : Fin k0_t1_loop.trips)
  (f9 : BufTy.Contents (Elt Ideal) arg9.view.ty) (f10 : BufTy.Contents (Elt Ideal) arg10.view.ty)

/-- The normalised activation of one place, from what the buffers hold. -/
def nv (y : S256x4096.Idx) : EReal :=
  (arg10.view.read (Elt Ideal) f10 y : EReal) * arg8.view.read (Elt Ideal) X8 (ix2 0 (y 1)) + arg4.view.read (Elt Ideal) X4 (ix2 0 (y 1))

theorem hk (k : Fin k0_t1_loop.trips) : k.val < 32 := Nat.lt_of_lt_of_le k.isLt k0_t1_abs.2.1

/-- The running greatest after one more column group. -/
def nm (y : S256x128.Idx) : EReal :=
  max (arg9.view.read (Elt Ideal) f9 y : EReal) (max (nv arg4 arg8 arg10 X4 X8 f10 (ix2 (y 0) ⟨128 * k.val + (y 1).val, by have := hk k; have : (y 1).val < 128 := (y 1).isLt; omega⟩))
    (-(nv arg4 arg8 arg10 X4 X8 f10 (ix2 (y 0) ⟨128 * k.val + (y 1).val, by have := hk k; have : (y 1).val < 128 := (y 1).isLt; omega⟩))))

/-- The tile of `h` one store of a trip works on. -/
def ldh (off : Fin 2 → ℕ) (inb : ∀ a, off a + S8x128.size a ≤ S256x4096.size a) : FVec Ideal S8x128 .f32 :=
  View.readAt (Elt Ideal) arg10.view (Rect.unit (s := S256x4096) off S8x128.size inb).toLoadRect f10
def ldm (off : Fin 2 → ℕ) (inb : ∀ a, off a + S8x128.size a ≤ S256x128.size a) : FVec Ideal S8x128 .f32 :=
  View.readAt (Elt Ideal) arg9.view (Rect.unit (s := S256x128) off S8x128.size inb).toLoadRect f9
def ldr (arg : Memref sig .tc .vmem S1x4096 .f32) (X : BufTy.Contents (Elt Ideal) arg.view.ty) : FVec Ideal S1x128 .f32 :=
  View.readAt (Elt Ideal) arg.view (Rect.unit (s := S1x4096) (k0_off1 k) S1x128.size (k0_off1_inb k)).toLoadRect X

theorem ldr_at (arg : Memref sig .tc .vmem S1x4096 .f32) (X : BufTy.Contents (Elt Ideal) arg.view.ty) (l : Fin 128) (hl : 128 * k.val + l.val < 4096) :
    ldr k arg X (ix2 0 l) = arg.view.read (Elt Ideal) X (ix2 0 ⟨128 * k.val + l.val, hl⟩) := by
  unfold ldr
  rw [View.readAt_apply]
  refine congrArg _ (unit_idx _ _ ?_)
  have e := k0_off1_eq k
  intro a; have ea := congrFun e a; fin_cases a <;> simp at ea ⊢ <;> omega

theorem ldh_at (n : ℕ) (hn : n < 32) (off : Fin 2 → ℕ) (ho : off = ![8 * n, 128 * k.val]) (inb : ∀ a, off a + S8x128.size a ≤ S256x4096.size a) (j : Fin 8) (l : Fin 128) :
    ldh arg10 f10 off inb (ix2 j l) = arg10.view.read (Elt Ideal) f10 (ix2 ⟨8 * n + j.val, by omega⟩ ⟨128 * k.val + l.val, by have := hk k; omega⟩) := by
  unfold ldh
  rw [View.readAt_apply]
  refine congrArg _ (unit_idx _ _ ?_)
  subst ho
  intro a; fin_cases a <;> simp

theorem h_piece (n : ℕ) (hn : n < 32) (off : Fin 2 → ℕ) (ho : off = ![8 * n, 128 * k.val]) (inb : ∀ a, off a + S8x128.size a ≤ S256x4096.size a) (w : FVec Ideal S8x128 .f32)
    (hw : w = tH (ldh arg10 f10 off inb) (ldr k arg8 X8) (ldr k arg4 X4)) (x : S8x128.Idx) :
    w x = nv arg4 arg8 arg10 X4 X8 f10 ((Rect.unit (s := S256x4096) off S8x128.size inb).idx x) := by
  have hk := hk k
  subst hw
  idx_vars x
  rw [tH_at, ldh_at arg10 k f10 n hn off ho, ldr_at k arg8 X8 x1 (by omega), ldr_at k arg4 X4 x1 (by omega)]
  have e : (Rect.unit (s := S256x4096) off S8x128.size inb).idx (ix2 x0 x1) = (ix2 ⟨8 * n + x0.val, by omega⟩ ⟨128 * k.val + x1.val, by omega⟩ : S256x4096.Idx) := by
    refine unit_idx _ _ ?_
    subst ho
    intro a; fin_cases a <;> simp
  rw [e]
  rfl

theorem m_piece (n : ℕ) (hn : n < 32) (off : Fin 2 → ℕ) (ho : off = ![8 * n, 128 * k.val]) (inb : ∀ a, off a + S8x128.size a ≤ S256x4096.size a)
    (off' : Fin 2 → ℕ) (ho' : off' = ![8 * n, 0]) (inb' : ∀ a, off' a + S8x128.size a ≤ S256x128.size a) (w : FVec Ideal S8x128 .f32)
    (hw : w = tM (ldm arg9 f9 off' inb') (ldh arg10 f10 off inb) (ldr k arg8 X8) (ldr k arg4 X4)) (x : S8x128.Idx) :
    w x = nm arg4 arg8 arg9 arg10 X4 X8 k f9 f10 ((Rect.unit (s := S256x128) off' S8x128.size inb').idx x) := by
  have hk := hk k
  subst hw
  idx_vars x
  have e : (Rect.unit (s := S256x128) off' S8x128.size inb').idx (ix2 x0 x1) = (ix2 ⟨8 * n + x0.val, by omega⟩ x1 : S256x128.Idx) := by
    refine unit_idx _ _ ?_
    subst ho'
    intro a; fin_cases a <;> simp
  have eu : ldm arg9 f9 off' inb' (ix2 x0 x1) = arg9.view.read (Elt Ideal) f9 ((Rect.unit (s := S256x128) off' S8x128.size inb').idx (ix2 x0 x1)) := rfl
  rw [tM_at, eu, ldh_at arg10 k f10 n hn off ho, ldr_at k arg8 X8 x1 (by omega), ldr_at k arg4 X4 x1 (by omega), e]
  rfl
end

section
variable (𝒱 : Variants) (c : Dev nD) (bd : Option 𝒱.V) (i : grid0.Coords) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x256x4096 .fp8e4m3) (harg5 : arg5.IsWhole) (arg6 : Memref sig .tc .vmem S6x256 .f32) (harg6 : arg6.IsWhole) (arg7 : Memref sig .tc .vmem S256x128 .f32) (harg7 : arg7.IsWhole) (arg8 : Memref sig .tc .vmem S1x4096 .f32) (harg8 : arg8.IsWhole) (arg9 : Memref sig .tc .vmem S256x128 .f32) (harg9 : arg9.IsWhole) (arg10 : Memref sig .tc .vmem S256x4096 .f32) (harg10 : arg10.IsWhole) (a0 : BitVec 32) (v33 : FVec Ideal S256x128 .f32)
  (X4 : BufTy.Contents (Elt Ideal) arg4.view.ty) (X8 : BufTy.Contents (Elt Ideal) arg8.view.ty) (k : Fin k0_t1_loop.trips)
  (f9 : BufTy.Contents (Elt Ideal) arg9.view.ty) (f10 : BufTy.Contents (Elt Ideal) arg10.view.ty)

theorem trip_h : Bands (128 * k.val) (nv arg4 arg8 arg10 X4 X8 f10) 32 (tripL_k0_t1 (F := Ideal) 𝒱 c bd i arg1 harg1 arg2 harg2 arg3 harg3 arg4 harg4 arg5 harg5 arg6 harg6 arg7 harg7 arg8 harg8 arg9 harg9 arg10 harg10 a0 v33 X4 X8 k f9 f10).2 := by
  unfold tripL_k0_t1 trip_k0_t1
  exact ⟨_, k0_off33_inb k, _, _, rfl, k0_off33_eq k, h_piece arg4 arg8 arg10 X4 X8 k f10 31 (by decide) _ (k0_off33_eq k) (k0_off33_inb k) _ rfl,
    ⟨_, k0_off32_inb k, _, _, rfl, k0_off32_eq k, h_piece arg4 arg8 arg10 X4 X8 k f10 30 (by decide) _ (k0_off32_eq k) (k0_off32_inb k) _ rfl,
    ⟨_, k0_off31_inb k, _, _, rfl, k0_off31_eq k, h_piece arg4 arg8 arg10 X4 X8 k f10 29 (by decide) _ (k0_off31_eq k) (k0_off31_inb k) _ rfl,
    ⟨_, k0_off30_inb k, _, _, rfl, k0_off30_eq k, h_piece arg4 arg8 arg10 X4 X8 k f10 28 (by decide) _ (k0_off30_eq k) (k0_off30_inb k) _ rfl,
    ⟨_, k0_off29_inb k, _, _, rfl, k0_off29_eq k, h_piece arg4 arg8 arg10 X4 X8 k f10 27 (by decide) _ (k0_off29_eq k) (k0_off29_inb k) _ rfl,
    ⟨_, k0_off28_inb k, _, _, rfl, k0_off28_eq k, h_piece arg4 arg8 arg10 X4 X8 k f10 26 (by decide) _ (k0_off28_eq k) (k0_off28_inb k) _ rfl,
    ⟨_, k0_off27_inb k, _, _, rfl, k0_off27_eq k, h_piece arg4 arg8 arg10 X4 X8 k f10 25 (by decide) _ (k0_off27_eq k) (k0_off27_inb k) _ rfl,
    ⟨_, k0_off26_inb k, _, _, rfl, k0_off26_eq k, h_piece arg4 arg8 arg10 X4 X8 k f10 24 (by decide) _ (k0_off26_eq k) (k0_off26_inb k) _ rfl,
    ⟨_, k0_off25_inb k, _, _, rfl, k0_off25_eq k, h_piece arg4 arg8 arg10 X4 X8 k f10 23 (by decide) _ (k0_off25_eq k) (k0_off25_inb k) _ rfl,
    ⟨_, k0_off24_inb k, _, _, rfl, k0_off24_eq k, h_piece arg4 arg8 arg10 X4 X8 k f10 22 (by decide) _ (k0_off24_eq k) (k0_off24_inb k) _ rfl,
    ⟨_, k0_off23_inb k, _, _, rfl, k0_off23_eq k, h_piece arg4 arg8 arg10 X4 X8 k f10 21 (by decide) _ (k0_off23_eq k) (k0_off23_inb k) _ rfl,
    ⟨_, k0_off22_inb k, _, _, rfl, k0_off22_eq k, h_piece arg4 arg8 arg10 X4 X8 k f10 20 (by decide) _ (k0_off22_eq k) (k0_off22_inb k) _ rfl,
    ⟨_, k0_off21_inb k, _, _, rfl, k0_off21_eq k, h_piece arg4 arg8 arg10 X4 X8 k f10 19 (by decide) _ (k0_off21_eq k) (k0_off21_inb k) _ rfl,
    ⟨_, k0_off20_inb k, _, _, rfl, k0_off20_eq k, h_piece arg4 arg8 arg10 X4 X8 k f10 18 (by decide) _ (k0_off20_eq k) (k0_off20_inb k) _ rfl,
    ⟨_, k0_off19_inb k, _, _, rfl, k0_off19_eq k, h_piece arg4 arg8 arg10 X4 X8 k f10 17 (by decide) _ (k0_off19_eq k) (k0_off19_inb k) _ rfl,
    ⟨_, k0_off18_inb k, _, _, rfl, k0_off18_eq k, h_piece arg4 arg8 arg10 X4 X8 k f10 16 (by decide) _ (k0_off18_eq k) (k0_off18_inb k) _ rfl,
    ⟨_, k0_off17_inb k, _, _, rfl, k0_off17_eq k, h_piece arg4 arg8 arg10 X4 X8 k f10 15 (by decide) _ (k0_off17_eq k) (k0_off17_inb k) _ rfl,
    ⟨_, k0_off16_inb k, _, _, rfl, k0_off16_eq k, h_piece arg4 arg8 arg10 X4 X8 k f10 14 (by decide) _ (k0_off16_eq k) (k0_off16_inb k) _ rfl,
    ⟨_, k0_off15_inb k, _, _, rfl, k0_off15_eq k, h_piece arg4 arg8 arg10 X4 X8 k f10 13 (by decide) _ (k0_off15_eq k) (k0_off15_inb k) _ rfl,
    ⟨_, k0_off14_inb k, _, _, rfl, k0_off14_eq k, h_piece arg4 arg8 arg10 X4 X8 k f10 12 (by decide) _ (k0_off14_eq k) (k0_off14_inb k) _ rfl,
    ⟨_, k0_off13_inb k, _, _, rfl, k0_off13_eq k, h_piece arg4 arg8 arg10 X4 X8 k f10 11 (by decide) _ (k0_off13_eq k) (k0_off13_inb k) _ rfl,
    ⟨_, k0_off12_inb k, _, _, rfl, k0_off12_eq k, h_piece arg4 arg8 arg10 X4 X8 k f10 10 (by decide) _ (k0_off12_eq k) (k0_off12_inb k) _ rfl,
    ⟨_, k0_off11_inb k, _, _, rfl, k0_off11_eq k, h_piece arg4 arg8 arg10 X4 X8 k f10 9 (by decide) _ (k0_off11_eq k) (k0_off11_inb k) _ rfl,
    ⟨_, k0_off10_inb k, _, _, rfl, k0_off10_eq k, h_piece arg4 arg8 arg10 X4 X8 k f10 8 (by decide) _ (k0_off10_eq k) (k0_off10_inb k) _ rfl,
    ⟨_, k0_off9_inb k, _, _, rfl, k0_off9_eq k, h_piece arg4 arg8 arg10 X4 X8 k f10 7 (by decide) _ (k0_off9_eq k) (k0_off9_inb k) _ rfl,
    ⟨_, k0_off8_inb k, _, _, rfl, k0_off8_eq k, h_piece arg4 arg8 arg10 X4 X8 k f10 6 (by decide) _ (k0_off8_eq k) (k0_off8_inb k) _ rfl,
    ⟨_, k0_off7_inb k, _, _, rfl, k0_off7_eq k, h_piece arg4 arg8 arg10 X4 X8 k f10 5 (by decide) _ (k0_off7_eq k) (k0_off7_inb k) _ rfl,
    ⟨_, k0_off6_inb k, _, _, rfl, k0_off6_eq k, h_piece arg4 arg8 arg10 X4 X8 k f10 4 (by decide) _ (k0_off6_eq k) (k0_off6_inb k) _ rfl,
    ⟨_, k0_off5_inb k, _, _, rfl, k0_off5_eq k, h_piece arg4 arg8 arg10 X4 X8 k f10 3 (by decide) _ (k0_off5_eq k) (k0_off5_inb k) _ rfl,
    ⟨_, k0_off4_inb k, _, _, rfl, k0_off4_eq k, h_piece arg4 arg8 arg10 X4 X8 k f10 2 (by decide) _ (k0_off4_eq k) (k0_off4_inb k) _ rfl,
    ⟨_, k0_off3_inb k, _, _, rfl, k0_off3_eq k, h_piece arg4 arg8 arg10 X4 X8 k f10 1 (by decide) _ (k0_off3_eq k) (k0_off3_inb k) _ rfl,
    ⟨_, k0_off2_inb k, _, _, rfl, k0_off2_eq k, h_piece arg4 arg8 arg10 X4 X8 k f10 0 (by decide) _ (k0_off2_eq k) (k0_off2_inb k) _ rfl,
    rfl⟩⟩⟩⟩⟩⟩⟩⟩⟩⟩⟩⟩⟩⟩⟩⟩⟩⟩⟩⟩⟩⟩⟩⟩⟩⟩⟩⟩⟩⟩⟩⟩

theorem trip_m : Bands 0 (nm arg4 arg8 arg9 arg10 X4 X8 k f9 f10) 32 (tripL_k0_t1 (F := Ideal) 𝒱 c bd i arg1 harg1 arg2 harg2 arg3 harg3 arg4 harg4 arg5 harg5 arg6 harg6 arg7 harg7 arg8 harg8 arg9 harg9 arg10 harg10 a0 v33 X4 X8 k f9 f10).1 := by
  unfold tripL_k0_t1 trip_k0_t1
  exact ⟨_, inb_S256x128_S8x128_248_0, _, _, rfl, rfl, m_piece arg4 arg8 arg9 arg10 X4 X8 k f9 f10 31 (by decide) _ (k0_off33_eq k) (k0_off33_inb k) _ rfl inb_S256x128_S8x128_248_0 _ rfl,
    ⟨_, inb_S256x128_S8x128_240_0, _, _, rfl, rfl, m_piece arg4 arg8 arg9 arg10 X4 X8 k f9 f10 30 (by decide) _ (k0_off32_eq k) (k0_off32_inb k) _ rfl inb_S256x128_S8x128_240_0 _ rfl,
    ⟨_, inb_S256x128_S8x128_232_0, _, _, rfl, rfl, m_piece arg4 arg8 arg9 arg10 X4 X8 k f9 f10 29 (by decide) _ (k0_off31_eq k) (k0_off31_inb k) _ rfl inb_S256x128_S8x128_232_0 _ rfl,
    ⟨_, inb_S256x128_S8x128_224_0, _, _, rfl, rfl, m_piece arg4 arg8 arg9 arg10 X4 X8 k f9 f10 28 (by decide) _ (k0_off30_eq k) (k0_off30_inb k) _ rfl inb_S256x128_S8x128_224_0 _ rfl,
    ⟨_, inb_S256x128_S8x128_216_0, _, _, rfl, rfl, m_piece arg4 arg8 arg9 arg10 X4 X8 k f9 f10 27 (by decide) _ (k0_off29_eq k) (k0_off29_inb k) _ rfl inb_S256x128_S8x128_216_0 _ rfl,
    ⟨_, inb_S256x128_S8x128_208_0, _, _, rfl, rfl, m_piece arg4 arg8 arg9 arg10 X4 X8 k f9 f10 26 (by decide) _ (k0_off28_eq k) (k0_off28_inb k) _ rfl inb_S256x128_S8x128_208_0 _ rfl,
    ⟨_, inb_S256x128_S8x128_200_0, _, _, rfl, rfl, m_piece arg4 arg8 arg9 arg10 X4 X8 k f9 f10 25 (by decide) _ (k0_off27_eq k) (k0_off27_inb k) _ rfl inb_S256x128_S8x128_200_0 _ rfl,
    ⟨_, inb_S256x128_S8x128_192_0, _, _, rfl, rfl, m_piece arg4 arg8 arg9 arg10 X4 X8 k f9 f10 24 (by decide) _ (k0_off26_eq k) (k0_off26_inb k) _ rfl inb_S256x128_S8x128_192_0 _ rfl,
    ⟨_, inb_S256x128_S8x128_184_0, _, _, rfl, rfl, m_piece arg4 arg8 arg9 arg10 X4 X8 k f9 f10 23 (by decide) _ (k0_off25_eq k) (k0_off25_inb k) _ rfl inb_S256x128_S8x128_184_0 _ rfl,
    ⟨_, inb_S256x128_S8x128_176_0, _, _, rfl, rfl, m_piece arg4 arg8 arg9 arg10 X4 X8 k f9 f10 22 (by decide) _ (k0_off24_eq k) (k0_off24_inb k) _ rfl inb_S256x128_S8x128_176_0 _ rfl,
    ⟨_, inb_S256x128_S8x128_168_0, _, _, rfl, rfl, m_piece arg4 arg8 arg9 arg10 X4 X8 k f9 f10 21 (by decide) _ (k0_off23_eq k) (k0_off23_inb k) _ rfl inb_S256x128_S8x128_168_0 _ rfl,
    ⟨_, inb_S256x128_S8x128_160_0, _, _, rfl, rfl, m_piece arg4 arg8 arg9 arg10 X4 X8 k f9 f10 20 (by decide) _ (k0_off22_eq k) (k0_off22_inb k) _ rfl inb_S256x128_S8x128_160_0 _ rfl,
    ⟨_, inb_S256x128_S8x128_152_0, _, _, rfl, rfl, m_piece arg4 arg8 arg9 arg10 X4 X8 k f9 f10 19 (by decide) _ (k0_off21_eq k) (k0_off21_inb k) _ rfl inb_S256x128_S8x128_152_0 _ rfl,
    ⟨_, inb_S256x128_S8x128_144_0, _, _, rfl, rfl, m_piece arg4 arg8 arg9 arg10 X4 X8 k f9 f10 18 (by decide) _ (k0_off20_eq k) (k0_off20_inb k) _ rfl inb_S256x128_S8x128_144_0 _ rfl,
    ⟨_, inb_S256x128_S8x128_136_0, _, _, rfl, rfl, m_piece arg4 arg8 arg9 arg10 X4 X8 k f9 f10 17 (by decide) _ (k0_off19_eq k) (k0_off19_inb k) _ rfl inb_S256x128_S8x128_136_0 _ rfl,
    ⟨_, inb_S256x128_S8x128_128_0, _, _, rfl, rfl, m_piece arg4 arg8 arg9 arg10 X4 X8 k f9 f10 16 (by decide) _ (k0_off18_eq k) (k0_off18_inb k) _ rfl inb_S256x128_S8x128_128_0 _ rfl,
    ⟨_, inb_S256x128_S8x128_120_0, _, _, rfl, rfl, m_piece arg4 arg8 arg9 arg10 X4 X8 k f9 f10 15 (by decide) _ (k0_off17_eq k) (k0_off17_inb k) _ rfl inb_S256x128_S8x128_120_0 _ rfl,
    ⟨_, inb_S256x128_S8x128_112_0, _, _, rfl, rfl, m_piece arg4 arg8 arg9 arg10 X4 X8 k f9 f10 14 (by decide) _ (k0_off16_eq k) (k0_off16_inb k) _ rfl inb_S256x128_S8x128_112_0 _ rfl,
    ⟨_, inb_S256x128_S8x128_104_0, _, _, rfl, rfl, m_piece arg4 arg8 arg9 arg10 X4 X8 k f9 f10 13 (by decide) _ (k0_off15_eq k) (k0_off15_inb k) _ rfl inb_S256x128_S8x128_104_0 _ rfl,
    ⟨_, inb_S256x128_S8x128_96_0, _, _, rfl, rfl, m_piece arg4 arg8 arg9 arg10 X4 X8 k f9 f10 12 (by decide) _ (k0_off14_eq k) (k0_off14_inb k) _ rfl inb_S256x128_S8x128_96_0 _ rfl,
    ⟨_, inb_S256x128_S8x128_88_0, _, _, rfl, rfl, m_piece arg4 arg8 arg9 arg10 X4 X8 k f9 f10 11 (by decide) _ (k0_off13_eq k) (k0_off13_inb k) _ rfl inb_S256x128_S8x128_88_0 _ rfl,
    ⟨_, inb_S256x128_S8x128_80_0, _, _, rfl, rfl, m_piece arg4 arg8 arg9 arg10 X4 X8 k f9 f10 10 (by decide) _ (k0_off12_eq k) (k0_off12_inb k) _ rfl inb_S256x128_S8x128_80_0 _ rfl,
    ⟨_, inb_S256x128_S8x128_72_0, _, _, rfl, rfl, m_piece arg4 arg8 arg9 arg10 X4 X8 k f9 f10 9 (by decide) _ (k0_off11_eq k) (k0_off11_inb k) _ rfl inb_S256x128_S8x128_72_0 _ rfl,
    ⟨_, inb_S256x128_S8x128_64_0, _, _, rfl, rfl, m_piece arg4 arg8 arg9 arg10 X4 X8 k f9 f10 8 (by decide) _ (k0_off10_eq k) (k0_off10_inb k) _ rfl inb_S256x128_S8x128_64_0 _ rfl,
    ⟨_, inb_S256x128_S8x128_56_0, _, _, rfl, rfl, m_piece arg4 arg8 arg9 arg10 X4 X8 k f9 f10 7 (by decide) _ (k0_off9_eq k) (k0_off9_inb k) _ rfl inb_S256x128_S8x128_56_0 _ rfl,
    ⟨_, inb_S256x128_S8x128_48_0, _, _, rfl, rfl, m_piece arg4 arg8 arg9 arg10 X4 X8 k f9 f10 6 (by decide) _ (k0_off8_eq k) (k0_off8_inb k) _ rfl inb_S256x128_S8x128_48_0 _ rfl,
    ⟨_, inb_S256x128_S8x128_40_0, _, _, rfl, rfl, m_piece arg4 arg8 arg9 arg10 X4 X8 k f9 f10 5 (by decide) _ (k0_off7_eq k) (k0_off7_inb k) _ rfl inb_S256x128_S8x128_40_0 _ rfl,
    ⟨_, inb_S256x128_S8x128_32_0, _, _, rfl, rfl, m_piece arg4 arg8 arg9 arg10 X4 X8 k f9 f10 4 (by decide) _ (k0_off6_eq k) (k0_off6_inb k) _ rfl inb_S256x128_S8x128_32_0 _ rfl,
    ⟨_, inb_S256x128_S8x128_24_0, _, _, rfl, rfl, m_piece arg4 arg8 arg9 arg10 X4 X8 k f9 f10 3 (by decide) _ (k0_off5_eq k) (k0_off5_inb k) _ rfl inb_S256x128_S8x128_24_0 _ rfl,
    ⟨_, inb_S256x128_S8x128_16_0, _, _, rfl, rfl, m_piece arg4 arg8 arg9 arg10 X4 X8 k f9 f10 2 (by decide) _ (k0_off4_eq k) (k0_off4_inb k) _ rfl inb_S256x128_S8x128_16_0 _ rfl,
    ⟨_, inb_S256x128_S8x128_8_0, _, _, rfl, rfl, m_piece arg4 arg8 arg9 arg10 X4 X8 k f9 f10 1 (by decide) _ (k0_off3_eq k) (k0_off3_inb k) _ rfl inb_S256x128_S8x128_8_0 _ rfl,
    ⟨_, inb_S256x128_S8x128_0_0, _, _, rfl, rfl, m_piece arg4 arg8 arg9 arg10 X4 X8 k f9 f10 0 (by decide) _ (k0_off2_eq k) (k0_off2_inb k) _ rfl inb_S256x128_S8x128_0_0 _ rfl,
    rfl⟩⟩⟩⟩⟩⟩⟩⟩⟩⟩⟩⟩⟩⟩⟩⟩⟩⟩⟩⟩⟩⟩⟩⟩⟩⟩⟩⟩⟩⟩⟩⟩
end

/-- The lane-wise greatest absolute value over the first `n` column groups of a row. -/
def run (z : Fin 4096 → EReal) (l : Fin 128) : ℕ → EReal
  | 0 => 0
  | n + 1 => if h : 128 * n + l.val < 4096 then max (run z l n) (max (z ⟨128 * n + l.val, h⟩) (-(z ⟨128 * n + l.val, h⟩))) else run z l n

theorem run_succ (z : Fin 4096 → EReal) (l : Fin 128) (n : ℕ) :
    run z l (n + 1) = if h : 128 * n + l.val < 4096 then max (run z l n) (max (z ⟨128 * n + l.val, h⟩) (-(z ⟨128 * n + l.val, h⟩))) else run z l n := rfl

theorem abs_nonneg' (x : EReal) : 0 ≤ max x (-x) := by
  rcases le_total 0 x with h | h
  · exact le_max_of_le_left h
  · exact le_max_of_le_right (EReal.neg_nonneg.mpr h)

theorem run_le (z : Fin 4096 → EReal) (l : Fin 128) (b : EReal) : ∀ n, n ≤ 32 →
    (run z l n ≤ b ↔ 0 ≤ b ∧ ∀ (c : ℕ) (h : 128 * c + l.val < 4096), c < n → max (z ⟨128 * c + l.val, h⟩) (-(z ⟨128 * c + l.val, h⟩)) ≤ b)
  | 0, _ => by
    show (0 : EReal) ≤ b ↔ _
    exact ⟨fun h => ⟨h, fun c _ hc => absurd hc (by omega)⟩, fun h => h.1⟩
  | n + 1, hn => by
    have hh : 128 * n + l.val < 4096 := by omega
    show (if h : 128 * n + l.val < 4096 then _ else _) ≤ b ↔ _
    rw [dif_pos hh, max_le_iff, run_le z l b n (by omega)]
    constructor
    · rintro ⟨⟨h0, h1⟩, h2⟩
      refine ⟨h0, fun c h hc => ?_⟩
      rcases Nat.lt_or_ge c n with h' | h'
      · exact h1 c h h'
      · obtain rfl : c = n := by omega
        exact h2
    · rintro ⟨h0, h1⟩
      exact ⟨⟨h0, fun c h hc => h1 c h (by omega)⟩, h1 n hh (by omega)⟩

/-- The greatest of the lanes' running values is the row's greatest absolute value. -/
theorem run_amax (z : Fin 4096 → EReal) : (Finset.univ.fold max (Ideal.ofBits .f32 0xFF800000#32) fun l : Fin 128 => run z l 32) = amax z := by
  refine eq_of_forall_ge_iff fun b => ?_
  rw [amax_le, Finset.fold_max_le, bits_bot]
  constructor
  · rintro ⟨-, H⟩ k
    have h := ((run_le z ⟨k.val % 128, Nat.mod_lt _ (by decide)⟩ b 32 le_rfl).mp (H _ (Finset.mem_univ _))).2 (k.val / 128) (by dsimp only; omega) (by omega)
    have e : (⟨128 * (k.val / 128) + k.val % 128, by omega⟩ : Fin 4096) = k := Fin.ext (Nat.div_add_mod _ _)
    simp only [e] at h
    exact h
  · intro H
    exact ⟨bot_le, fun l _ => (run_le z l b 32 le_rfl).mpr ⟨(abs_nonneg' _).trans (H ⟨0, by decide⟩), fun c h _ => H _⟩⟩

section
variable (𝒱 : Variants) (c : Dev nD) (bd : Option 𝒱.V) (i : grid0.Coords) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x256x4096 .fp8e4m3) (harg5 : arg5.IsWhole) (arg6 : Memref sig .tc .vmem S6x256 .f32) (harg6 : arg6.IsWhole) (arg7 : Memref sig .tc .vmem S256x128 .f32) (harg7 : arg7.IsWhole) (arg8 : Memref sig .tc .vmem S1x4096 .f32) (harg8 : arg8.IsWhole) (arg9 : Memref sig .tc .vmem S256x128 .f32) (harg9 : arg9.IsWhole) (arg10 : Memref sig .tc .vmem S256x4096 .f32) (harg10 : arg10.IsWhole) (a0 : BitVec 32) (v33 : FVec Ideal S256x128 .f32)
  (X4 : BufTy.Contents (Elt Ideal) arg4.view.ty) (X8 : BufTy.Contents (Elt Ideal) arg8.view.ty)
  (f9 : BufTy.Contents (Elt Ideal) arg9.view.ty) (f10 : BufTy.Contents (Elt Ideal) arg10.view.ty)

/-- What the column loop has left after `n` trips: the first `n` column groups normalised, and the running greatest over them. -/
theorem col_inv (h0 : ∀ y, arg9.view.read (Elt Ideal) f9 y = (0 : EReal)) : ∀ n, n ≤ k0_t1_loop.trips →
    (∀ (r : Fin 256) (q : Fin 4096), arg10.view.read (Elt Ideal) (arg10.view.writes (Elt Ideal) f10 (pb_k0_t1 (F := Ideal) 𝒱 c bd i arg1 harg1 arg2 harg2 arg3 harg3 arg4 harg4 arg5 harg5 arg6 harg6 arg7 harg7 arg8 harg8 arg9 harg9 arg10 harg10 a0 v33 X4 X8 f9 f10 n).2) (ix2 r q)
        = if q.val < 128 * n then nv arg4 arg8 arg10 X4 X8 f10 (ix2 r q) else arg10.view.read (Elt Ideal) f10 (ix2 r q))
      ∧ ∀ (r : Fin 256) (l : Fin 128), arg9.view.read (Elt Ideal) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 a0 v33 X4 X8 f9 f10 n).1) (ix2 r l)
        = run (fun q => nv arg4 arg8 arg10 X4 X8 f10 (ix2 r q)) l n
  | 0, _ => ⟨fun r q => by rw [if_neg (by omega)]; rfl, fun r l => h0 _⟩
  | n + 1, h => by
    obtain ⟨ih, ih'⟩ := col_inv h0 n (Nat.le_of_succ_le h)
    have hn : n < 32 := hk ⟨n, h⟩
    rw [pb_k0_t1_succ (F := Ideal) 𝒱 c bd i arg1 harg1 arg2 harg2 arg3 harg3 arg4 harg4 arg5 harg5 arg6 harg6 arg7 harg7 arg8 harg8 arg9 harg9 arg10 harg10 a0 v33 X4 X8 f9 f10 ⟨n, h⟩]
    dsimp only
    refine ⟨fun r q => ?_, fun r l => ?_⟩
    · rw [View.writes_append, bands_read _ _ (128 * n) _ r q 32 _ (trip_h 𝒱 c bd i arg1 harg1 arg2 harg2 arg3 harg3 arg4 harg4 arg5 harg5 arg6 harg6 arg7 harg7 arg8 harg8 arg9 harg9 arg10 harg10 a0 v33 X4 X8 ⟨n, h⟩ _ _)]
      by_cases hc : 128 * n ≤ q.val ∧ q.val < 128 * n + 128
      · rw [if_pos ⟨by omega, hc⟩, if_pos (by omega)]
        unfold nv
        rw [ih r q, if_neg (by omega)]
      · rw [if_neg (by omega), ih r q]
        exact if_congr (by omega) rfl rfl
    · rw [View.writes_append, bands_read _ _ 0 _ r l 32 _ (trip_m 𝒱 c bd i arg1 harg1 arg2 harg2 arg3 harg3 arg4 harg4 arg5 harg5 arg6 harg6 arg7 harg7 arg8 harg8 arg9 harg9 arg10 harg10 a0 v33 X4 X8 ⟨n, h⟩ _ _), if_pos (by omega)]
      have hl : 128 * n + l.val < 4096 := by omega
      have e : nv arg4 arg8 arg10 X4 X8 (arg10.view.writes (Elt Ideal) f10 (pb_k0_t1 (F := Ideal) 𝒱 c bd i arg1 harg1 arg2 harg2 arg3 harg3 arg4 harg4 arg5 harg5 arg6 harg6 arg7 harg7 arg8 harg8 arg9 harg9 arg10 harg10 a0 v33 X4 X8 f9 f10 n).2) (ix2 r ⟨128 * n + l.val, hl⟩)
          = nv arg4 arg8 arg10 X4 X8 f10 (ix2 r ⟨128 * n + l.val, hl⟩) := by
        unfold nv
        rw [ih r, if_neg (by dsimp only; omega)]
      show max _ (max (nv arg4 arg8 arg10 X4 X8 (arg10.view.writes (Elt Ideal) f10 (pb_k0_t1 (F := Ideal) 𝒱 c bd i arg1 harg1 arg2 harg2 arg3 harg3 arg4 harg4 arg5 harg5 arg6 harg6 arg7 harg7 arg8 harg8 arg9 harg9 arg10 harg10 a0 v33 X4 X8 f9 f10 n).2) (ix2 r ⟨128 * n + l.val, hl⟩))
        (-(nv arg4 arg8 arg10 X4 X8 (arg10.view.writes (Elt Ideal) f10 (pb_k0_t1 (F := Ideal) 𝒱 c bd i arg1 harg1 arg2 harg2 arg3 harg3 arg4 harg4 arg5 harg5 arg6 harg6 arg7 harg7 arg8 harg8 arg9 harg9 arg10 harg10 a0 v33 X4 X8 f9 f10 n).2) (ix2 r ⟨128 * n + l.val, hl⟩)))) = _
      rw [e, ih' r l]
      rw [run_succ, dif_pos hl]
end

/-- The rows' greatest, on the rows' tile. -/
def rowmax (w : FVec Ideal S32x128 .f32) : FVec Ideal S32x128 .f32 :=
  broadcastTo S32x128 (shapeCast S32x1 (shapeCast S32x1 (multiReduction .maximumf [1] S32 w 0xFF800000#32 reduces_S32x128_S32 (.inl rfl) rfl) shapeCasts_S32_S32x1) shapeCasts_S32x1_S32x1) broadcasts_S32x1_S32x128

/-- The rows' scales, on the rows' tile. -/
def sv (w : FVec Ideal S32x128 .f32) : FVec Ideal S32x128 .f32 :=
  vscale (mulf (rowmax w) (broadcast S32x128 (Scalar.ofBits .f32 0x3B124925#32)))

/-- The codes of one column group. -/
def cd (z w : FVec Ideal S32x128 .f32) : FVec Ideal S1x32x128 .fp8e4m3 :=
  shapeCast S1x32x128 (truncf .fp8e4m3 (minimumf (broadcast S32x128 (Scalar.ofBits .f32 0x43E00000#32)) (maximumf (broadcast S32x128 (Scalar.ofBits .f32 0xC3E00000#32))
    (mulf z (divf (broadcast S32x128 (Scalar.ofBits .f32 0x3F800000#32)) w)))) bitsLt_fp8e4m3_f32) shapeCasts_S32x128_S1x32x128

theorem rowmax_at (w : FVec Ideal S32x128 .f32) (r : Fin 32) (l : Fin 128) :
    rowmax w (ix2 r l) = Finset.univ.fold max (Ideal.ofBits .f32 0xFF800000#32) fun l : Fin 128 => w (ix2 r l) := by
  pointwise! [rowmax]

theorem sv_at (w : FVec Ideal S32x128 .f32) (r : Fin 32) (l : Fin 128) (z : Fin 4096 → EReal) (hw : ∀ l, w (ix2 r l) = run z l 32) : sv w (ix2 r l) = sc z := by
  unfold sv
  rw [vscale_at]
  show kscale (rowmax w (ix2 r l) * Ideal.ofBits .f32 0x3B124925#32) = _
  rw [rowmax_at]
  unfold sc
  rw [← run_amax z]
  simp only [hw]

theorem cd_at (z w : FVec Ideal S32x128 .f32) (a : Fin 1) (r : Fin 32) (l : Fin 128) : cd z w (ix3 a r l) = min (Ideal.ofBits .f32 0x43E00000#32) (max (Ideal.ofBits .f32 0xC3E00000#32)
      (z (ix2 r l) * Ideal.div (Ideal.ofBits .f32 0x3F800000#32) (w (ix2 r l)))) := by pointwise! [cd]

/-- One block of the codes, from its rows. -/
def blockQ (z : Fin 256 → Fin 4096 → EReal) : FVec Ideal S1x256x4096 .fp8e4m3 := fun y => code (z (y 1)) (y 2)

/-- One block of the scales, the same in every lane. -/
def blockS (z : Fin 256 → Fin 4096 → EReal) : FVec Ideal S256x128 .f32 := fun y => sc (z (y 0))

theorem hk2 (k : Fin k0_t2_loop.trips) : k.val < 8 := Nat.lt_of_lt_of_le k.isLt k0_t2_abs.2.1

section
variable (arg9 : Memref sig .tc .vmem S256x128 .f32) (arg10 : Memref sig .tc .vmem S256x4096 .f32)
  (X9 : BufTy.Contents (Elt Ideal) arg9.view.ty) (X10 : BufTy.Contents (Elt Ideal) arg10.view.ty) (k : Fin k0_t2_loop.trips) (z : Fin 256 → Fin 4096 → EReal)
  (h9 : ∀ (r : Fin 256) (l : Fin 128), arg9.view.read (Elt Ideal) X9 (ix2 r l) = run (z r) l 32)
  (h10 : ∀ (r : Fin 256) (c : Fin 4096), arg10.view.read (Elt Ideal) X10 (ix2 r c) = z r c)

/-- The running values of a trip's rows. -/
def lm : FVec Ideal S32x128 .f32 := View.readAt (Elt Ideal) arg9.view (Rect.unit (s := S256x128) (k0_off34 k) S32x128.size (k0_off34_inb k)).toLoadRect X9

theorem s_eq : trip_k0_t2.sl.v117 (F := Ideal) arg9 X9 k = sv (lm arg9 X9 k) := rfl

include h9 in
theorem lm_at (r : Fin 32) (l : Fin 128) : lm arg9 X9 k (ix2 r l) = run (z ⟨32 * k.val + r.val, by have := hk2 k; omega⟩) l 32 := by
  unfold lm
  rw [View.readAt_apply, ← h9]
  refine congrArg _ (unit_idx _ _ ?_)
  have e := k0_off34_eq k
  intro a; have ea := congrFun e a; fin_cases a <;> simp at ea ⊢ <;> omega

include h9 in
theorem sm_at (r : Fin 32) (l : Fin 128) : sv (lm arg9 X9 k) (ix2 r l) = sc (z ⟨32 * k.val + r.val, by have := hk2 k; omega⟩) :=
  sv_at _ r l _ fun l => lm_at arg9 X9 k z h9 r l

include h9 h10 in
/-- A store of codes is the block's function on the places it names. -/
theorem q_piece (n : ℕ) (hn : n < 32) (off' : Fin 2 → ℕ) (ho' : off' = ![32 * k.val, 128 * n]) (inb' : ∀ a, off' a + S32x128.size a ≤ S256x4096.size a)
    (off : Fin 3 → ℕ) (ho : off = ![0, 32 * k.val, 128 * n])
    (inb : ∀ a, off a + S1x32x128.size a ≤ S1x256x4096.size a) (v : FVec Ideal S1x32x128 .fp8e4m3)
    (hv : v = cd (View.readAt (Elt Ideal) arg10.view (Rect.unit (s := S256x4096) off' S32x128.size inb').toLoadRect X10) (trip_k0_t2.sl.v117 (F := Ideal) arg9 X9 k)) (y : S1x32x128.Idx) :
    v y = blockQ z ((Rect.unit (s := S1x256x4096) off S1x32x128.size inb).idx y) := by
  have hk := hk2 k
  rw [s_eq] at hv
  subst hv
  idx_vars y
  have e : (Rect.unit (s := S1x256x4096) off S1x32x128.size inb).idx (ix3 y0 y1 y2) = (ix3 0 ⟨32 * k.val + y1.val, by omega⟩ ⟨128 * n + y2.val, by omega⟩ : S1x256x4096.Idx) := by
    refine unit_idx _ _ ?_
    subst ho
    intro a; fin_cases a <;> simp
  have e' : (Rect.unit (s := S256x4096) off' S32x128.size inb').toLoadRect.idx (ix2 y1 y2) = (ix2 ⟨32 * k.val + y1.val, by omega⟩ ⟨128 * n + y2.val, by omega⟩ : S256x4096.Idx) := by
    refine unit_idx _ _ ?_
    subst ho'
    intro a; fin_cases a <;> simp
  rw [cd_at, sm_at arg9 X9 k z h9, View.readAt_apply, e', h10, bits_one, e]
  rfl

include h9 in
/-- A store of scales is the block's function on the places it names. -/
theorem s_piece (v : FVec Ideal S32x128 .f32) (hv : v = shapeCast S32x128 (trip_k0_t2.sl.v117 (F := Ideal) arg9 X9 k) shapeCasts_S32x128_S32x128) (y : S32x128.Idx) :
    v y = blockS z ((Rect.unit (s := S256x128) (k0_off34 k) S32x128.size (k0_off34_inb k)).idx y) := by
  have hk := hk2 k
  rw [s_eq] at hv
  subst hv
  idx_vars y
  have e : shapeCast S32x128 (sv (lm arg9 X9 k)) shapeCasts_S32x128_S32x128 (ix2 y0 y1) = sv (lm arg9 X9 k) (ix2 y0 y1) := by pointwise!
  refine e.trans ((sm_at arg9 X9 k z h9 _ _).trans (congrArg (blockS z) (unit_idx _ (ix2 ⟨32 * k.val + y0.val, by omega⟩ y1) ?_)).symm)
  have e := k0_off34_eq k
  intro a; have ea := congrFun e a; fin_cases a <;> simp at ea ⊢ <;> omega
end

section
variable (𝒱 : Variants) (c : Dev nD) (bd : Option 𝒱.V) (i : grid0.Coords) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x256x4096 .fp8e4m3) (harg5 : arg5.IsWhole) (arg6 : Memref sig .tc .vmem S6x256 .f32) (harg6 : arg6.IsWhole) (arg7 : Memref sig .tc .vmem S256x128 .f32) (harg7 : arg7.IsWhole) (arg8 : Memref sig .tc .vmem S1x4096 .f32) (harg8 : arg8.IsWhole) (arg9 : Memref sig .tc .vmem S256x128 .f32) (harg9 : arg9.IsWhole) (arg10 : Memref sig .tc .vmem S256x4096 .f32) (harg10 : arg10.IsWhole) (a0 : BitVec 32) (v33 : FVec Ideal S256x128 .f32)
  (X9 : BufTy.Contents (Elt Ideal) arg9.view.ty) (X10 : BufTy.Contents (Elt Ideal) arg10.view.ty) (z : Fin 256 → Fin 4096 → EReal)
  (h9 : ∀ (r : Fin 256) (l : Fin 128), arg9.view.read (Elt Ideal) X9 (ix2 r l) = run (z r) l 32)
  (h10 : ∀ (r : Fin 256) (c : Fin 4096), arg10.view.read (Elt Ideal) X10 (ix2 r c) = z r c)

include h9 h10 in
theorem trip_q (k : Fin k0_t2_loop.trips) : View.PiecesOf (blockQ z) (tripL_k0_t2 (F := Ideal) 𝒱 c bd i arg1 harg1 arg2 harg2 arg3 harg3 arg4 harg4 arg5 harg5 arg6 harg6 arg7 harg7 arg8 harg8 arg9 harg9 arg10 harg10 a0 v33 X9 X10 k).1 := by
  unfold tripL_k0_t2 trip_k0_t2
  exact ⟨q_piece arg9 arg10 X9 X10 k z h9 h10 31 (by decide) _ (k0_off97_eq k) (k0_off97_inb k) _ (k0_off98_eq k) (k0_off98_inb k) _ rfl,
    q_piece arg9 arg10 X9 X10 k z h9 h10 30 (by decide) _ (k0_off95_eq k) (k0_off95_inb k) _ (k0_off96_eq k) (k0_off96_inb k) _ rfl,
    q_piece arg9 arg10 X9 X10 k z h9 h10 29 (by decide) _ (k0_off93_eq k) (k0_off93_inb k) _ (k0_off94_eq k) (k0_off94_inb k) _ rfl,
    q_piece arg9 arg10 X9 X10 k z h9 h10 28 (by decide) _ (k0_off91_eq k) (k0_off91_inb k) _ (k0_off92_eq k) (k0_off92_inb k) _ rfl,
    q_piece arg9 arg10 X9 X10 k z h9 h10 27 (by decide) _ (k0_off89_eq k) (k0_off89_inb k) _ (k0_off90_eq k) (k0_off90_inb k) _ rfl,
    q_piece arg9 arg10 X9 X10 k z h9 h10 26 (by decide) _ (k0_off87_eq k) (k0_off87_inb k) _ (k0_off88_eq k) (k0_off88_inb k) _ rfl,
    q_piece arg9 arg10 X9 X10 k z h9 h10 25 (by decide) _ (k0_off85_eq k) (k0_off85_inb k) _ (k0_off86_eq k) (k0_off86_inb k) _ rfl,
    q_piece arg9 arg10 X9 X10 k z h9 h10 24 (by decide) _ (k0_off83_eq k) (k0_off83_inb k) _ (k0_off84_eq k) (k0_off84_inb k) _ rfl,
    q_piece arg9 arg10 X9 X10 k z h9 h10 23 (by decide) _ (k0_off81_eq k) (k0_off81_inb k) _ (k0_off82_eq k) (k0_off82_inb k) _ rfl,
    q_piece arg9 arg10 X9 X10 k z h9 h10 22 (by decide) _ (k0_off79_eq k) (k0_off79_inb k) _ (k0_off80_eq k) (k0_off80_inb k) _ rfl,
    q_piece arg9 arg10 X9 X10 k z h9 h10 21 (by decide) _ (k0_off77_eq k) (k0_off77_inb k) _ (k0_off78_eq k) (k0_off78_inb k) _ rfl,
    q_piece arg9 arg10 X9 X10 k z h9 h10 20 (by decide) _ (k0_off75_eq k) (k0_off75_inb k) _ (k0_off76_eq k) (k0_off76_inb k) _ rfl,
    q_piece arg9 arg10 X9 X10 k z h9 h10 19 (by decide) _ (k0_off73_eq k) (k0_off73_inb k) _ (k0_off74_eq k) (k0_off74_inb k) _ rfl,
    q_piece arg9 arg10 X9 X10 k z h9 h10 18 (by decide) _ (k0_off71_eq k) (k0_off71_inb k) _ (k0_off72_eq k) (k0_off72_inb k) _ rfl,
    q_piece arg9 arg10 X9 X10 k z h9 h10 17 (by decide) _ (k0_off69_eq k) (k0_off69_inb k) _ (k0_off70_eq k) (k0_off70_inb k) _ rfl,
    q_piece arg9 arg10 X9 X10 k z h9 h10 16 (by decide) _ (k0_off67_eq k) (k0_off67_inb k) _ (k0_off68_eq k) (k0_off68_inb k) _ rfl,
    q_piece arg9 arg10 X9 X10 k z h9 h10 15 (by decide) _ (k0_off65_eq k) (k0_off65_inb k) _ (k0_off66_eq k) (k0_off66_inb k) _ rfl,
    q_piece arg9 arg10 X9 X10 k z h9 h10 14 (by decide) _ (k0_off63_eq k) (k0_off63_inb k) _ (k0_off64_eq k) (k0_off64_inb k) _ rfl,
    q_piece arg9 arg10 X9 X10 k z h9 h10 13 (by decide) _ (k0_off61_eq k) (k0_off61_inb k) _ (k0_off62_eq k) (k0_off62_inb k) _ rfl,
    q_piece arg9 arg10 X9 X10 k z h9 h10 12 (by decide) _ (k0_off59_eq k) (k0_off59_inb k) _ (k0_off60_eq k) (k0_off60_inb k) _ rfl,
    q_piece arg9 arg10 X9 X10 k z h9 h10 11 (by decide) _ (k0_off57_eq k) (k0_off57_inb k) _ (k0_off58_eq k) (k0_off58_inb k) _ rfl,
    q_piece arg9 arg10 X9 X10 k z h9 h10 10 (by decide) _ (k0_off55_eq k) (k0_off55_inb k) _ (k0_off56_eq k) (k0_off56_inb k) _ rfl,
    q_piece arg9 arg10 X9 X10 k z h9 h10 9 (by decide) _ (k0_off53_eq k) (k0_off53_inb k) _ (k0_off54_eq k) (k0_off54_inb k) _ rfl,
    q_piece arg9 arg10 X9 X10 k z h9 h10 8 (by decide) _ (k0_off51_eq k) (k0_off51_inb k) _ (k0_off52_eq k) (k0_off52_inb k) _ rfl,
    q_piece arg9 arg10 X9 X10 k z h9 h10 7 (by decide) _ (k0_off49_eq k) (k0_off49_inb k) _ (k0_off50_eq k) (k0_off50_inb k) _ rfl,
    q_piece arg9 arg10 X9 X10 k z h9 h10 6 (by decide) _ (k0_off47_eq k) (k0_off47_inb k) _ (k0_off48_eq k) (k0_off48_inb k) _ rfl,
    q_piece arg9 arg10 X9 X10 k z h9 h10 5 (by decide) _ (k0_off45_eq k) (k0_off45_inb k) _ (k0_off46_eq k) (k0_off46_inb k) _ rfl,
    q_piece arg9 arg10 X9 X10 k z h9 h10 4 (by decide) _ (k0_off43_eq k) (k0_off43_inb k) _ (k0_off44_eq k) (k0_off44_inb k) _ rfl,
    q_piece arg9 arg10 X9 X10 k z h9 h10 3 (by decide) _ (k0_off41_eq k) (k0_off41_inb k) _ (k0_off42_eq k) (k0_off42_inb k) _ rfl,
    q_piece arg9 arg10 X9 X10 k z h9 h10 2 (by decide) _ (k0_off39_eq k) (k0_off39_inb k) _ (k0_off40_eq k) (k0_off40_inb k) _ rfl,
    q_piece arg9 arg10 X9 X10 k z h9 h10 1 (by decide) _ (k0_off37_eq k) (k0_off37_inb k) _ (k0_off38_eq k) (k0_off38_inb k) _ rfl,
    q_piece arg9 arg10 X9 X10 k z h9 h10 0 (by decide) _ (k0_off35_eq k) (k0_off35_inb k) _ (k0_off36_eq k) (k0_off36_inb k) _ rfl, trivial⟩

include h9 in
theorem trip_s (k : Fin k0_t2_loop.trips) : View.PiecesOf (blockS z) (tripL_k0_t2 (F := Ideal) 𝒱 c bd i arg1 harg1 arg2 harg2 arg3 harg3 arg4 harg4 arg5 harg5 arg6 harg6 arg7 harg7 arg8 harg8 arg9 harg9 arg10 harg10 a0 v33 X9 X10 k).2 := by
  unfold tripL_k0_t2 trip_k0_t2
  exact ⟨s_piece arg9 X9 k z h9 _ rfl, trivial⟩

include h9 h10 in
theorem pieces : ∀ n, n ≤ k0_t2_loop.trips →
    View.PiecesOf (blockQ z) (pb_k0_t2 (F := Ideal) 𝒱 c bd i arg1 harg1 arg2 harg2 arg3 harg3 arg4 harg4 arg5 harg5 arg6 harg6 arg7 harg7 arg8 harg8 arg9 harg9 arg10 harg10 a0 v33 X9 X10 n).1 ∧ View.PiecesOf (blockS z) (pb_k0_t2 (F := Ideal) 𝒱 c bd i arg1 harg1 arg2 harg2 arg3 harg3 arg4 harg4 arg5 harg5 arg6 harg6 arg7 harg7 arg8 harg8 arg9 harg9 arg10 harg10 a0 v33 X9 X10 n).2
  | 0, _ => ⟨trivial, trivial⟩
  | n + 1, h => by
    rw [pb_k0_t2_succ (F := Ideal) 𝒱 c bd i arg1 harg1 arg2 harg2 arg3 harg3 arg4 harg4 arg5 harg5 arg6 harg6 arg7 harg7 arg8 harg8 arg9 harg9 arg10 harg10 a0 v33 X9 X10 ⟨n, h⟩]
    obtain ⟨p, p'⟩ := pieces n (Nat.le_of_succ_le h)
    exact ⟨piecesOf_append _ _ (trip_q 𝒱 c bd i arg1 harg1 arg2 harg2 arg3 harg3 arg4 harg4 arg5 harg5 arg6 harg6 arg7 harg7 arg8 harg8 arg9 harg9 arg10 harg10 a0 v33 X9 X10 z h9 h10 ⟨n, h⟩) p, piecesOf_append _ _ (trip_s 𝒱 c bd i arg1 harg1 arg2 harg2 arg3 harg3 arg4 harg4 arg5 harg5 arg6 harg6 arg7 harg7 arg8 harg8 arg9 harg9 arg10 harg10 a0 v33 X9 X10 z h9 ⟨n, h⟩) p'⟩
end

/-- A column's factor before the square root of a half: one plus the gain times the response over the mean response. -/
def gr (f g : Fin 4096 → EReal) (k : Fin 4096) : EReal :=
  Ideal.ofBits .f32 0x3F800000#32 + g k * Ideal.div (Ideal.sqrt (f k)) ((∑ k, Ideal.sqrt (f k)) * Ideal.ofBits .f32 0x39800000#32 + Ideal.ofBits .f32 0x358637BD#32)

/-- The named constant is the square root of a half. -/
theorem named_half : Named.named (F := Ideal) κ "sqrt_half" (φ := .f32) 0x3F3504F3#32 = ((Real.sqrt (1 / 2) : ℝ) : EReal) :=
  rfl

/-- A column's factor, from the blocks. -/
def ascB (x1 : FVec Ideal S1x1x4096 .f32) (x2 : FVec Ideal S1x4096 .f32) (k : Fin 4096) : EReal :=
  gr (fun k => x1 (ix3 0 0 k) * Ideal.ofBits .f32 0x3F000000#32) (fun k => x2 (ix2 0 k)) k * ((Real.sqrt (1 / 2) : ℝ) : EReal)

theorem pay146_at (x1 : FVec Ideal S1x1x4096 .f32) (x2 : FVec Ideal S1x4096 .f32) (k : Fin 4096) :
    k0_pay146 (F := Ideal) x1 x2 (ix2 0 k) = ascB x1 x2 k := by
  unfold ascB gr
  rw [← named_half]
  pointwise! [k0_pay146]

/-- One block of normalised rows. -/
def zb (x0 : FVec Ideal S256x4096 .f32) (x1 : FVec Ideal S1x1x4096 .f32) (x2 x3 : FVec Ideal S1x4096 .f32) (r : Fin 256) (k : Fin 4096) : EReal :=
  x0 (ix2 r k) * ascB x1 x2 k + x3 (ix2 0 k)

/-- A store of the whole buffer, read back. -/
theorem whole_read {sg : RefSig} {κ : Kind} {sp : Space} {s : Shape} (v : View sg κ sp s .f32) (f : v.ty.Contents (Elt Ideal)) (off : Fin s.rank → ℕ) (h : ∀ a, off a = 0)
    (inb : ∀ a, off a + s.size a ≤ s.size a) (w : s.Idx → EReal) (y : s.Idx) :
    v.read (Elt Ideal) (v.writes (Elt Ideal) f [(⟨Rect.unit (s := s) off s.size inb, w⟩ : View.Piece (Elt Ideal) s .f32)]) y = w y := by
  refine View.read_writes_cons_hit_of_coords v f (Rect.unit (s := s) off s.size inb) w [] y y fun a => ?_
  show (y a).val = off a + 1 * (y a).val
  rw [h]; omega

theorem zero2 : ∀ a : Fin 2, (![0, 0] : Fin 2 → ℕ) a = 0 := by intro a; fin_cases a <;> rfl
theorem zero3 : ∀ a : Fin 3, (![0, 0, 0] : Fin 3 → ℕ) a = 0 := by intro a; fin_cases a <;> rfl

theorem pay147_at (y : S256x128.Idx) : k0_pay147 (F := Ideal) y = 0 := by
  unfold k0_pay147
  idx_vars y
  pointwise

theorem pay145_at (w : FVec Ideal S256x4096 .f32) (r : Fin 256) (k : Fin 4096) : k0_pay145 (F := Ideal) w (ix2 r k) = w (ix2 r k) := by
  pointwise! [k0_pay145]

/-- A whole load of a whole buffer. -/
theorem whole_load {s : Shape} (arg : Memref sig .tc .vmem s .f32) (harg : arg.IsWhole) (x : FVec Ideal s .f32) (off : Fin s.rank → ℕ) (h : ∀ a, off a = 0)
    (inb : ∀ a, off a + s.size a ≤ s.size a) : View.readAt (Elt Ideal) arg.view (Rect.unit (s := s) off s.size inb).toLoadRect (harg.unread x) = x := by
  funext y
  simp only [Memref.IsWhole.readAt_unread]
  refine congrArg x (unit_idx _ _ fun a => ?_)
  rw [h]; omega

section
variable (c : Dev nD) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole)
  (arg8 : Memref sig .tc .vmem S1x4096 .f32) (arg9 : Memref sig .tc .vmem S256x128 .f32) (arg10 : Memref sig .tc .vmem S256x4096 .f32)
  (x0 : FVec Ideal S256x4096 .f32) (x1 : FVec Ideal S1x1x4096 .f32) (x2 : FVec Ideal S1x4096 .f32)

theorem hA1 (k : Fin 4096) : arg8.view.read (Elt Ideal) (arg8.view.writes (Elt Ideal) arg8.view.junk (kernelRun0_A.sl.HS1_1 (F := Ideal) c arg2 harg2 arg3 harg3 x1 x2)) (ix2 0 k) = ascB x1 x2 k := by
  unfold kernelRun0_A.sl.HS1_1
  rw [whole_load arg2 harg2 x1 _ zero3, whole_load arg3 harg3 x2 _ zero2]
  exact (whole_read arg8.view _ _ zero2 _ _ _).trans (pay146_at x1 x2 k)
theorem hB1 (k : Fin 4096) : arg8.view.read (Elt Ideal) (arg8.view.writes (Elt Ideal) arg8.view.junk (kernelRun0_B.sl.HS1_1 (F := Ideal) c arg2 harg2 arg3 harg3 x1 x2)) (ix2 0 k) = ascB x1 x2 k :=
  hA1 c arg2 harg2 arg3 harg3 arg8 x1 x2 k
theorem hA2 (y : S256x128.Idx) : arg9.view.read (Elt Ideal) (arg9.view.writes (Elt Ideal) arg9.view.junk (kernelRun0_A.sl.HS2_1 (F := Ideal))) y = (0 : EReal) := by
  unfold kernelRun0_A.sl.HS2_1
  exact (whole_read arg9.view _ _ zero2 _ _ _).trans (pay147_at y)
theorem hB2 (y : S256x128.Idx) : arg9.view.read (Elt Ideal) (arg9.view.writes (Elt Ideal) arg9.view.junk (kernelRun0_B.sl.HS2_1 (F := Ideal))) y = (0 : EReal) :=
  hA2 arg9 y
theorem hA3 (r : Fin 256) (k : Fin 4096) : arg10.view.read (Elt Ideal) (arg10.view.writes (Elt Ideal) arg10.view.junk (kernelRun0_A.sl.HS3_1 (F := Ideal) c arg1 harg1 x0)) (ix2 r k) = x0 (ix2 r k) := by
  unfold kernelRun0_A.sl.HS3_1
  rw [whole_load arg1 harg1 x0 _ zero2]
  exact (whole_read arg10.view _ _ zero2 _ _ _).trans (pay145_at x0 r k)
theorem hB3 (r : Fin 256) (k : Fin 4096) : arg10.view.read (Elt Ideal) (arg10.view.writes (Elt Ideal) arg10.view.junk (kernelRun0_B.sl.HS3_1 (F := Ideal) c arg1 harg1 x0)) (ix2 r k) = x0 (ix2 r k) :=
  hA3 c arg1 harg1 arg10 x0 r k
end

theorem trips1 : k0_t1_loop.trips = 32 := by decide +kernel

section
variable (𝒱 : Variants) (c : Dev nD) (bd : Option 𝒱.V) (i : grid0.Coords) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x256x4096 .fp8e4m3) (harg5 : arg5.IsWhole) (arg6 : Memref sig .tc .vmem S6x256 .f32) (harg6 : arg6.IsWhole) (arg7 : Memref sig .tc .vmem S256x128 .f32) (harg7 : arg7.IsWhole) (arg8 : Memref sig .tc .vmem S1x4096 .f32) (harg8 : arg8.IsWhole) (arg9 : Memref sig .tc .vmem S256x128 .f32) (harg9 : arg9.IsWhole) (arg10 : Memref sig .tc .vmem S256x4096 .f32) (harg10 : arg10.IsWhole) (a0 : BitVec 32) (v33 : FVec Ideal S256x128 .f32)
  (L1 : List (View.Piece (Elt Ideal) S1x4096 .f32)) (L2 : List (View.Piece (Elt Ideal) S256x128 .f32)) (L3 : List (View.Piece (Elt Ideal) S256x4096 .f32))
  (x0 : FVec Ideal S256x4096 .f32) (x1 : FVec Ideal S1x1x4096 .f32) (x2 x3 : FVec Ideal S1x4096 .f32)

/-- What the column loop leaves in the two buffers. -/
def end9 : BufTy.Contents (Elt Ideal) arg9.view.ty := arg9.view.writes (Elt Ideal) arg9.view.junk ((pb_k0_t1 (F := Ideal) 𝒱 c bd i arg1 harg1 arg2 harg2 arg3 harg3 arg4 harg4 arg5 harg5 arg6 harg6 arg7 harg7 arg8 harg8 arg9 harg9 arg10 harg10 a0 v33 (harg4.unread x3)
  (arg8.view.writes (Elt Ideal) arg8.view.junk L1) (arg9.view.writes (Elt Ideal) arg9.view.junk L2) (arg10.view.writes (Elt Ideal) arg10.view.junk L3) k0_t1_loop.trips).1 ++ L2)
def end10 : BufTy.Contents (Elt Ideal) arg10.view.ty := arg10.view.writes (Elt Ideal) arg10.view.junk ((pb_k0_t1 (F := Ideal) 𝒱 c bd i arg1 harg1 arg2 harg2 arg3 harg3 arg4 harg4 arg5 harg5 arg6 harg6 arg7 harg7 arg8 harg8 arg9 harg9 arg10 harg10 a0 v33 (harg4.unread x3)
  (arg8.view.writes (Elt Ideal) arg8.view.junk L1) (arg9.view.writes (Elt Ideal) arg9.view.junk L2) (arg10.view.writes (Elt Ideal) arg10.view.junk L3) k0_t1_loop.trips).2 ++ L3)

variable
  (h1 : ∀ k : Fin 4096, arg8.view.read (Elt Ideal) (arg8.view.writes (Elt Ideal) arg8.view.junk L1) (ix2 0 k) = ascB x1 x2 k)
  (h2 : ∀ y, arg9.view.read (Elt Ideal) (arg9.view.writes (Elt Ideal) arg9.view.junk L2) y = (0 : EReal))
  (h3 : ∀ (r : Fin 256) (k : Fin 4096), arg10.view.read (Elt Ideal) (arg10.view.writes (Elt Ideal) arg10.view.junk L3) (ix2 r k) = x0 (ix2 r k))

include h1 h3 in
theorem nv_eq (r : Fin 256) (k : Fin 4096) : nv arg4 arg8 arg10 (harg4.unread x3) (arg8.view.writes (Elt Ideal) arg8.view.junk L1) (arg10.view.writes (Elt Ideal) arg10.view.junk L3) (ix2 r k) = zb x0 x1 x2 x3 r k := by
  unfold nv zb
  rw [h3]
  refine congr (congrArg HAdd.hAdd (congrArg (HMul.hMul _) (h1 k))) ?_
  rw [Memref.IsWhole.read_unread]
  rfl

include h1 h2 h3 in
theorem end9_at (r : Fin 256) (l : Fin 128) : arg9.view.read (Elt Ideal) (end9 𝒱 c bd i arg1 harg1 arg2 harg2 arg3 harg3 arg4 harg4 arg5 harg5 arg6 harg6 arg7 harg7 arg8 harg8 arg9 harg9 arg10 harg10 a0 v33 L1 L2 L3 x3) (ix2 r l) = run (zb x0 x1 x2 x3 r) l 32 := by
  unfold end9
  rw [View.writes_append, (col_inv 𝒱 c bd i arg1 harg1 arg2 harg2 arg3 harg3 arg4 harg4 arg5 harg5 arg6 harg6 arg7 harg7 arg8 harg8 arg9 harg9 arg10 harg10 a0 v33 _ _ _ _ h2 _ le_rfl).2 r l, trips1]
  refine congrArg (fun z => run z l 32) (funext fun k => ?_)
  exact nv_eq arg4 harg4 arg8 arg10 L1 L3 x0 x1 x2 x3 h1 h3 r k

include h1 h2 h3 in
theorem end10_at (r : Fin 256) (k : Fin 4096) : arg10.view.read (Elt Ideal) (end10 𝒱 c bd i arg1 harg1 arg2 harg2 arg3 harg3 arg4 harg4 arg5 harg5 arg6 harg6 arg7 harg7 arg8 harg8 arg9 harg9 arg10 harg10 a0 v33 L1 L2 L3 x3) (ix2 r k) = zb x0 x1 x2 x3 r k := by
  unfold end10
  rw [View.writes_append, (col_inv 𝒱 c bd i arg1 harg1 arg2 harg2 arg3 harg3 arg4 harg4 arg5 harg5 arg6 harg6 arg7 harg7 arg8 harg8 arg9 harg9 arg10 harg10 a0 v33 _ _ _ _ h2 _ le_rfl).1 r k, trips1, if_pos (by omega)]
  exact nv_eq arg4 harg4 arg8 arg10 L1 L3 x0 x1 x2 x3 h1 h3 r k
end

theorem cmp_eq (a b : ℕ) (ha : a < 4294967296) (hb : b < 4294967296) :
    IntOp.cmpi CmpIPredicate.eq (BitVec.ofNat 32 a) (BitVec.ofNat 32 b) = BitVec.ofBool (decide (a = b)) :=
  Cert.KernelLnIdeal.Val.cmp_eq a b ha hb

/-- The store of one grid point's scales: its own row of the tile is the tile's diagonal, the others stay. -/
theorem pay151_at (n : ℕ) (hn : n < 6) (v7 : FVec Ideal S128x128 .f32) (v15 : FVec Ideal S6x128 .f32) (a : Fin 6) (l : Fin 128) :
    k0_pay151 (F := Ideal) (BitVec.ofNat 32 n) v7 v15 (ix2 a l) = if a.val = n then v7 (ix2 l l) else v15 (ix2 a l) := by
  unfold k0_pay151 k0_pay150
  pointwise
  rw [cmp_eq _ _ (by omega) (by omega), select_cmp]
  refine if_congr Iff.rfl ?_ rfl
  refine (Finset.sum_congr rfl fun k _ => ?_).trans (Cert.KernelLnIdeal.Val.diag (fun k => v7 (ix2 k l)) l)
  rw [cmp_eq _ _ (by omega) (by omega), select_cmp]

section
variable (𝒱 : Variants) (c : Dev nD) (bd : Option 𝒱.V) (i : grid0.Coords) (arg1 : Memref sig .tc .vmem S256x4096 .f32) (harg1 : arg1.IsWhole) (arg2 : Memref sig .tc .vmem S1x1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x256x4096 .fp8e4m3) (harg5 : arg5.IsWhole) (arg6 : Memref sig .tc .vmem S6x256 .f32) (harg6 : arg6.IsWhole) (arg7 : Memref sig .tc .vmem S256x128 .f32) (harg7 : arg7.IsWhole) (arg8 : Memref sig .tc .vmem S1x4096 .f32) (harg8 : arg8.IsWhole) (arg9 : Memref sig .tc .vmem S256x128 .f32) (harg9 : arg9.IsWhole) (arg10 : Memref sig .tc .vmem S256x4096 .f32) (harg10 : arg10.IsWhole) (a0 : BitVec 32) (v33 : FVec Ideal S256x128 .f32)
  (X9 : BufTy.Contents (Elt Ideal) arg9.view.ty) (X10 : BufTy.Contents (Elt Ideal) arg10.view.ty) (z : Fin 256 → Fin 4096 → EReal)

/-- The rows loop's stores of scales cover their buffer. -/
theorem cov7 (y : S256x128.Idx) : ∃ p ∈ (pb_k0_t2 (F := Ideal) 𝒱 c bd i arg1 harg1 arg2 harg2 arg3 harg3 arg4 harg4 arg5 harg5 arg6 harg6 arg7 harg7 arg8 harg8 arg9 harg9 arg10 harg10 a0 v33 X9 X10 k0_t2_loop.trips).2, y ∈ p.1.set :=
  View.cover_of_tiledL (pb_k0_t2 (F := Ideal) 𝒱 c bd i arg1 harg1 arg2 harg2 arg3 harg3 arg4 harg4 arg5 harg5 arg6 harg6 arg7 harg7 arg8 harg8 arg9 harg9 arg10 harg10 a0 v33 X9 X10 k0_t2_loop.trips).2 S32x128.size (by sl_kernel_rfl) y

/-- The scales read back after the loop. -/
theorem read7 (h9 : ∀ (r : Fin 256) (l : Fin 128), arg9.view.read (Elt Ideal) X9 (ix2 r l) = run (z r) l 32)
    (h10 : ∀ (r : Fin 256) (k : Fin 4096), arg10.view.read (Elt Ideal) X10 (ix2 r k) = z r k)
    (off : Fin 2 → ℕ) (inb : ∀ a, off a + S128x128.size a ≤ S256x128.size a) (o : ℕ) (ho : off = ![o, 0]) (l : Fin 128) (hl : o + l.val < 256) :
    arg7.view.readCov (pb_k0_t2 (F := Ideal) 𝒱 c bd i arg1 harg1 arg2 harg2 arg3 harg3 arg4 harg4 arg5 harg5 arg6 harg6 arg7 harg7 arg8 harg8 arg9 harg9 arg10 harg10 a0 v33 X9 X10 k0_t2_loop.trips).2 (Rect.unit (s := S256x128) off S128x128.size inb).toLoadRect (ix2 l l) = blockS z (ix2 ⟨o + l.val, hl⟩ 0) := by
  rw [View.readCov_eq_canon']
  have h := View.canon_append_of_piecesOf (blockS z) [] (pb_k0_t2 (F := Ideal) 𝒱 c bd i arg1 harg1 arg2 harg2 arg3 harg3 arg4 harg4 arg5 harg5 arg6 harg6 arg7 harg7 arg8 harg8 arg9 harg9 arg10 harg10 a0 v33 X9 X10 k0_t2_loop.trips).2 (pieces 𝒱 c bd i arg1 harg1 arg2 harg2 arg3 harg3 arg4 harg4 arg5 harg5 arg6 harg6 arg7 harg7 arg8 harg8 arg9 harg9 arg10 harg10 a0 v33 X9 X10 z h9 h10 _ le_rfl).2
    ((Rect.unit (s := S256x128) off S128x128.size inb).toLoadRect.idx (ix2 l l)) (cov7 𝒱 c bd i arg1 harg1 arg2 harg2 arg3 harg3 arg4 harg4 arg5 harg5 arg6 harg6 arg7 harg7 arg8 harg8 arg9 harg9 arg10 harg10 a0 v33 X9 X10 _)
  rw [List.append_nil] at h
  refine h.trans ?_
  subst ho
  have e : (Rect.unit (s := S256x128) ![o, 0] S128x128.size inb).toLoadRect.idx (ix2 l l) = (ix2 ⟨o + l.val, hl⟩ l : S256x128.Idx) := by
    refine unit_idx _ _ ?_
    intro a; fin_cases a <;> simp
  rw [e]
  rfl
end

/-- One row of scales put into the array of rows. -/
def put (n : ℕ) (s : FVec Ideal S256x128 .f32) (old : FVec Ideal S6x256 .f32) : FVec Ideal S6x256 .f32 :=
  fun y => if (y 0).val = n then s (ix2 (y 1) 0) else old y

/-- A store into the rows of scales is that function on the places it names. -/
theorem put_piece (n : ℕ) (hn : n < 6) (s : FVec Ideal S256x128 .f32) (old : FVec Ideal S6x256 .f32) (v7 : FVec Ideal S128x128 .f32) (v15 : FVec Ideal S6x128 .f32)
    (o : ℕ) (off : Fin 2 → ℕ) (ho : off = ![0, o]) (inb : ∀ a, off a + S6x128.size a ≤ S6x256.size a)
    (h7 : ∀ (l : Fin 128) (hl : o + l.val < 256), v7 (ix2 l l) = s (ix2 ⟨o + l.val, hl⟩ 0))
    (h15 : ∀ x : S6x128.Idx, v15 x = old ((Rect.unit (s := S6x256) off S6x128.size inb).idx x)) (y : S6x128.Idx) :
    k0_pay151 (F := Ideal) (BitVec.ofNat 32 n) v7 v15 y = put n s old ((Rect.unit (s := S6x256) off S6x128.size inb).idx y) := by
  have hl : o + 128 ≤ 256 := by have := inb 1; rw [ho] at this; simpa using this
  idx_vars y
  rw [pay151_at _ hn, h15]
  subst ho
  have e : (Rect.unit (s := S6x256) ![0, o] S6x128.size inb).idx (ix2 y0 y1) = (ix2 y0 ⟨o + y1.val, by omega⟩ : S6x256.Idx) := by
    refine unit_idx _ _ ?_
    intro a; fin_cases a <;> simp
  rw [e, h7 y1 (by omega)]
  rfl

variable (m : (ℓ : Loc nD τ sig) → Buf (Elt Ideal) ℓ)

/-- A grid point's block of normalised rows. -/
abbrev zt (c : Dev nD) (t : Fin cfg0.N) : Fin 256 → Fin 4096 → EReal := zb (iblk m c 0 t) (iblk m c 1 t) (iblk m c 2 t) (iblk m c 3 t)

/-- The first result's block at a grid point. -/
theorem out_A_4 (c : Dev nD) (t : Fin cfg0.N) (h : t.val % 6 = 0) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) = blockQ (zt m c t) := by
  funext y
  have hc := cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) y
  unfold out0_A_4
  refine View.read_writes_apply_of_pieces _ _ _ _ (View.PiecesOf.mem ?_) y hc
  unfold kernelRun0_A
  exact (pieces _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) _ le_rfl).1

theorem out_B_4 (c : Dev nD) (t : Fin cfg0.N) (h : ¬ t.val % 6 = 0) (a5 : FVec Ideal S6x256 .f32) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) a5 = blockQ (zt m c t) := by
  funext y
  have hc := cover0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) a5 y
  unfold out0_B_4
  refine View.read_writes_apply_of_pieces _ _ _ _ (View.PiecesOf.mem ?_) y hc
  unfold kernelRun0_B
  exact (pieces _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) _ le_rfl).1

/-- The rows of scales after a grid point that carries them from the one before. -/
theorem out_B_5 (c : Dev nD) (t : Fin cfg0.N) (h : ¬ t.val % 6 = 0) (a5 : FVec Ideal S6x256 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) a5
      = put (grid0.coords t 0).val (blockS (zt m c t)) a5 := by
  have hi : (grid0.coords t 0).val < 6 := (grid0.coords t 0).isLt
  funext y
  have hc := cover0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h' => h ((hcond0_0 t).mp h')) (iblk m c 0 t) (iblk m c 1 t) (iblk m c 2 t) (iblk m c 3 t) a5 y
  unfold out0_B_5
  refine View.read_writes_apply_of_pieces _ _ _ _ (View.PiecesOf.mem ?_) y hc
  unfold kernelRun0_B
  refine ⟨?_, ?_, trivial⟩
  · unfold kernelRun0_B.sl.r
    refine put_piece _ hi _ _ _ _ 128 ![0, 128] rfl inb_S6x256_S6x128_0_128 (fun l hl => read7 _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) _ _ 128 rfl l hl) ?_
    intro x
    unfold kernelRun0_B.sl.v61
    simp only [Memref.IsWhole.readAt_unread]
  · refine put_piece _ hi _ _ _ _ 0 ![0, 0] rfl inb_S6x256_S6x128_0_0 (fun l hl => read7 _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hB1 c (ms0_1 t) (hs0_1 t) (ms0_2 t) (hs0_2 t) scM0_1 (iblk m c 1 t) (iblk m c 2 t)) (hB2 scM0_2) (hB3 c (ms0_0 t) (hs0_0 t) scM0_3 (iblk m c 0 t))) _ _ 0 rfl l hl) ?_
    intro x
    simp only [Memref.IsWhole.readAt_unread]

theorem pay144_at (y : S6x256.Idx) : k0_pay144 (F := Ideal) y = 0 := by
  unfold k0_pay144
  idx_vars y
  pointwise

/-- The rows of scales after the first grid point. -/
theorem out_A_5 (c : Dev nD) (t : Fin cfg0.N) (h : t.val % 6 = 0) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t)
      = put (grid0.coords t 0).val (blockS (zt m c t)) (fun _ => 0) := by
  have hi : (grid0.coords t 0).val < 6 := (grid0.coords t 0).isLt
  funext y
  unfold out0_A_5
  rw [View.read_writes_junk_apply_eq_canon]
  unfold kernelRun0_A
  dsimp only
  unfold kernelRun0_A.sl.H5_2
  refine View.canon_append_of_piecesOf _ kernelRun0_A.sl.H5_1 [_, _] ?_ y (View.cover_of_tiledL (s := S6x256) [_, _] S6x128.size (by sl_kernel_rfl) y)
  refine ⟨?_, ?_, trivial⟩
  · unfold kernelRun0_A.sl.r
    refine put_piece _ hi _ _ _ _ 128 ![0, 128] rfl inb_S6x256_S6x128_0_128 (fun l hl => read7 _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) _ _ 128 rfl l hl) ?_
    intro x
    unfold kernelRun0_A.sl.v61 kernelRun0_A.sl.H5_2 kernelRun0_A.sl.H5_1
    rw [View.readCov_skip _ _ _ _ _ rfl]
    have hf := congrFun (View.readCov_fill (Val := Elt Ideal) (ms0_5 t).view inb_S6x256_S6x256_0_0 (k0_pay144 (F := Ideal)) [] (Rect.unit (s := S6x256) ![0, 128] S6x128.size inb_S6x256_S6x128_0_128) zero2) x
    exact hf.trans (pay144_at _)
  · refine put_piece _ hi _ _ _ _ 0 ![0, 0] rfl inb_S6x256_S6x128_0_0 (fun l hl => read7 _ c none (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ _ _ _ _ (end9_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) (end10_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (BitVec.ofNat 32 (grid0.coords t 0).val) k0_pay147 _ _ _ (iblk m c 0 t) (iblk m c 1 t) (iblk m c 2 t) (iblk m c 3 t) (hA1 c (ms0_1 t) (hs0_1 t) (ms0_2 t) (hs0_2 t) scM0_1 (iblk m c 1 t) (iblk m c 2 t)) (hA2 scM0_2) (hA3 c (ms0_0 t) (hs0_0 t) scM0_3 (iblk m c 0 t))) _ _ 0 rfl l hl) ?_
    intro x
    unfold kernelRun0_A.sl.v47 kernelRun0_A.sl.H5_1
    have hf := congrFun (View.readCov_fill (Val := Elt Ideal) (ms0_5 t).view inb_S6x256_S6x256_0_0 (k0_pay144 (F := Ideal)) [] (Rect.unit (s := S6x256) ![0, 0] S6x128.size inb_S6x256_S6x128_0_0) zero2) x
    exact hf.trans (pay144_at _)

/-- One row of the hidden layer, normalised. -/
def zA (h : FVec Ideal S1536x4096 .f32) (s : FVec Ideal S6x1x4096 .f32) (g b : FVec Ideal S4096 .f32) (a : Fin 6) (r : Fin 256) (k : Fin 4096) : EReal :=
  h (ix2 ⟨256 * a.val + r.val, by omega⟩ k) * (gr (fun k => s (ix3 a 0 k) * Ideal.ofBits .f32 0x3F000000#32) (fun k => g (ix1 k)) k * ((Real.sqrt (1 / 2) : ℝ) : EReal)) + b (ix1 k)

/-- The codes, from the four arguments. -/
def GQ (h : FVec Ideal S1536x4096 .f32) (s : FVec Ideal S6x1x4096 .f32) (g b : FVec Ideal S4096 .f32) : FVec Ideal S6x256x4096 .fp8e4m3 :=
  fun i => code (zA h s g b (i 0) (i 1)) (i 2)

/-- The scales, from the four arguments. -/
def GS (h : FVec Ideal S1536x4096 .f32) (s : FVec Ideal S6x1x4096 .f32) (g b : FVec Ideal S4096 .f32) : FVec Ideal S6x256 .f32 :=
  fun i => sc (zA h s g b (i 0) (i 1))

/-- Which block of each window a grid point sees. -/
theorem idx : ∀ t : Fin cfg0.N, win0_0.index t = ![t.val, 0] ∧ win0_1.index t = ![t.val, 0, 0] ∧ win0_2.index t = ![0, 0] ∧ win0_3.index t = ![0, 0] ∧
    win0_4.index t = ![t.val, 0, 0] ∧ win0_5.index t = ![0, 0] ∧ (grid0.coords t 0).val = t.val :=
  (by decide +kernel : ∀ t : Fin grid0.N, _)

theorem V_g (c : Dev nD) (a : Fin 1) (b : Fin 4096) :
    (V m c main_v0 : FVec Ideal S1x4096 .f32) (ix2 a b) = (m ((c : Thread nD τ).loc main_arg2) : FVec Ideal S4096 .f32) (ix1 b) := by
  entry_read
  pointwise

theorem V_b (c : Dev nD) (a : Fin 1) (b : Fin 4096) :
    (V m c main_v1 : FVec Ideal S1x4096 .f32) (ix2 a b) = (m ((c : Thread nD τ).loc main_arg3) : FVec Ideal S4096 .f32) (ix1 b) := by
  entry_read
  pointwise

theorem b0 (c : Dev nD) (t : Fin cfg0.N) (ht : t.val < 6) (r : Fin 256) (l : Fin 4096) :
    iblk m c 0 t (ix2 r l : S256x4096.Idx) = m ((c : Thread nD τ).loc main_arg0) (ix2 ⟨256 * t.val + r.val, by omega⟩ l) := by
  obtain ⟨i0, i1, i2, i3, i4, i5, i6⟩ := idx t
  rw [← V_main_arg0 m c]
  exact congrArg (V m c main_arg0) (by blk_ext [i0])

theorem b1 (c : Dev nD) (t : Fin cfg0.N) (ht : t.val < 6) (l : Fin 4096) :
    iblk m c 1 t (ix3 0 0 l : S1x1x4096.Idx) = m ((c : Thread nD τ).loc main_arg1) (ix3 ⟨t.val, ht⟩ 0 l) := by
  obtain ⟨i0, i1, i2, i3, i4, i5, i6⟩ := idx t
  rw [← V_main_arg1 m c]
  exact congrArg (V m c main_arg1) (by blk_ext [i1])

theorem b2 (c : Dev nD) (t : Fin cfg0.N) (l : Fin 4096) :
    iblk m c 2 t (ix2 0 l : S1x4096.Idx) = m ((c : Thread nD τ).loc main_arg2) (ix1 l) := by
  obtain ⟨i0, i1, i2, i3, i4, i5, i6⟩ := idx t
  rw [← V_g m c 0 l]
  exact congrArg (V m c main_v0) (by blk_ext [i2])

theorem b3 (c : Dev nD) (t : Fin cfg0.N) (l : Fin 4096) :
    iblk m c 3 t (ix2 0 l : S1x4096.Idx) = m ((c : Thread nD τ).loc main_arg3) (ix1 l) := by
  obtain ⟨i0, i1, i2, i3, i4, i5, i6⟩ := idx t
  rw [← V_b m c 0 l]
  exact congrArg (V m c main_v1) (by blk_ext [i3])

/-- The four arguments. -/
abbrev ah (c : Dev nD) : FVec Ideal S1536x4096 .f32 := m ((c : Thread nD τ).loc main_arg0)
abbrev an (c : Dev nD) : FVec Ideal S6x1x4096 .f32 := m ((c : Thread nD τ).loc main_arg1)
abbrev ag (c : Dev nD) : FVec Ideal S4096 .f32 := m ((c : Thread nD τ).loc main_arg2)
abbrev ab (c : Dev nD) : FVec Ideal S4096 .f32 := m ((c : Thread nD τ).loc main_arg3)

/-- A block's rows, from what its places hold. -/
theorem zb_congr (x0 : FVec Ideal S256x4096 .f32) (x1 : FVec Ideal S1x1x4096 .f32) (x2 x3 : FVec Ideal S1x4096 .f32) (r : Fin 256) (h s g b : Fin 4096 → EReal)
    (e0 : ∀ k, x0 (ix2 r k) = h k) (e1 : ∀ k, x1 (ix3 0 0 k) = s k) (e2 : ∀ k, x2 (ix2 0 k) = g k) (e3 : ∀ k, x3 (ix2 0 k) = b k) (k : Fin 4096) :
    zb x0 x1 x2 x3 r k = h k * (gr (fun k => s k * Ideal.ofBits .f32 0x3F000000#32) g k * ((Real.sqrt (1 / 2) : ℝ) : EReal)) + b k := by
  unfold zb ascB
  rw [funext fun k => congrArg (· * Ideal.ofBits .f32 0x3F000000#32) (e1 k), funext e2, e0, e3]

/-- A block's normalised row is the array's. -/
theorem zrow_eq (c : Dev nD) (t : Fin cfg0.N) (ht : t.val < 6) (r : Fin 256) :
    zt m c t r = zA (ah m c) (an m c) (ag m c) (ab m c) ⟨t.val, ht⟩ r := by
  funext k
  exact zb_congr (iblk m c 0 t) (iblk m c 1 t) (iblk m c 2 t) (iblk m c 3 t) r _ _ _ _ (fun k => b0 m c t ht r k) (fun k => b1 m c t ht k) (fun k => b2 m c t k) (fun k => b3 m c t k) k

/-- The rows of scales written up to a grid point. -/
def rows (c : Dev nD) (n : ℕ) : FVec Ideal S6x256 .f32 := fun y =>
  if (y 0).val ≤ n then GS (ah m c) (an m c) (ag m c) (ab m c) y else 0

/-- A block's scale is the array's. -/
theorem blockS_eq (c : Dev nD) (t : Fin cfg0.N) (y : S6x256.Idx) (h : (y 0).val = t.val) :
    blockS (zt m c t) (ix2 (y 1) 0) = GS (ah m c) (an m c) (ag m c) (ab m c) y := by
  unfold blockS GS
  have e : (⟨t.val, t.isLt⟩ : Fin 6) = y 0 := Fin.ext h.symm
  refine congrArg sc ((zrow_eq m c t t.isLt (y 1)).trans ?_)
  rw [e]

/-- What every grid point leaves. -/
theorem outs (c : Dev nD) : ∀ (n : ℕ) (hn : n < cfg0.N), outsAt0 m c n hn = (blockQ (zt m c ⟨n, hn⟩), rows m c n) := by
  intro n
  induction n with
  | zero =>
    intro hn
    refine (outsAt0_A m c ⟨0, hn⟩ rfl).trans ?_
    have h : (⟨0, hn⟩ : Fin cfg0.N).val % 6 = 0 := rfl
    rw [out_A_4 m c _ h, out_A_5 m c _ h]
    refine congrArg (Prod.mk _) (funext fun y => ?_)
    unfold put rows
    obtain ⟨-, -, -, -, -, -, i6⟩ := idx ⟨0, hn⟩
    rw [i6]
    by_cases hy : (y 0).val = 0
    · rw [if_pos hy, if_pos (le_of_eq hy)]
      exact blockS_eq m c ⟨0, hn⟩ y hy
    · rw [if_neg hy, if_neg (by omega)]
  | succ n ih =>
    intro hn
    have h6 : cfg0.N = 6 := by decide
    have h : ¬ (⟨n + 1, hn⟩ : Fin cfg0.N).val % 6 = 0 := by dsimp only; omega
    refine (outsAt0_B m c ⟨n + 1, hn⟩ h).trans ?_
    simp only [Nat.add_sub_cancel]
    rw [ih (Nat.lt_of_succ_lt hn), out_B_4, out_B_5]
    refine congrArg (Prod.mk _) (funext fun y => ?_)
    unfold put rows
    obtain ⟨-, -, -, -, -, -, i6⟩ := idx ⟨n + 1, hn⟩
    rw [i6]
    by_cases hy : (y 0).val = n + 1
    · rw [if_pos hy, if_pos (le_of_eq hy)]
      exact blockS_eq m c ⟨n + 1, hn⟩ y hy
    · rw [if_neg hy]
      exact if_congr (by omega) rfl rfl

/-- The first result array after the run. -/
theorem final4 (c : Dev nD) : (dats m 0 c).arrAt 4 cfg0.N
    = GQ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ (y : S1x256x4096.Idx) => ?_
  blk_simp
  rw [after0_4, outs]
  have ht : t.val < 6 := t.isLt
  obtain ⟨i0, i1, i2, i3, i4, i5, i6⟩ := idx t
  have ey : (win0_4.blk t).view.emb y = (ix3 ⟨t.val, ht⟩ (y 1) (y 2) : S6x256x4096.Idx) := by
    blk_ext [i4]
  refine Eq.trans ?_ (congrArg (GQ _ _ _ _) ey.symm)
  exact congrArg (fun z => code z (y 2)) (zrow_eq m c t ht (y 1))

/-- The second result array after the run. -/
theorem final5 (c : Dev nD) : (dats m 0 c).arrAt 5 cfg0.N
    = GS (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf (y : S6x256.Idx) => ?_
  blk_simp
  rw [after0_5, outs]
  have ht : t.val = 5 := by
    have hl : ∀ t : Fin grid0.N, (cfg0.win 5).flush t = true → t.val = 5 := by decide +kernel
    exact hl t hf
  obtain ⟨i0, i1, i2, i3, i4, i5, i6⟩ := idx t
  have ey : (win0_5.blk t).view.emb y = (y : S6x256.Idx) := by
    blk_ext [i5]
  refine Eq.trans ?_ (congrArg (GS _ _ _ _) ey.symm)
  have hy : (y 0).val < 6 := (y 0).isLt
  exact if_pos (by omega)

end Cert.KernelGrnIdeal.Val
-- ==== Proof.ReferenceGrn.lean ====
module

public import proofs.«01_k».proof.Proof.Gen.ReferenceGrnIdeal.Frame
public import proofs.«01_k».proof.Proof.KernelGrn
public import proofs.«01_k».proof.Proof.ReferenceUp
public import Idealize.ShloMosaic.Lib.Pipeline.Value
public import Idealize.ShloMosaic.Lib.Pipeline.ValueKit
public import Idealize.ShloMosaic.Lib.Pointwise
public import Idealize.ShloMosaic.Lib.Claim

/-! The reference of the response normalisation and the second quantiser: its run, and its two result arrays as functions of the arguments. -/

@[expose] public section
set_option maxRecDepth 16384
noncomputable section
open Idealize.ShloMosaic Idealize.ShloMosaic.TcCoe Idealize.SL.Sem
open Idealize.ShloMosaic.Pipeline (Dat)
namespace Cert.ReferenceGrnIdeal.Val
open Cert.ReferenceGrnIdeal Cert.ReferenceGrnIdeal.Gen Cert.Scale
open Cert.KernelGrnIdeal.Val (GQ GS zA gr)
open Cert.ReferenceUpIdeal.Val (bits_half)

section
variable {F : FTy → Type} [FloatOps F]
variable (m : (ℓ : Loc nD τ sig) → Buf (Elt F) ℓ) (ρ : Dev nD → PrngReg)

/-- The run, with each result array after it named, the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)
end

variable (m : (ℓ : Loc nD τ sig) → Buf (Elt Ideal) ℓ)

theorem idx : ∀ t : Fin cfg0.N, win0_0.index t = ![0, 0] ∧ win0_1.index t = ![0, 0, 0] ∧ win0_2.index t = ![0, 0, 0] ∧
    win0_3.index t = ![0, 0, 0] ∧ win0_4.index t = ![0, 0, 0] ∧ win0_5.index t = ![0, 0] :=
  (by decide +kernel : ∀ t : Fin grid0.N, _)

theorem bits_4096 : Ideal.ofBits .f32 0x45800000#32 = ((4096 : ℝ) : EReal) := by
  simp [Ideal.ofBits, Ideal.ieee, -EReal.coe_mul]; norm_num
theorem bits_inv4096 : Ideal.ofBits .f32 0x39800000#32 = ((1 / 4096 : ℝ) : EReal) := by
  simp [Ideal.ofBits, Ideal.ieee, -EReal.coe_mul]; norm_num

/-- Division by `4096` is multiplication by its inverse. -/
theorem div_4096 (x : EReal) : Ideal.div x (Ideal.ofBits .f32 0x45800000#32) = x * Ideal.ofBits .f32 0x39800000#32 := by
  rw [bits_4096, bits_inv4096, Ideal.div_coe (by norm_num)]

/-- Division by two is multiplication by a half. -/
theorem div_two (x : EReal) : Ideal.div x (Ideal.ofBits .f32 0x40000000#32) = x * Ideal.ofBits .f32 0x3F000000#32 := by
  rw [bits_two, bits_half, Ideal.div_coe (by norm_num)]

/-- Division by the square root of two is multiplication by that of a half. -/
theorem div_sqrt_two (x : EReal) : Ideal.div x (Ideal.sqrt (Ideal.ofBits .f32 0x40000000#32)) = x * ((Real.sqrt (1 / 2) : ℝ) : EReal) := by
  have h2 : Real.sqrt 2 ≠ 0 := (Real.sqrt_pos.mpr (by norm_num)).ne'
  rw [bits_two, Ideal.sqrt_coe, if_neg (by norm_num), Ideal.div_coe h2, ← Cert.ReferenceUpIdeal.Val.sqrt_half]

/-- The reference's row from its parts. -/
def rz (h : EReal) (s g : Fin 4096 → EReal) (b : EReal) (k : Fin 4096) : EReal :=
  Ideal.div h (Ideal.sqrt (Ideal.ofBits .f32 0x40000000#32))
    * (Ideal.ofBits .f32 0x3F800000#32 + g k * Ideal.div (Ideal.sqrt (Ideal.div (s k) (Ideal.ofBits .f32 0x40000000#32)))
        (Ideal.div (∑ k, Ideal.sqrt (Ideal.div (s k) (Ideal.ofBits .f32 0x40000000#32))) (Ideal.ofBits .f32 0x45800000#32) + Ideal.ofBits .f32 0x358637BD#32)) + b

/-- It is the kernel's: the factor of the square root of a half moves onto the column. -/
theorem rz_eq (h : EReal) (s g : Fin 4096 → EReal) (b : EReal) (k : Fin 4096) :
    rz h s g b k = h * (gr (fun k => s k * Ideal.ofBits .f32 0x3F000000#32) g k * ((Real.sqrt (1 / 2) : ℝ) : EReal)) + b := by
  unfold rz gr
  simp only [div_sqrt_two, div_two, div_4096]
  rw [mul_assoc, mul_comm ((Real.sqrt (1 / 2) : ℝ) : EReal)]

section
variable (x : FVec Ideal S1536x4096 .f32) (s : FVec Ideal S6x1x4096 .f32) (g b : FVec Ideal S1x1x4096 .f32)

/-- One normalised row. -/
def zR (a : Fin 6) (r : Fin 256) (k : Fin 4096) : EReal :=
  rz (x (ix2 ⟨256 * a.val + r.val, by omega⟩ k)) (fun k => s (ix3 a 0 k)) (fun k => g (ix3 0 0 k)) (b (ix3 0 0 k)) k

theorem pay4_at (a : Fin 6) (r : Fin 256) (k : Fin 4096) : k0_pay4 (F := Ideal) x s g b (ix3 a r k) = zR x s g b a r k := by
  unfold zR rz
  pointwise! [k0_pay4]

theorem pay5_eq : k0_pay5 (F := Ideal) x s g b
    = mulf (multiReduction .maximumf [2] S6x256 (absf (k0_pay4 (F := Ideal) x s g b)) 0xFF800000#32 reduces_S6x256x4096_S6x256 (.inl rfl) rfl)
      (broadcast S6x256 (Scalar.ofBits .f32 0x3B124925#32)) := rfl

/-- The greatest absolute value along the last axis, at any extent. -/
theorem amax_gen {n : ℕ} (z : FVec Ideal (⟨3, ![6, 256, n]⟩ : Shape) .f32) (h : (⟨3, ![6, 256, n]⟩ : Shape).Reduces [2] S6x256) (hφ : FKind.Formats .f32)
    (hacc : (0xFF800000#32 : BitVec (FTy.bits .f32)) = FKind.maximumf.neutral .f32 hφ) (a : Fin 6) (r : Fin 256) :
    multiReduction .maximumf [2] S6x256 (absf z) 0xFF800000#32 h hφ hacc (ix2 a r) = amax fun k => z (ix3 a r k) := by
  rw [multiReduction_maximumf_eq_fold, Shape.Reduces.fold_fiber_r3_a2]
  rfl

theorem amax_mul (y : FVec Ideal S6x256 .f32) (j : S6x256.Idx) :
    mulf y (broadcast S6x256 (Scalar.ofBits .f32 0x3B124925#32)) j = y j * Ideal.ofBits .f32 0x3B124925#32 := rfl

theorem amax_at (z : FVec Ideal S6x256x4096 .f32) (a : Fin 6) (r : Fin 256) :
    mulf (multiReduction .maximumf [2] S6x256 (absf z) 0xFF800000#32 reduces_S6x256x4096_S6x256 (.inl rfl) rfl)
      (broadcast S6x256 (Scalar.ofBits .f32 0x3B124925#32)) (ix2 a r) = amax (fun k => z (ix3 a r k)) * Ideal.ofBits .f32 0x3B124925#32 :=
  (amax_mul _ _).trans (congrArg (· * Ideal.ofBits .f32 0x3B124925#32) (amax_gen z _ _ _ a r))

theorem pay5_at (a : Fin 6) (r : Fin 256) : k0_pay5 (F := Ideal) x s g b (ix2 a r) = amax (zR x s g b a r) * Ideal.ofBits .f32 0x3B124925#32 :=
  (congrFun (pay5_eq x s g b) (ix2 a r)).trans ((amax_at (k0_pay4 (F := Ideal) x s g b) a r).trans
    (congrArg (fun f : Fin 4096 → EReal => amax f * Ideal.ofBits .f32 0x3B124925#32) (funext fun k => pay4_at x s g b a r k)))

theorem pay1_rfl (y : FVec Ideal S6x256 .f32) :
    k0_pay1 y (floor (divf (log y) (log (broadcast S6x256 (Scalar.ofBits .f32 0x40000000#32))))) (broadcast S6x256 (Scalar.ofBits .f32 0x3F800000#32)) = vexp y := rfl

theorem pay6_eq : k0_pay6 (F := Ideal) x s g b = floor (divf (log (k0_pay5 (F := Ideal) x s g b)) (log (broadcast S6x256 (Scalar.ofBits .f32 0x40000000#32)))) := rfl
theorem pay7_eq : k0_pay7 (F := Ideal) = broadcast S6x256 (Scalar.ofBits .f32 0x3F800000#32) := rfl

theorem pay1_eq : k0_pay1 (k0_pay5 (F := Ideal) x s g b) (k0_pay6 (F := Ideal) x s g b) (k0_pay7 (F := Ideal))
    = vexp (k0_pay5 (F := Ideal) x s g b) := by
  rw [pay6_eq, pay7_eq]
  exact pay1_rfl _

/-- The exponent of a row's scale. -/
theorem exp_at (a : Fin 6) (r : Fin 256) : k0_pay1 (k0_pay5 (F := Ideal) x s g b) (k0_pay6 (F := Ideal) x s g b) (k0_pay7 (F := Ideal)) (ix2 a r)
    = rexp (amax (zR x s g b a r) * Ideal.ofBits .f32 0x3B124925#32) :=
  (congrFun (pay1_eq x s g b) (ix2 a r)).trans ((vexp_at _ (ix2 a r)).trans (congrArg rexp (pay5_at x s g b a r)))

theorem sc_eq {n : ℕ} (z : Fin n → EReal) : Ideal.exp2 (rexp (amax z * Ideal.ofBits .f32 0x3B124925#32)) = sc z :=
  (scale_facts _).1.symm

theorem code_eq {n : ℕ} (z : Fin n → EReal) (k : Fin n) : min (Ideal.ofBits .f32 0x43E00000#32) (max (Ideal.ofBits .f32 0xC3E00000#32)
        (z k * Ideal.exp2 (0 - rexp (amax z * Ideal.ofBits .f32 0x3B124925#32)))) = code z k := by
  unfold code sc
  rw [(scale_facts _).2]

theorem exp2_at (e : FVec Ideal S6x256 .f32) (j : S6x256.Idx) : exp2 e j = Ideal.exp2 (e j) := rfl

theorem pay2_eq (p q q' : FVec Ideal S6x256 .f32) : k0_pay2 p q q' = exp2 (k0_pay1 p q q') := rfl

theorem pay2_rfl (p q q' : FVec Ideal S6x256 .f32) (j : S6x256.Idx) : k0_pay2 p q q' j = Ideal.exp2 (k0_pay1 p q q' j) :=
  (congrFun (pay2_eq p q q') j).trans (exp2_at _ j)

theorem pay2_at (a : Fin 6) (r : Fin 256) : k0_pay2 (k0_pay5 (F := Ideal) x s g b) (k0_pay6 (F := Ideal) x s g b) (k0_pay7 (F := Ideal)) (ix2 a r) = sc (zR x s g b a r) :=
  (pay2_rfl _ _ _ (ix2 a r)).trans ((congrArg Ideal.exp2 (exp_at x s g b a r)).trans (sc_eq _))

theorem pay3_rfl (z : FVec Ideal S6x256x4096 .f32) (p q q' : FVec Ideal S6x256 .f32) (a : Fin 6) (r : Fin 256) (k : Fin 4096) :
    k0_pay3 z p q q' (ix3 a r k) = min (Ideal.ofBits .f32 0x43E00000#32) (max (Ideal.ofBits .f32 0xC3E00000#32)
        (z (ix3 a r k) * Ideal.exp2 (0 - k0_pay1 p q q' (ix2 a r)))) := by
  unfold k0_pay3
  generalize k0_pay1 p q q' = e
  pointwise
  rfl

theorem pay3_at (a : Fin 6) (r : Fin 256) (k : Fin 4096) :
    k0_pay3 (k0_pay4 (F := Ideal) x s g b) (k0_pay5 (F := Ideal) x s g b) (k0_pay6 (F := Ideal) x s g b) (k0_pay7 (F := Ideal)) (ix3 a r k) = code (zR x s g b a r) k := by
  refine (pay3_rfl _ _ _ _ a r k).trans (Eq.trans ?_ (code_eq (zR x s g b a r) k))
  rw [exp_at, pay4_at]

/-- The first result's buffer, from the staged arguments. -/
theorem out4_at (a : Fin 6) (r : Fin 256) (k : Fin 4096) : (out0_4 (F := Ideal) x s g b (ix3 a r k) : EReal) = code (zR x s g b a r) k := by
  unfold_out out0_4
  frame_out
  exact pay3_at x s g b a r k

/-- The second result's buffer, from the staged arguments. -/
theorem out5_at (a : Fin 6) (r : Fin 256) : (out0_5 (F := Ideal) x s g b (ix2 a r) : EReal) = sc (zR x s g b a r) := by
  unfold_out out0_5
  frame_out
  exact pay2_at x s g b a r
end

theorem V_g (c : Dev nD) (a b : Fin 1) (l : Fin 4096) :
    (V m c main_v0 : FVec Ideal S1x1x4096 .f32) (ix3 a b l) = (m ((c : Thread nD τ).loc main_arg2) : FVec Ideal S4096 .f32) (ix1 l) := by
  entry_read
  pointwise

theorem V_b (c : Dev nD) (a b : Fin 1) (l : Fin 4096) :
    (V m c main_v1 : FVec Ideal S1x1x4096 .f32) (ix3 a b l) = (m ((c : Thread nD τ).loc main_arg3) : FVec Ideal S4096 .f32) (ix1 l) := by
  entry_read
  pointwise

/-- A reference row, from what its places hold. -/
theorem zR_congr (x : FVec Ideal S1536x4096 .f32) (s : FVec Ideal S6x1x4096 .f32) (g b : FVec Ideal S1x1x4096 .f32) (h' : FVec Ideal S1536x4096 .f32) (s' : FVec Ideal S6x1x4096 .f32) (g' b' : FVec Ideal S4096 .f32)
    (e0 : ∀ r k, x (ix2 r k) = h' (ix2 r k)) (e1 : ∀ a k, s (ix3 a 0 k) = s' (ix3 a 0 k)) (e2 : ∀ k, g (ix3 0 0 k) = g' (ix1 k)) (e3 : ∀ k, b (ix3 0 0 k) = b' (ix1 k)) (a : Fin 6) (r : Fin 256) :
    zR x s g b a r = zA h' s' g' b' a r := by
  funext k
  unfold zR zA
  rw [rz_eq, e0, e3, funext e2, funext fun k => congrArg (· * Ideal.ofBits .f32 0x3F000000#32) (e1 a k)]

/-- A normalised row is the kernel's. -/
theorem zR_eq (c : Dev nD) (t : Fin cfg0.N) (a : Fin 6) (r : Fin 256) :
    zR (iblk m c 0 t) (iblk m c 1 t) (iblk m c 2 t) (iblk m c 3 t) a r
      = zA (m ((c : Thread nD τ).loc main_arg0)) (m ((c : Thread nD τ).loc main_arg1)) (m ((c : Thread nD τ).loc main_arg2)) (m ((c : Thread nD τ).loc main_arg3)) a r := by
  obtain ⟨i0, i1, i2, i3, i4, i5⟩ := idx t
  refine zR_congr (iblk m c 0 t) (iblk m c 1 t) (iblk m c 2 t) (iblk m c 3 t) _ _ _ _ (fun r k => ?_) (fun a k => ?_) (fun k => ?_) (fun k => ?_) a r
  · rw [← V_main_arg0 m c]
    exact congrArg (V m c main_arg0) (by blk_ext [i0])
  · rw [← V_main_arg1 m c]
    exact congrArg (V m c main_arg1) (by blk_ext [i1])
  · rw [← V_g m c 0 0 k]
    exact congrArg (V m c main_v0) (by blk_ext [i2])
  · rw [← V_b m c 0 0 k]
    exact congrArg (V m c main_v1) (by blk_ext [i3])

/-- The first result array after the run. -/
theorem final4 (c : Dev nD) : (dats m 0 c).arrAt 4 cfg0.N
    = GQ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ (y : S6x256x4096.Idx) => ?_
  blk_simp
  rw [after0_4]
  obtain ⟨i0, i1, i2, i3, i4, i5⟩ := idx t
  have ey : (win0_4.blk t).view.emb y = (ix3 (y 0) (y 1) (y 2) : S6x256x4096.Idx) := by
    blk_ext [i4]
  refine Eq.trans ?_ (congrArg (GQ _ _ _ _) ey.symm)
  rw [show y = (ix3 (y 0) (y 1) (y 2) : S6x256x4096.Idx) from eq_ix3 y]
  refine (out4_at _ _ _ _ _ _ _).trans ?_
  exact congrArg (fun z => code z (y 2)) (zR_eq m c t (y 0) (y 1))

/-- The second result array after the run. -/
theorem final5 (c : Dev nD) : (dats m 0 c).arrAt 5 cfg0.N
    = GS (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ (y : S6x256.Idx) => ?_
  blk_simp
  rw [after0_5]
  obtain ⟨i0, i1, i2, i3, i4, i5⟩ := idx t
  have ey : (win0_5.blk t).view.emb y = (ix2 (y 0) (y 1) : S6x256.Idx) := by
    blk_ext [i5]
  refine Eq.trans ?_ (congrArg (GS _ _ _ _) ey.symm)
  rw [show y = (ix2 (y 0) (y 1) : S6x256.Idx) from eq_ix2 y]
  refine (out5_at _ _ _ _ _ _).trans ?_
  exact congrArg sc (zR_eq m c t (y 0) (y 1))

end Cert.ReferenceGrnIdeal.Val
end
-- ==== Proof.lean ====
module

public import proofs.«01_k».proof.Defs
public import proofs.«01_k».proof.Proof.Gen.KernelUp
public import proofs.«01_k».proof.Proof.Gen.KernelUp.Skeleton
public import proofs.«01_k».proof.Proof.Gen.KernelUp.Loops
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Loops
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceUpIdeal.Skeleton
public import proofs.«01_k».proof.Proof.Gen.ReferenceUpIdeal.Launch
public import proofs.«01_k».proof.Proof.Gen.ReferenceUpIdeal.Points
public import proofs.«01_k».proof.Proof.Gen.ReferenceUpIdeal.Frame
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.KernelLnIdeal.Value
public import proofs.«01_k».proof.Proof.Gen.KernelGrnIdeal.Value
public import proofs.«01_k».proof.Proof.Gen.KernelLn.Frame
public import proofs.«01_k».proof.Proof.Gen.KernelLnIdeal.Frame
public import proofs.«01_k».proof.Proof.Gen.ReferenceLnIdeal.Frame
public import proofs.«01_k».proof.Proof.Gen.KernelGrn.Frame
public import proofs.«01_k».proof.Proof.Gen.KernelGrnIdeal.Frame
public import proofs.«01_k».proof.Proof.Gen.ReferenceGrnIdeal.Frame
public import proofs.«01_k».proof.Proof.Kernel
public import proofs.«01_k».proof.Proof.Reference
public import proofs.«01_k».proof.Proof.KernelUp
public import proofs.«01_k».proof.Proof.ReferenceUp
public import proofs.«01_k».proof.Proof.Gen.KernelIdeal.Value
public import proofs.«01_k».proof.Proof.Gen.ReferenceIdeal.Value
public import proofs.«01_k».proof.Proof.Gen.KernelUpIdeal.Value
public import proofs.«01_k».proof.Proof.Gen.ReferenceUpIdeal.Value
public import proofs.«01_k».proof.Proof.KernelLn
public import proofs.«01_k».proof.Proof.ReferenceLn
public import proofs.«01_k».proof.Proof.KernelGrn
public import proofs.«01_k».proof.Proof.ReferenceGrn

@[expose] public section

noncomputable section

namespace Cert.Proof

open Idealize.ShloMosaic Idealize.SL.Sem Cert.KernelUp

/-- From equal arguments, the kernel and the reference of the last phase end with equal results. -/
theorem algebraic : Cert.algebraic_KernelIdeal_ReferenceIdeal := by
  pair_intro
  · run_from Cert.KernelIdeal.Value.run_blocks m g
  · run_from Cert.ReferenceIdeal.Value.run_blocks m' g'
    obtain ⟨a0, a1, a2, a3, a4, a5⟩ := hagree c
    rw [Cert.ReferenceIdeal.Val.final, Cert.KernelIdeal.Val.final, a0, a1, a2, a3, a4, a5]
    rfl

/-- From equal arguments, the kernel and the reference of the first matrix multiply end with equal results. -/
theorem algebraicUp : Cert.algebraic_KernelUpIdeal_ReferenceUpIdeal := by
  pair_intro
  · run_from Cert.KernelUpIdeal.Value.run_blocks m g
  · run_from Cert.ReferenceUpIdeal.Value.run_blocks m' g'
    · obtain ⟨a0, a1, a2, a3, a4⟩ := hagree c
      rw [Cert.ReferenceUpIdeal.Val.final5, Cert.KernelUpIdeal.Val.final5, a0, a1, a2, a3, a4]
    · obtain ⟨a0, a1, a2, a3, a4⟩ := hagree c
      rw [Cert.ReferenceUpIdeal.Val.final6, Cert.KernelUpIdeal.Val.final6, a0, a1, a2, a3, a4]

/-- From equal arguments, the kernel and the reference of the layer norm and its quantiser end with equal results. -/
theorem algebraicLn : Cert.algebraic_KernelLnIdeal_ReferenceLnIdeal := by
  pair_intro
  · run_from Cert.KernelLnIdeal.Value.run_blocks m g
  · run_from Cert.ReferenceLnIdeal.Val.run_blocks m' g'
    · obtain ⟨a0, a1, a2⟩ := hagree c
      rw [Cert.ReferenceLnIdeal.Val.final3, Cert.KernelLnIdeal.Val.final3, a0, a1, a2]
    · obtain ⟨a0, a1, a2⟩ := hagree c
      rw [Cert.ReferenceLnIdeal.Val.final4, Cert.KernelLnIdeal.Val.final4, a0, a1, a2]

/-- From equal arguments, the kernel and the reference of the global response normalisation and its quantiser end with equal results. -/
theorem algebraicGrn : Cert.algebraic_KernelGrnIdeal_ReferenceGrnIdeal := by
  pair_intro
  · run_from Cert.KernelGrnIdeal.Value.run_blocks m g
  · run_from Cert.ReferenceGrnIdeal.Val.run_blocks m' g'
    · obtain ⟨a0, a1, a2, a3⟩ := hagree c
      rw [Cert.ReferenceGrnIdeal.Val.final4, Cert.KernelGrnIdeal.Val.final4, a0, a1, a2, a3]
    · obtain ⟨a0, a1, a2, a3⟩ := hagree c
      rw [Cert.ReferenceGrnIdeal.Val.final5, Cert.KernelGrnIdeal.Val.final5, a0, a1, a2, a3]

theorem claim : Cert.Claim := ⟨Cert.KernelLn.Gen.facts, Cert.KernelLnIdeal.Gen.facts, Cert.ReferenceLnIdeal.Gen.facts, Cert.KernelUp.Gen.facts, Cert.KernelUpIdeal.Gen.facts, Cert.ReferenceUpIdeal.Gen.facts, Cert.KernelGrn.Gen.facts, Cert.KernelGrnIdeal.Gen.facts, Cert.ReferenceGrnIdeal.Gen.facts, Cert.Kernel.Gen.facts, Cert.KernelIdeal.Gen.facts, Cert.ReferenceIdeal.Gen.facts,
  fun m ρ _ => Cert.KernelLn.Gen.frame m ρ,
  fun m ρ _ => Cert.KernelLnIdeal.Gen.frame m ρ,
  fun m ρ _ => Cert.ReferenceLnIdeal.Gen.frame m ρ,
  fun m ρ _ => Cert.KernelUp.Gen.frame m ρ,
  fun m ρ _ => Cert.KernelUpIdeal.Gen.frame m ρ,
  fun m ρ _ => Cert.ReferenceUpIdeal.Gen.frame m ρ,
  fun m ρ _ => Cert.KernelGrn.Gen.frame m ρ,
  fun m ρ _ => Cert.KernelGrnIdeal.Gen.frame m ρ,
  fun m ρ _ => Cert.ReferenceGrnIdeal.Gen.frame m ρ,
  fun m ρ _ => Cert.Kernel.Gen.frame m ρ,
  fun m ρ _ => Cert.KernelIdeal.Gen.frame m ρ,
  fun m ρ _ => Cert.ReferenceIdeal.Gen.frame m ρ,
  trivial, algebraicLn,
  IdealRules.named_const.statement Cert.KernelUpIdeal.κ "sqrt_half" .f32 0x3F3504F3#32 ((Real.sqrt (1 / 2) : ℝ) : EReal) rfl, algebraicUp,
  IdealRules.named_const.statement Cert.KernelGrnIdeal.κ "sqrt_half" .f32 0x3F3504F3#32 ((Real.sqrt (1 / 2) : ℝ) : EReal) rfl, algebraicGrn,
  trivial, algebraic⟩

end Cert.Proof

end
